-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v162)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v162) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S16384x4096 : Shape := ⟨2, ![16384, 4096]⟩
abbrev S16384x8 : Shape := ⟨2, ![16384, 8]⟩
abbrev S2x8x4096x1024 : Shape := ⟨4, ![2, 8, 4096, 1024]⟩
abbrev S16x4096x1024 : Shape := ⟨3, ![16, 4096, 1024]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S8 : Shape := ⟨1, ![8]⟩
abbrev S36864 : Shape := ⟨1, ![36864]⟩
abbrev S36864x1 : Shape := ⟨2, ![36864, 1]⟩
abbrev S36864x8 : Shape := ⟨2, ![36864, 8]⟩
abbrev S72 : Shape := ⟨1, ![72]⟩
abbrev S72x1 : Shape := ⟨2, ![72, 1]⟩
abbrev S72x8 : Shape := ⟨2, ![72, 8]⟩
abbrev S36864x4096 : Shape := ⟨2, ![36864, 4096]⟩
abbrev S36864x1024 : Shape := ⟨2, ![36864, 1024]⟩
abbrev S512x2048 : Shape := ⟨2, ![512, 2048]⟩
abbrev S1x2048x1024 : Shape := ⟨3, ![1, 2048, 1024]⟩
abbrev S1 : Shape := ⟨1, ![1]⟩
abbrev S512x1024 : Shape := ⟨2, ![512, 1024]⟩
abbrev S2048x1024 : Shape := ⟨2, ![2048, 1024]⟩
abbrev S16384x2x1 : Shape := ⟨3, ![16384, 2, 1]⟩
abbrev S16384x2x1024 : Shape := ⟨3, ![16384, 2, 1024]⟩

abbrev nBuf : Space → Nat
  | .hbm => 246
  | .vmem => 10
  | .smem => 1
  | _ => 0

abbrev hbmTy0_0 (i : Nat) : BufTy := match i % 128 with
  | 0 => ⟨S16384x4096, .f32⟩
  | 1 => ⟨S16384x8, .f32⟩
  | 2 => ⟨S2x8x4096x1024, .f32⟩
  | 3 => ⟨S2x8x4096x1024, .f32⟩
  | 4 => ⟨S2x8x4096x1024, .bf16⟩
  | 5 => ⟨S16x4096x1024, .bf16⟩
  | 6 => ⟨S2x8x4096x1024, .bf16⟩
  | 7 => ⟨S16x4096x1024, .bf16⟩
  | 8 => ⟨S16384x4096, .bf16⟩
  | 9 => ⟨S16384x2, .f32⟩
  | 10 => ⟨S16384x2, .i32⟩
  | 11 => ⟨S_, .f32⟩
  | 12 => ⟨S16384, .f32⟩
  | 13 => ⟨S_, .f32⟩
  | 14 => ⟨S16384, .f32⟩
  | 15 => ⟨S16384, .f32⟩
  | 16 => ⟨S16384x1, .f32⟩
  | 17 => ⟨S16384x2, .f32⟩
  | 18 => ⟨S16384x2, .f32⟩
  | 19 => ⟨S16384x2, .f32⟩
  | 20 => ⟨S_, .f32⟩
  | 21 => ⟨S16384, .f32⟩
  | 22 => ⟨S16384x1, .f32⟩
  | 23 => ⟨S16384x2, .f32⟩
  | 24 => ⟨S16384x2, .f32⟩
  | 25 => ⟨S32768, .i32⟩
  | 26 => ⟨S32768, .i32⟩
  | 27 => ⟨S32768, .i32⟩
  | 28 => ⟨S32768, .i32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S32768, .i32⟩
  | 38 => ⟨S32768x1, .i32⟩
  | 39 => ⟨S1x8, .i32⟩
  | 40 => ⟨S32768x8, .i32⟩
  | 41 => ⟨S32768x8, .i32⟩
  | 42 => ⟨S32768x8, .i1⟩
  | 43 => ⟨S32768x8, .i32⟩
  | 44 => ⟨S_, .i32⟩
  | 45 => ⟨S8, .i32⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S8, .i32⟩
  | 61 => ⟨S8, .i32⟩
  | 62 => ⟨S_, .i32⟩
  | 63 => ⟨S8, .i32⟩
  | 64 => ⟨S8, .i1⟩
  | 65 => ⟨S8, .i1⟩
  | 66 => ⟨S_, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S_, .i32⟩
  | 75 => ⟨S8, .i32⟩
  | 76 => ⟨S8, .i32⟩
  | 77 => ⟨S_, .i32⟩
  | 78 => ⟨S_, .i32⟩
  | 79 => ⟨S8, .i32⟩
  | 80 => ⟨S8, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i32⟩
  | 87 => ⟨S32768, .i32⟩
  | 88 => ⟨S32768x1, .i32⟩
  | 89 => ⟨S32768, .i32⟩
  | 90 => ⟨S32768, .i32⟩
  | 91 => ⟨S32768, .i32⟩
  | 92 => ⟨S_, .i32⟩
  | 93 => ⟨S32768, .i32⟩
  | 94 => ⟨S32768, .i1⟩
  | 95 => ⟨S_, .i32⟩
  | 96 => ⟨S32768, .i32⟩
  | 97 => ⟨S32768, .i32⟩
  | 98 => ⟨S32768, .i32⟩
  | 99 => ⟨S32768x1, .i32⟩
  | 100 => ⟨S32768, .i32⟩
  | 101 => ⟨S32768, .i32⟩
  | 102 => ⟨S36864, .i32⟩
  | 103 => ⟨S36864x1, .i32⟩
  | 104 => ⟨S1x8, .i32⟩
  | 105 => ⟨S36864x8, .i32⟩
  | 106 => ⟨S36864x8, .i32⟩
  | 107 => ⟨S36864x8, .i1⟩
  | 108 => ⟨S36864x8, .i32⟩
  | 109 => ⟨S_, .i32⟩
  | 110 => ⟨S36864, .i32⟩
  | 111 => ⟨S_, .i32⟩
  | 112 => ⟨S36864, .i32⟩
  | 113 => ⟨S36864, .i32⟩
  | 114 => ⟨S_, .i32⟩
  | 115 => ⟨S36864, .i32⟩
  | 116 => ⟨S36864, .i1⟩
  | 117 => ⟨S_, .i32⟩
  | 118 => ⟨S36864, .i32⟩
  | 119 => ⟨S36864, .i32⟩
  | 120 => ⟨S36864, .i32⟩
  | 121 => ⟨S36864x1, .i32⟩
  | 122 => ⟨S36864, .i32⟩
  | 123 => ⟨S36864, .i32⟩
  | 124 => ⟨S_, .i32⟩
  | 125 => ⟨S36864, .i32⟩
  | 126 => ⟨S36864, .i1⟩
  | 127 => ⟨S_, .i32⟩
  | _ => ⟨S16384x4096, .f32⟩

abbrev hbmTy0_1 (i : Nat) : BufTy := match i % 128 with
  | 0 => ⟨S36864, .i32⟩
  | 1 => ⟨S36864, .i32⟩
  | 2 => ⟨S36864, .i32⟩
  | 3 => ⟨S36864x1, .i32⟩
  | 4 => ⟨S36864, .i32⟩
  | 5 => ⟨S36864, .i1⟩
  | 6 => ⟨S_, .i32⟩
  | 7 => ⟨S36864, .i32⟩
  | 8 => ⟨S36864, .i1⟩
  | 9 => ⟨S_, .i32⟩
  | 10 => ⟨S36864, .i32⟩
  | 11 => ⟨S36864, .i32⟩
  | 12 => ⟨S36864, .i32⟩
  | 13 => ⟨S36864x1, .i32⟩
  | 14 => ⟨S36864, .i32⟩
  | 15 => ⟨S36864, .i32⟩
  | 16 => ⟨S_, .i32⟩
  | 17 => ⟨S_, .i32⟩
  | 18 => ⟨S_, .i32⟩
  | 19 => ⟨S36864, .i32⟩
  | 20 => ⟨S36864, .i32⟩
  | 21 => ⟨S_, .i32⟩
  | 22 => ⟨S36864, .i32⟩
  | 23 => ⟨S36864, .i32⟩
  | 24 => ⟨S_, .i32⟩
  | 25 => ⟨S36864, .i32⟩
  | 26 => ⟨S36864, .i1⟩
  | 27 => ⟨S_, .i32⟩
  | 28 => ⟨S36864, .i32⟩
  | 29 => ⟨S36864, .i32⟩
  | 30 => ⟨S36864, .i32⟩
  | 31 => ⟨S36864x1, .i32⟩
  | 32 => ⟨S36864, .i32⟩
  | 33 => ⟨S_, .i32⟩
  | 34 => ⟨S_, .i32⟩
  | 35 => ⟨S36864, .i32⟩
  | 36 => ⟨S36864, .i32⟩
  | 37 => ⟨S36864, .i32⟩
  | 38 => ⟨S_, .i32⟩
  | 39 => ⟨S36864, .i32⟩
  | 40 => ⟨S36864, .i1⟩
  | 41 => ⟨S36864, .i32⟩
  | 42 => ⟨S36864, .i32⟩
  | 43 => ⟨S_, .i32⟩
  | 44 => ⟨S36864, .i32⟩
  | 45 => ⟨S36864, .i1⟩
  | 46 => ⟨S36864, .i1⟩
  | 47 => ⟨S_, .i32⟩
  | 48 => ⟨S36864, .i32⟩
  | 49 => ⟨S36864, .i32⟩
  | 50 => ⟨S36864, .i32⟩
  | 51 => ⟨S_, .i32⟩
  | 52 => ⟨S_, .i32⟩
  | 53 => ⟨S36864, .i32⟩
  | 54 => ⟨S36864, .i32⟩
  | 55 => ⟨S32768, .f32⟩
  | 56 => ⟨S_, .i32⟩
  | 57 => ⟨S36864, .i32⟩
  | 58 => ⟨S36864, .i1⟩
  | 59 => ⟨S_, .i32⟩
  | 60 => ⟨S36864, .i32⟩
  | 61 => ⟨S36864, .i32⟩
  | 62 => ⟨S36864, .i32⟩
  | 63 => ⟨S36864x1, .i32⟩
  | 64 => ⟨S36864, .f32⟩
  | 65 => ⟨S_, .f32⟩
  | 66 => ⟨S_, .f32⟩
  | 67 => ⟨S36864, .f32⟩
  | 68 => ⟨S36864, .f32⟩
  | 69 => ⟨S72, .i32⟩
  | 70 => ⟨S_, .i32⟩
  | 71 => ⟨S72, .i32⟩
  | 72 => ⟨S72, .i32⟩
  | 73 => ⟨S72x1, .i32⟩
  | 74 => ⟨S1x8, .i32⟩
  | 75 => ⟨S72x8, .i32⟩
  | 76 => ⟨S72x8, .i32⟩
  | 77 => ⟨S72x8, .i1⟩
  | 78 => ⟨S72x8, .i32⟩
  | 79 => ⟨S_, .i32⟩
  | 80 => ⟨S72, .i32⟩
  | 81 => ⟨S_, .i32⟩
  | 82 => ⟨S72, .i32⟩
  | 83 => ⟨S72, .i32⟩
  | 84 => ⟨S32768, .i32⟩
  | 85 => ⟨S32768, .i32⟩
  | 86 => ⟨S32768, .i32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S32768, .i32⟩
  | 96 => ⟨S16384x2, .i32⟩
  | 97 => ⟨S_, .i32⟩
  | 98 => ⟨S36864, .i32⟩
  | 99 => ⟨S36864, .i1⟩
  | 100 => ⟨S_, .i32⟩
  | 101 => ⟨S36864, .i32⟩
  | 102 => ⟨S36864, .i32⟩
  | 103 => ⟨S36864, .i32⟩
  | 104 => ⟨S36864x1, .i32⟩
  | 105 => ⟨S36864x4096, .bf16⟩
  | 106 => ⟨S_, .i32⟩
  | 107 => ⟨S72, .i32⟩
  | 108 => ⟨S36864x1024, .bf16⟩
  | 109 => ⟨S_, .i32⟩
  | 110 => ⟨S16384x2, .i32⟩
  | 111 => ⟨S16384x2, .i1⟩
  | 112 => ⟨S_, .i32⟩
  | 113 => ⟨S16384x2, .i32⟩
  | 114 => ⟨S16384x2, .i32⟩
  | 115 => ⟨S16384x2, .i32⟩
  | 116 => ⟨S16384x2x1, .i32⟩
  | 117 => ⟨S16384x2x1024, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .smem, ⟨0, _⟩ => ⟨S72, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1_0 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v31 : Ref sig .tc := ⟨.hbm, 69, rfl⟩
abbrev main_c_7 : Ref sig .tc := ⟨.hbm, 70, rfl⟩
abbrev main_v32 : Ref sig .tc := ⟨.hbm, 71, rfl⟩
abbrev main_v33 : Ref sig .tc := ⟨.hbm, 72, rfl⟩
abbrev main_call3_call0_c : Ref sig .tc := ⟨.hbm, 73, rfl⟩
abbrev main_call3_call0_v0 : Ref sig .tc := ⟨.hbm, 74, rfl⟩
abbrev main_v34 : Ref sig .tc := ⟨.hbm, 75, rfl⟩
abbrev main_v35 : Ref sig .tc := ⟨.hbm, 76, rfl⟩
abbrev main_call4_call0_c : Ref sig .tc := ⟨.hbm, 77, rfl⟩
abbrev main_call4_call0_v0 : Ref sig .tc := ⟨.hbm, 78, rfl⟩
abbrev main_v36 : Ref sig .tc := ⟨.hbm, 79, rfl⟩
abbrev main_v37 : Ref sig .tc := ⟨.hbm, 80, rfl⟩
abbrev main_c_8 : Ref sig .tc := ⟨.hbm, 81, rfl⟩
abbrev main_v38 : Ref sig .tc := ⟨.hbm, 82, rfl⟩
abbrev main_v39 : Ref sig .tc := ⟨.hbm, 83, rfl⟩
abbrev main_c_9 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_10 : Ref sig .tc := ⟨.hbm, 92, rfl⟩
abbrev main_v47 : Ref sig .tc := ⟨.hbm, 93, rfl⟩
abbrev main_v48 : Ref sig .tc := ⟨.hbm, 94, rfl⟩
abbrev main_c_11 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_12 : Ref sig .tc := ⟨.hbm, 109, rfl⟩
abbrev main_v62 : Ref sig .tc := ⟨.hbm, 110, rfl⟩
abbrev main_c_13 : Ref sig .tc := ⟨.hbm, 111, rfl⟩
abbrev main_v63 : Ref sig .tc := ⟨.hbm, 112, rfl⟩
abbrev main_v64 : Ref sig .tc := ⟨.hbm, 113, rfl⟩
abbrev main_c_14 : Ref sig .tc := ⟨.hbm, 114, rfl⟩
abbrev main_v65 : Ref sig .tc := ⟨.hbm, 115, rfl⟩
abbrev main_v66 : Ref sig .tc := ⟨.hbm, 116, rfl⟩
abbrev main_c_15 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_16 : Ref sig .tc := ⟨.hbm, 124, rfl⟩
abbrev main_v73 : Ref sig .tc := ⟨.hbm, 125, rfl⟩
abbrev main_v74 : Ref sig .tc := ⟨.hbm, 126, rfl⟩
abbrev main_c_17 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_18 : Ref sig .tc := ⟨.hbm, 134, rfl⟩
abbrev main_v81 : Ref sig .tc := ⟨.hbm, 135, rfl⟩
abbrev main_v82 : Ref sig .tc := ⟨.hbm, 136, rfl⟩
abbrev main_c_19 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_c_20 : Ref sig .tc := ⟨.hbm, 144, rfl⟩
abbrev main_c_21 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v89 : Ref sig .tc := ⟨.hbm, 151, rfl⟩
abbrev main_c_22 : Ref sig .tc := ⟨.hbm, 152, rfl⟩
abbrev main_v90 : Ref sig .tc := ⟨.hbm, 153, rfl⟩
abbrev main_v91 : Ref sig .tc := ⟨.hbm, 154, rfl⟩
abbrev main_c_23 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_c_24 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_c : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_0 : Ref sig .tc := ⟨.hbm, 175, rfl⟩
abbrev main_call6_v12 : Ref sig .tc := ⟨.hbm, 176, rfl⟩
abbrev main_call6_v13 : Ref sig .tc := ⟨.hbm, 177, rfl⟩
abbrev main_v97 : Ref sig .tc := ⟨.hbm, 178, rfl⟩
abbrev main_c_25 : Ref sig .tc := ⟨.hbm, 179, rfl⟩
abbrev main_call7_v0 : Ref sig .tc := ⟨.hbm, 180, rfl⟩
abbrev main_call7_v1 : Ref sig .tc := ⟨.hbm, 181, rfl⟩
abbrev main_v98 : Ref sig .tc := ⟨.hbm, 182, rfl⟩
abbrev main_v99 : Ref sig .tc := ⟨.hbm, 183, rfl⟩
abbrev main_c_26 : Ref sig .tc := ⟨.hbm, 184, rfl⟩
abbrev main_v100 : Ref sig .tc := ⟨.hbm, 185, rfl⟩
abbrev main_v101 : Ref sig .tc := ⟨.hbm, 186, rfl⟩
abbrev main_c_27 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_28 : Ref sig .tc := ⟨.hbm, 193, rfl⟩
abbrev main_call8_v0 : Ref sig .tc := ⟨.hbm, 194, rfl⟩
abbrev main_call8_v1 : Ref sig .tc := ⟨.hbm, 195, rfl⟩
abbrev main_v107 : Ref sig .tc := ⟨.hbm, 196, rfl⟩
abbrev main_v108 : Ref sig .tc := ⟨.hbm, 197, rfl⟩
abbrev main_c_29 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_c_30 : Ref sig .tc := ⟨.hbm, 207, rfl⟩
abbrev main_v117 : Ref sig .tc := ⟨.hbm, 208, rfl⟩
abbrev main_c_31 : Ref sig .tc := ⟨.hbm, 209, rfl⟩
abbrev main_v118 : Ref sig .tc := ⟨.hbm, 210, rfl⟩
abbrev main_v119 : Ref sig .tc := ⟨.hbm, 211, rfl⟩
abbrev main_call9_v0 : Ref sig .tc := ⟨.hbm, 212, rfl⟩
abbrev main_call9_v1_0 : Ref sig .tc := ⟨.hbm, 213, rfl⟩
abbrev main_v120 : Ref sig .tc := ⟨.hbm, 214, rfl⟩
abbrev main_c_32 : Ref sig .tc := ⟨.hbm, 215, rfl⟩
abbrev main_v121 : Ref sig .tc := ⟨.hbm, 216, rfl⟩
abbrev main_v122 : Ref sig .tc := ⟨.hbm, 217, rfl⟩
abbrev main_c_33 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_c_34 : Ref sig .tc := ⟨.hbm, 225, rfl⟩
abbrev main_v129 : Ref sig .tc := ⟨.hbm, 226, rfl⟩
abbrev main_v130 : Ref sig .tc := ⟨.hbm, 227, rfl⟩
abbrev main_c_35 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_c_36 : Ref sig .tc := ⟨.hbm, 234, rfl⟩
abbrev main_v136 : Ref sig .tc := ⟨.hbm, 235, rfl⟩
abbrev main_v138 : Ref sig .tc := ⟨.hbm, 236, rfl⟩
abbrev main_c_37 : Ref sig .tc := ⟨.hbm, 237, rfl⟩
abbrev main_v139 : Ref sig .tc := ⟨.hbm, 238, rfl⟩
abbrev main_v140 : Ref sig .tc := ⟨.hbm, 239, rfl⟩
abbrev main_c_38 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v137 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![72, 1, 2], ![false, false, false]⟩

abbrev pre0 : Pipeline.Prefetch sig := ⟨1, ![main_v137.idx], fun | 0 => main_v137.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S72) ![v0.toNat] S1.size (k0_off1_inb i)) numel1_S1
  let c0_i32 : BitVec 32 := 0#32
  ![v1.toNat, arg2.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S72) ![v0.toNat] S1.size (k0_off1_inb i)) numel1_S1
  let c0_i32 : BitVec 32 := 0#32
  ![v1.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S16384x4096 : Shape := ⟨2, ![16384, 4096]⟩
abbrev S16384x8 : Shape := ⟨2, ![16384, 8]⟩
abbrev S2x8x4096x1024 : Shape := ⟨4, ![2, 8, 4096, 1024]⟩
abbrev S1x8x4096x1024 : Shape := ⟨4, ![1, 8, 4096, 1024]⟩
abbrev S8x4096x1024 : Shape := ⟨3, ![8, 4096, 1024]⟩
abbrev S16384x2 : Shape := ⟨2, ![16384, 2]⟩
abbrev S16384x8x1024 : Shape := ⟨3, ![16384, 8, 1024]⟩
abbrev S_ : Shape := ⟨0, ![]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x2x1024 : Shape := ⟨3, ![16384, 2, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x8, .f32⟩
  | .hbm, ⟨2, _⟩ => ⟨S2x8x4096x1024, .f32⟩
  | .hbm, ⟨3, _⟩ => ⟨S2x8x4096x1024, .f32⟩
  | .hbm, ⟨4, _⟩ => ⟨S1x8x4096x1024, .f32⟩
  | .hbm, ⟨5, _⟩ => ⟨S8x4096x1024, .f32⟩
  | .hbm, ⟨6, _⟩ => ⟨S1x8x4096x1024, .f32⟩
  | .hbm, ⟨7, _⟩ => ⟨S8x4096x1024, .f32⟩
  | .hbm, ⟨8, _⟩ => ⟨S16384x2, .f32⟩
  | .hbm, ⟨9, _⟩ => ⟨S16384x2, .i32⟩
  | .hbm, ⟨10, _⟩ => ⟨S16384x8x1024, .f32⟩
  | .hbm, ⟨11, _⟩ => ⟨S16384x8x1024, .f32⟩
  | .hbm, ⟨12, _⟩ => ⟨S16384x8x1024, .f32⟩
  | .hbm, ⟨13, _⟩ => ⟨S_, .f32⟩
  | .hbm, ⟨14, _⟩ => ⟨S16384x8x1024, .f32⟩
  | .hbm, ⟨15, _⟩ => ⟨S16384x8x1024, .f32⟩
  | .hbm, ⟨16, _⟩ => ⟨S_, .f32⟩
  | .hbm, ⟨17, _⟩ => ⟨S16384x8x1024, .f32⟩
  | .hbm, ⟨18, _⟩ => ⟨S16384x8x1024, .f32⟩
  | .hbm, ⟨19, _⟩ => ⟨S16384x8x1024, .f32⟩
  | .hbm, ⟨20, _⟩ => ⟨S16384x8x1024, .f32⟩
  | .hbm, ⟨21, _⟩ => ⟨S16384x8x1024, .f32⟩
  | .hbm, ⟨22, _⟩ => ⟨S16384x2x1, .i32⟩
  | .hbm, ⟨23, _⟩ => ⟨S1x1x8, .i32⟩
  | .hbm, ⟨24, _⟩ => ⟨S16384x2x8, .i32⟩
  | .hbm, ⟨25, _⟩ => ⟨S16384x2x8, .i32⟩
  | .hbm, ⟨26, _⟩ => ⟨S16384x2x8, .i1⟩
  | .hbm, ⟨27, _⟩ => ⟨S16384x2x8, .f32⟩
  | .hbm, ⟨28, _⟩ => ⟨S16384x2x1024, .f32⟩
  | .hbm, ⟨29, _⟩ => ⟨S16384x2x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel2.lean ====
abbrev S16384x4096 : Shape := ⟨2, ![16384, 4096]⟩
abbrev S2x4096x8192 : Shape := ⟨3, ![2, 4096, 8192]⟩
abbrev S16384x8192 : Shape := ⟨2, ![16384, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S2x4096x8192, .f32⟩
  | .hbm, ⟨2, _⟩ => ⟨S2x4096x8192, .f32⟩
  | .hbm, ⟨3, _⟩ => ⟨S16384x4096, .bf16⟩
  | .hbm, ⟨4, _⟩ => ⟨S2x4096x8192, .bf16⟩
  | .hbm, ⟨5, _⟩ => ⟨S2x4096x8192, .bf16⟩
  | .hbm, ⟨6, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x4096 : Shape := ⟨2, ![16384, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S16384x8192 : Shape := ⟨2, ![16384, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096x8192, .f32⟩
  | .hbm, ⟨2, _⟩ => ⟨S2x4096x8192, .f32⟩
  | .hbm, ⟨3, _⟩ => ⟨S1x4096x8192, .f32⟩
  | .hbm, ⟨4, _⟩ => ⟨S4096x8192, .f32⟩
  | .hbm, ⟨5, _⟩ => ⟨S16384x8192, .f32⟩
  | .hbm, ⟨6, _⟩ => ⟨S16384x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S1x4096x8192, .f32⟩
  | .hbm, ⟨16, _⟩ => ⟨S4096x8192, .f32⟩
  | .hbm, ⟨17, _⟩ => ⟨S16384x8192, .f32⟩
  | .hbm, ⟨18, _⟩ => ⟨S16384x8192, .f32⟩
  | .hbm, ⟨19, _⟩ => ⟨S16384x8192, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel3.lean ====
abbrev S16384x8192 : Shape := ⟨2, ![16384, 8192]⟩
abbrev S2x8192x4096 : Shape := ⟨3, ![2, 8192, 4096]⟩
abbrev S2x1x4096 : Shape := ⟨3, ![2, 1, 4096]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x8192, .f32⟩
  | .hbm, ⟨1, _⟩ => ⟨S2x8192x4096, .f32⟩
  | .hbm, ⟨2, _⟩ => ⟨S2x8192x4096, .f32⟩
  | .hbm, ⟨3, _⟩ => ⟨S2x1x4096, .f32⟩
  | .hbm, ⟨4, _⟩ => ⟨S16384x8192, .bf16⟩
  | .hbm, ⟨5, _⟩ => ⟨S2x8192x4096, .bf16⟩
  | .hbm, ⟨6, _⟩ => ⟨S16384x4096, .f32⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S16384x8192 : Shape := ⟨2, ![16384, 8192]⟩
abbrev S2x8192x4096 : Shape := ⟨3, ![2, 8192, 4096]⟩
abbrev S2x1x4096 : Shape := ⟨3, ![2, 1, 4096]⟩
abbrev S1x8192x4096 : Shape := ⟨3, ![1, 8192, 4096]⟩
abbrev S8192x4096 : Shape := ⟨2, ![8192, 4096]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S2x8192x4096, .f32⟩
  | .hbm, ⟨2, _⟩ => ⟨S2x8192x4096, .f32⟩
  | .hbm, ⟨3, _⟩ => ⟨S2x1x4096, .f32⟩
  | .hbm, ⟨4, _⟩ => ⟨S1x8192x4096, .f32⟩
  | .hbm, ⟨5, _⟩ => ⟨S8192x4096, .f32⟩
  | .hbm, ⟨6, _⟩ => ⟨S16384x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S16384x4096, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S16384x256 : Shape := ⟨2, ![16384, 256]⟩
abbrev S4x2048x4096 : Shape := ⟨3, ![4, 2048, 4096]⟩
abbrev S4x1024x4096 : Shape := ⟨3, ![4, 1024, 4096]⟩
abbrev S4x256x12288 : Shape := ⟨3, ![4, 256, 12288]⟩
abbrev S4x12288 : Shape := ⟨2, ![4, 12288]⟩
abbrev S4x1x12288 : Shape := ⟨3, ![4, 1, 12288]⟩
abbrev S16384x4096 : Shape := ⟨2, ![16384, 4096]⟩
abbrev S1024x2048 : Shape := ⟨2, ![1024, 2048]⟩
abbrev S1024x1024 : Shape := ⟨2, ![1024, 1024]⟩
abbrev S1024x256 : Shape := ⟨2, ![1024, 256]⟩
abbrev S1x2048x512 : Shape := ⟨3, ![1, 2048, 512]⟩
abbrev S1x1024x512 : Shape := ⟨3, ![1, 1024, 512]⟩
abbrev S1x256x512 : Shape := ⟨3, ![1, 256, 512]⟩
abbrev S1x1x512 : Shape := ⟨3, ![1, 1, 512]⟩
abbrev S1024x512 : Shape := ⟨2, ![1024, 512]⟩
abbrev S256x512 : Shape := ⟨2, ![256, 512]⟩
abbrev S1x512 : Shape := ⟨2, ![1, 512]⟩
abbrev S2048x512 : Shape := ⟨2, ![2048, 512]⟩

abbrev nBuf : Space → Nat
  | .hbm => 19
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x256, .f32⟩
  | .hbm, ⟨4, _⟩ => ⟨S4x2048x4096, .f32⟩
  | .hbm, ⟨5, _⟩ => ⟨S4x1024x4096, .f32⟩
  | .hbm, ⟨6, _⟩ => ⟨S4x1024x4096, .f32⟩
  | .hbm, ⟨7, _⟩ => ⟨S4x256x12288, .f32⟩
  | .hbm, ⟨8, _⟩ => ⟨S4x12288, .f32⟩
  | .hbm, ⟨9, _⟩ => ⟨S16384x2048, .bf16⟩
  | .hbm, ⟨10, _⟩ => ⟨S16384x1024, .bf16⟩
  | .hbm, ⟨11, _⟩ => ⟨S16384x1024, .bf16⟩
  | .hbm, ⟨12, _⟩ => ⟨S16384x256, .bf16⟩
  | .hbm, ⟨13, _⟩ => ⟨S4x2048x4096, .bf16⟩
  | .hbm, ⟨14, _⟩ => ⟨S4x1024x4096, .bf16⟩
  | .hbm, ⟨15, _⟩ => ⟨S4x1024x4096, .bf16⟩
  | .hbm, ⟨16, _⟩ => ⟨S4x256x12288, .bf16⟩
  | .hbm, ⟨17, _⟩ => ⟨S4x1x12288, .f32⟩
  | .hbm, ⟨18, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .bf16⟩
  | .local _ .vmem, ⟨7, _⟩ => ⟨S1024x256, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1024x512, .bf16⟩
  | .local _ .vmem, ⟨27, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S16384x2048 : Shape := ⟨2, ![16384, 2048]⟩
abbrev S16384x1024 : Shape := ⟨2, ![16384, 1024]⟩
abbrev S16384x256 : Shape := ⟨2, ![16384, 256]⟩
abbrev S4x2048x4096 : Shape := ⟨3, ![4, 2048, 4096]⟩
abbrev S4x1024x4096 : Shape := ⟨3, ![4, 1024, 4096]⟩
abbrev S4x256x12288 : Shape := ⟨3, ![4, 256, 12288]⟩
abbrev S4x12288 : Shape := ⟨2, ![4, 12288]⟩
abbrev S1x256x12288 : Shape := ⟨3, ![1, 256, 12288]⟩
abbrev S256x12288 : Shape := ⟨2, ![256, 12288]⟩
abbrev S16384x12288 : Shape := ⟨2, ![16384, 12288]⟩
abbrev S1x12288 : Shape := ⟨2, ![1, 12288]⟩
abbrev S12288 : Shape := ⟨1, ![12288]⟩
abbrev S_ : Shape := ⟨0, ![]⟩
abbrev S16384x4096 : Shape := ⟨2, ![16384, 4096]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x256, .f32⟩
  | .hbm, ⟨4, _⟩ => ⟨S4x2048x4096, .f32⟩
  | .hbm, ⟨5, _⟩ => ⟨S4x1024x4096, .f32⟩
  | .hbm, ⟨6, _⟩ => ⟨S4x1024x4096, .f32⟩
  | .hbm, ⟨7, _⟩ => ⟨S4x256x12288, .f32⟩
  | .hbm, ⟨8, _⟩ => ⟨S4x12288, .f32⟩
  | .hbm, ⟨9, _⟩ => ⟨S1x256x12288, .f32⟩
  | .hbm, ⟨10, _⟩ => ⟨S256x12288, .f32⟩
  | .hbm, ⟨11, _⟩ => ⟨S16384x12288, .f32⟩
  | .hbm, ⟨12, _⟩ => ⟨S1x12288, .f32⟩
  | .hbm, ⟨13, _⟩ => ⟨S12288, .f32⟩
  | .hbm, ⟨14, _⟩ => ⟨S1x12288, .f32⟩
  | .hbm, ⟨15, _⟩ => ⟨S16384x12288, .f32⟩
  | .hbm, ⟨16, _⟩ => ⟨S16384x12288, .f32⟩
  | .hbm, ⟨17, _⟩ => ⟨S16384x12288, .f32⟩
  | .hbm, ⟨18, _⟩ => ⟨S16384x12288, .f32⟩
  | .hbm, ⟨19, _⟩ => ⟨S_, .f32⟩
  | .hbm, ⟨20, _⟩ => ⟨S16384x12288, .f32⟩
  | .hbm, ⟨21, _⟩ => ⟨S16384x12288, .f32⟩
  | .hbm, ⟨22, _⟩ => ⟨S_, .f32⟩
  | .hbm, ⟨23, _⟩ => ⟨S16384x12288, .f32⟩
  | .hbm, ⟨24, _⟩ => ⟨S16384x12288, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S1x2048x4096, .f32⟩
  | .hbm, ⟨29, _⟩ => ⟨S2048x4096, .f32⟩
  | .hbm, ⟨30, _⟩ => ⟨S16384x4096, .f32⟩
  | .hbm, ⟨31, _⟩ => ⟨S16384x4096, .f32⟩
  | .hbm, ⟨32, _⟩ => ⟨S1x1024x4096, .f32⟩
  | .hbm, ⟨33, _⟩ => ⟨S1024x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S1x1024x4096, .f32⟩
  | .hbm, ⟨38, _⟩ => ⟨S1024x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel5.lean ====
abbrev S16384x4096 : Shape := ⟨2, ![16384, 4096]⟩
abbrev S4x4096x4096 : Shape := ⟨3, ![4, 4096, 4096]⟩
abbrev S2x8192x4096 : Shape := ⟨3, ![2, 8192, 4096]⟩
abbrev S2x1x4096 : Shape := ⟨3, ![2, 1, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S2x8192x4096, .f32⟩
  | .hbm, ⟨3, _⟩ => ⟨S2x1x4096, .f32⟩
  | .hbm, ⟨4, _⟩ => ⟨S16384x4096, .bf16⟩
  | .hbm, ⟨5, _⟩ => ⟨S4x4096x4096, .bf16⟩
  | .hbm, ⟨6, _⟩ => ⟨S16384x4096, .f32⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S16384x4096 : Shape := ⟨2, ![16384, 4096]⟩
abbrev S4x4096x4096 : Shape := ⟨3, ![4, 4096, 4096]⟩
abbrev S2x8192x4096 : Shape := ⟨3, ![2, 8192, 4096]⟩
abbrev S2x1x4096 : Shape := ⟨3, ![2, 1, 4096]⟩
abbrev S1x4096x4096 : Shape := ⟨3, ![1, 4096, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S2x8192x4096, .f32⟩
  | .hbm, ⟨3, _⟩ => ⟨S2x1x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S16384x8192 : Shape := ⟨2, ![16384, 8192]⟩
abbrev S4x4096x10240 : Shape := ⟨3, ![4, 4096, 10240]⟩
abbrev S16384x6144 : Shape := ⟨2, ![16384, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x8192, .f32⟩
  | .hbm, ⟨1, _⟩ => ⟨S4x4096x10240, .f32⟩
  | .hbm, ⟨2, _⟩ => ⟨S16384x8192, .bf16⟩
  | .hbm, ⟨3, _⟩ => ⟨S4x4096x10240, .bf16⟩
  | .hbm, ⟨4, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x8192 : Shape := ⟨2, ![16384, 8192]⟩
abbrev S4x4096x10240 : Shape := ⟨3, ![4, 4096, 10240]⟩
abbrev S16384x4096 : Shape := ⟨2, ![16384, 4096]⟩
abbrev S1x4096x10240 : Shape := ⟨3, ![1, 4096, 10240]⟩
abbrev S4096x10240 : Shape := ⟨2, ![4096, 10240]⟩
abbrev S4096x6144 : Shape := ⟨2, ![4096, 6144]⟩
abbrev S16384x6144 : Shape := ⟨2, ![16384, 6144]⟩

abbrev nBuf : Space → Nat
  | .hbm => 8
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S4x4096x10240, .f32⟩
  | .hbm, ⟨2, _⟩ => ⟨S16384x4096, .f32⟩
  | .hbm, ⟨3, _⟩ => ⟨S1x4096x10240, .f32⟩
  | .hbm, ⟨4, _⟩ => ⟨S4096x10240, .f32⟩
  | .hbm, ⟨5, _⟩ => ⟨S4096x6144, .f32⟩
  | .hbm, ⟨6, _⟩ => ⟨S16384x6144, .f32⟩
  | .hbm, ⟨7, _⟩ => ⟨S16384x6144, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S16384x8192 : Shape := ⟨2, ![16384, 8192]⟩
abbrev S4x4096x10240 : Shape := ⟨3, ![4, 4096, 10240]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x8192, .f32⟩
  | .hbm, ⟨1, _⟩ => ⟨S4x4096x10240, .f32⟩
  | .hbm, ⟨2, _⟩ => ⟨S16384x8192, .bf16⟩
  | .hbm, ⟨3, _⟩ => ⟨S4x4096x10240, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x8192 : Shape := ⟨2, ![16384, 8192]⟩
abbrev S4x4096x10240 : Shape := ⟨3, ![4, 4096, 10240]⟩
abbrev S16384x4096 : Shape := ⟨2, ![16384, 4096]⟩
abbrev S1x4096x10240 : Shape := ⟨3, ![1, 4096, 10240]⟩
abbrev S4096x10240 : Shape := ⟨2, ![4096, 10240]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S4x4096x10240, .f32⟩
  | .hbm, ⟨2, _⟩ => ⟨S16384x4096, .f32⟩
  | .hbm, ⟨3, _⟩ => ⟨S1x4096x10240, .f32⟩
  | .hbm, ⟨4, _⟩ => ⟨S4096x10240, .f32⟩
  | .hbm, ⟨5, _⟩ => ⟨S4096x4096, .f32⟩
  | .hbm, ⟨6, _⟩ => ⟨S16384x4096, .f32⟩
  | .hbm, ⟨7, _⟩ => ⟨S16384x4096, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S2x8192x4096 : Shape := ⟨3, ![2, 8192, 4096]⟩
abbrev S4x4096 : Shape := ⟨2, ![4, 4096]⟩
abbrev S2x1x4096 : Shape := ⟨3, ![2, 1, 4096]⟩
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4x4096, .f32⟩
  | .hbm, ⟨2, _⟩ => ⟨S2x1x4096, .f32⟩
  | .hbm, ⟨3, _⟩ => ⟨S2x1x4096, .f32⟩
  | .hbm, ⟨4, _⟩ => ⟨S16384x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x8192x4096 : Shape := ⟨3, ![2, 8192, 4096]⟩
abbrev S4x4096 : Shape := ⟨2, ![4, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x4096 : Shape := ⟨2, ![1, 4096]⟩
abbrev S4096 : Shape := ⟨1, ![4096]⟩
abbrev S1x1x4096 : Shape := ⟨3, ![1, 1, 4096]⟩
abbrev S16384x4096 : Shape := ⟨2, ![16384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4x4096, .f32⟩
  | .hbm, ⟨2, _⟩ => ⟨S2x1x4096, .f32⟩
  | .hbm, ⟨3, _⟩ => ⟨S2x1x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S_, .f32⟩
  | .hbm, ⟨23, _⟩ => ⟨S2x1x4096, .f32⟩
  | .hbm, ⟨24, _⟩ => ⟨S2x1x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S16384x4096, .f32⟩
  | .hbm, ⟨30, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel9.lean ====
abbrev S16384x2x1024 : Shape := ⟨3, ![16384, 2, 1024]⟩
abbrev S16384x8 : Shape := ⟨2, ![16384, 8]⟩
abbrev S2x8x1024x4096 : Shape := ⟨4, ![2, 8, 1024, 4096]⟩
abbrev S16x1024x4096 : Shape := ⟨3, ![16, 1024, 4096]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S8 : Shape := ⟨1, ![8]⟩
abbrev S36864 : Shape := ⟨1, ![36864]⟩
abbrev S36864x1 : Shape := ⟨2, ![36864, 1]⟩
abbrev S36864x8 : Shape := ⟨2, ![36864, 8]⟩
abbrev S72 : Shape := ⟨1, ![72]⟩
abbrev S72x1 : Shape := ⟨2, ![72, 1]⟩
abbrev S72x8 : Shape := ⟨2, ![72, 8]⟩
abbrev S32768x1024 : Shape := ⟨2, ![32768, 1024]⟩
abbrev S36864x1024 : Shape := ⟨2, ![36864, 1024]⟩
abbrev S36864x128 : Shape := ⟨2, ![36864, 128]⟩
abbrev S36864x4096 : Shape := ⟨2, ![36864, 4096]⟩
abbrev S512x1024 : Shape := ⟨2, ![512, 1024]⟩
abbrev S1x1024x1024 : Shape := ⟨3, ![1, 1024, 1024]⟩
abbrev S1 : Shape := ⟨1, ![1]⟩
abbrev S512x128 : Shape := ⟨2, ![512, 128]⟩
abbrev S1024x1024 : Shape := ⟨2, ![1024, 1024]⟩
abbrev S16384x4096 : Shape := ⟨2, ![16384, 4096]⟩

abbrev nBuf : Space → Nat
  | .hbm => 265
  | .vmem => 8
  | .smem => 1
  | _ => 0

abbrev hbmTy0_0 (i : Nat) : BufTy := match i % 128 with
  | 0 => ⟨S16384x2x1024, .f32⟩
  | 1 => ⟨S16384x8, .f32⟩
  | 2 => ⟨S2x8x1024x4096, .f32⟩
  | 3 => ⟨S2x8x1024x4096, .bf16⟩
  | 4 => ⟨S16x1024x4096, .bf16⟩
  | 5 => ⟨S16384x2, .f32⟩
  | 6 => ⟨S16384x2, .i32⟩
  | 7 => ⟨S_, .f32⟩
  | 8 => ⟨S16384, .f32⟩
  | 9 => ⟨S_, .f32⟩
  | 10 => ⟨S16384, .f32⟩
  | 11 => ⟨S16384, .f32⟩
  | 12 => ⟨S16384x1, .f32⟩
  | 13 => ⟨S16384x2, .f32⟩
  | 14 => ⟨S16384x2, .f32⟩
  | 15 => ⟨S16384x2, .f32⟩
  | 16 => ⟨S_, .f32⟩
  | 17 => ⟨S16384, .f32⟩
  | 18 => ⟨S16384x1, .f32⟩
  | 19 => ⟨S16384x2, .f32⟩
  | 20 => ⟨S16384x2, .f32⟩
  | 21 => ⟨S32768, .i32⟩
  | 22 => ⟨S32768, .i32⟩
  | 23 => ⟨S32768, .i32⟩
  | 24 => ⟨S32768, .i32⟩
  | 25 => ⟨S_, .i32⟩
  | 26 => ⟨S32768, .i32⟩
  | 27 => ⟨S32768, .i1⟩
  | 28 => ⟨S_, .i32⟩
  | 29 => ⟨S32768, .i32⟩
  | 30 => ⟨S32768, .i32⟩
  | 31 => ⟨S32768, .i32⟩
  | 32 => ⟨S32768x1, .i32⟩
  | 33 => ⟨S32768, .i32⟩
  | 34 => ⟨S32768x1, .i32⟩
  | 35 => ⟨S1x8, .i32⟩
  | 36 => ⟨S32768x8, .i32⟩
  | 37 => ⟨S32768x8, .i32⟩
  | 38 => ⟨S32768x8, .i1⟩
  | 39 => ⟨S32768x8, .i32⟩
  | 40 => ⟨S_, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S8, .i32⟩
  | 53 => ⟨S_, .i32⟩
  | 54 => ⟨S8, .i32⟩
  | 55 => ⟨S8, .i1⟩
  | 56 => ⟨S8, .i32⟩
  | 57 => ⟨S8, .i32⟩
  | 58 => ⟨S_, .i32⟩
  | 59 => ⟨S8, .i32⟩
  | 60 => ⟨S8, .i1⟩
  | 61 => ⟨S8, .i1⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S_, .i32⟩
  | 71 => ⟨S8, .i32⟩
  | 72 => ⟨S8, .i32⟩
  | 73 => ⟨S_, .i32⟩
  | 74 => ⟨S_, .i32⟩
  | 75 => ⟨S8, .i32⟩
  | 76 => ⟨S8, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S32768, .i32⟩
  | 86 => ⟨S32768, .i32⟩
  | 87 => ⟨S32768, .i32⟩
  | 88 => ⟨S_, .i32⟩
  | 89 => ⟨S32768, .i32⟩
  | 90 => ⟨S32768, .i1⟩
  | 91 => ⟨S_, .i32⟩
  | 92 => ⟨S32768, .i32⟩
  | 93 => ⟨S32768, .i32⟩
  | 94 => ⟨S32768, .i32⟩
  | 95 => ⟨S32768x1, .i32⟩
  | 96 => ⟨S32768, .i32⟩
  | 97 => ⟨S32768, .i32⟩
  | 98 => ⟨S36864, .i32⟩
  | 99 => ⟨S36864x1, .i32⟩
  | 100 => ⟨S1x8, .i32⟩
  | 101 => ⟨S36864x8, .i32⟩
  | 102 => ⟨S36864x8, .i32⟩
  | 103 => ⟨S36864x8, .i1⟩
  | 104 => ⟨S36864x8, .i32⟩
  | 105 => ⟨S_, .i32⟩
  | 106 => ⟨S36864, .i32⟩
  | 107 => ⟨S_, .i32⟩
  | 108 => ⟨S36864, .i32⟩
  | 109 => ⟨S36864, .i32⟩
  | 110 => ⟨S_, .i32⟩
  | 111 => ⟨S36864, .i32⟩
  | 112 => ⟨S36864, .i1⟩
  | 113 => ⟨S_, .i32⟩
  | 114 => ⟨S36864, .i32⟩
  | 115 => ⟨S36864, .i32⟩
  | 116 => ⟨S36864, .i32⟩
  | 117 => ⟨S36864x1, .i32⟩
  | 118 => ⟨S36864, .i32⟩
  | 119 => ⟨S36864, .i32⟩
  | 120 => ⟨S_, .i32⟩
  | 121 => ⟨S36864, .i32⟩
  | 122 => ⟨S36864, .i1⟩
  | 123 => ⟨S_, .i32⟩
  | 124 => ⟨S36864, .i32⟩
  | 125 => ⟨S36864, .i32⟩
  | 126 => ⟨S36864, .i32⟩
  | 127 => ⟨S36864x1, .i32⟩
  | _ => ⟨S16384x2x1024, .f32⟩

abbrev hbmTy0_1 (i : Nat) : BufTy := match i % 128 with
  | 0 => ⟨S36864, .i32⟩
  | 1 => ⟨S36864, .i1⟩
  | 2 => ⟨S_, .i32⟩
  | 3 => ⟨S36864, .i32⟩
  | 4 => ⟨S36864, .i1⟩
  | 5 => ⟨S_, .i32⟩
  | 6 => ⟨S36864, .i32⟩
  | 7 => ⟨S36864, .i32⟩
  | 8 => ⟨S36864, .i32⟩
  | 9 => ⟨S36864x1, .i32⟩
  | 10 => ⟨S36864, .i32⟩
  | 11 => ⟨S36864, .i32⟩
  | 12 => ⟨S_, .i32⟩
  | 13 => ⟨S_, .i32⟩
  | 14 => ⟨S_, .i32⟩
  | 15 => ⟨S36864, .i32⟩
  | 16 => ⟨S36864, .i32⟩
  | 17 => ⟨S_, .i32⟩
  | 18 => ⟨S36864, .i32⟩
  | 19 => ⟨S36864, .i32⟩
  | 20 => ⟨S_, .i32⟩
  | 21 => ⟨S36864, .i32⟩
  | 22 => ⟨S36864, .i1⟩
  | 23 => ⟨S_, .i32⟩
  | 24 => ⟨S36864, .i32⟩
  | 25 => ⟨S36864, .i32⟩
  | 26 => ⟨S36864, .i32⟩
  | 27 => ⟨S36864x1, .i32⟩
  | 28 => ⟨S36864, .i32⟩
  | 29 => ⟨S_, .i32⟩
  | 30 => ⟨S_, .i32⟩
  | 31 => ⟨S36864, .i32⟩
  | 32 => ⟨S36864, .i32⟩
  | 33 => ⟨S36864, .i32⟩
  | 34 => ⟨S_, .i32⟩
  | 35 => ⟨S36864, .i32⟩
  | 36 => ⟨S36864, .i1⟩
  | 37 => ⟨S36864, .i32⟩
  | 38 => ⟨S36864, .i32⟩
  | 39 => ⟨S_, .i32⟩
  | 40 => ⟨S36864, .i32⟩
  | 41 => ⟨S36864, .i1⟩
  | 42 => ⟨S36864, .i1⟩
  | 43 => ⟨S_, .i32⟩
  | 44 => ⟨S36864, .i32⟩
  | 45 => ⟨S36864, .i32⟩
  | 46 => ⟨S36864, .i32⟩
  | 47 => ⟨S_, .i32⟩
  | 48 => ⟨S_, .i32⟩
  | 49 => ⟨S36864, .i32⟩
  | 50 => ⟨S36864, .i32⟩
  | 51 => ⟨S32768, .f32⟩
  | 52 => ⟨S_, .i32⟩
  | 53 => ⟨S36864, .i32⟩
  | 54 => ⟨S36864, .i1⟩
  | 55 => ⟨S_, .i32⟩
  | 56 => ⟨S36864, .i32⟩
  | 57 => ⟨S36864, .i32⟩
  | 58 => ⟨S36864, .i32⟩
  | 59 => ⟨S36864x1, .i32⟩
  | 60 => ⟨S36864, .f32⟩
  | 61 => ⟨S_, .f32⟩
  | 62 => ⟨S_, .f32⟩
  | 63 => ⟨S36864, .f32⟩
  | 64 => ⟨S36864, .f32⟩
  | 65 => ⟨S72, .i32⟩
  | 66 => ⟨S_, .i32⟩
  | 67 => ⟨S72, .i32⟩
  | 68 => ⟨S72, .i32⟩
  | 69 => ⟨S72x1, .i32⟩
  | 70 => ⟨S1x8, .i32⟩
  | 71 => ⟨S72x8, .i32⟩
  | 72 => ⟨S72x8, .i32⟩
  | 73 => ⟨S72x8, .i1⟩
  | 74 => ⟨S72x8, .i32⟩
  | 75 => ⟨S_, .i32⟩
  | 76 => ⟨S72, .i32⟩
  | 77 => ⟨S_, .i32⟩
  | 78 => ⟨S72, .i32⟩
  | 79 => ⟨S72, .i32⟩
  | 80 => ⟨S32768, .i32⟩
  | 81 => ⟨S32768, .i32⟩
  | 82 => ⟨S32768, .i32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S32768, .i32⟩
  | 92 => ⟨S16384x2, .i32⟩
  | 93 => ⟨S16384x2x1024, .bf16⟩
  | 94 => ⟨S32768x1024, .bf16⟩
  | 95 => ⟨S_, .i32⟩
  | 96 => ⟨S36864, .i32⟩
  | 97 => ⟨S36864, .i1⟩
  | 98 => ⟨S_, .i32⟩
  | 99 => ⟨S36864, .i32⟩
  | 100 => ⟨S36864, .i32⟩
  | 101 => ⟨S36864, .i32⟩
  | 102 => ⟨S36864x1, .i32⟩
  | 103 => ⟨S36864x1024, .bf16⟩
  | 104 => ⟨S_, .i32⟩
  | 105 => ⟨S72, .i32⟩
  | 106 => ⟨S36864x1, .f32⟩
  | 107 => ⟨S36864x128, .f32⟩
  | 108 => ⟨S36864x4096, .bf16⟩
  | 109 => ⟨S16384x1, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S16384x4096, .bf16⟩
  | 120 => ⟨S16384x4096, .f32⟩
  | 121 => ⟨S_, .f32⟩
  | 122 => ⟨S16384x4096, .f32⟩
  | 123 => ⟨S16384x4096, .f32⟩
  | 124 => ⟨S16384x1, .i32⟩
  | 125 => ⟨S16384, .i32⟩
  | 126 => ⟨S_, .i32⟩
  | 127 => ⟨S16384, .i32⟩
  | _ => ⟨S16384x2x1024, .f32⟩

abbrev hbmTy0_2 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S16384x1, .i32⟩
  | 6 => ⟨S16384x4096, .bf16⟩
  | 7 => ⟨S16384x4096, .f32⟩
  | 8 => ⟨S16384x4096, .f32⟩
  | _ => ⟨S16384x2x1024, .f32⟩

abbrev hbmTy (i : Nat) : BufTy := match i / 128 with
  | 0 => hbmTy0_0 i
  | 1 => hbmTy0_1 i
  | 2 => hbmTy0_2 i
  | _ => ⟨S16384x2x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .smem, ⟨0, _⟩ => ⟨S72, .i32⟩
  | _, _ => ⟨S16384x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1_0 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_call3_call0_c : Ref sig .tc := ⟨.hbm, 69, rfl⟩
abbrev main_call3_call0_v0 : Ref sig .tc := ⟨.hbm, 70, rfl⟩
abbrev main_v31 : Ref sig .tc := ⟨.hbm, 71, rfl⟩
abbrev main_v32 : Ref sig .tc := ⟨.hbm, 72, rfl⟩
abbrev main_call4_call0_c : Ref sig .tc := ⟨.hbm, 73, rfl⟩
abbrev main_call4_call0_v0 : Ref sig .tc := ⟨.hbm, 74, rfl⟩
abbrev main_v33 : Ref sig .tc := ⟨.hbm, 75, rfl⟩
abbrev main_v34 : Ref sig .tc := ⟨.hbm, 76, rfl⟩
abbrev main_c_8 : Ref sig .tc := ⟨.hbm, 77, rfl⟩
abbrev main_v35 : Ref sig .tc := ⟨.hbm, 78, rfl⟩
abbrev main_v36 : Ref sig .tc := ⟨.hbm, 79, rfl⟩
abbrev main_c_9 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_10 : Ref sig .tc := ⟨.hbm, 88, rfl⟩
abbrev main_v44 : Ref sig .tc := ⟨.hbm, 89, rfl⟩
abbrev main_v45 : Ref sig .tc := ⟨.hbm, 90, rfl⟩
abbrev main_c_11 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_12 : Ref sig .tc := ⟨.hbm, 105, rfl⟩
abbrev main_v59 : Ref sig .tc := ⟨.hbm, 106, rfl⟩
abbrev main_c_13 : Ref sig .tc := ⟨.hbm, 107, rfl⟩
abbrev main_v60 : Ref sig .tc := ⟨.hbm, 108, rfl⟩
abbrev main_v61 : Ref sig .tc := ⟨.hbm, 109, rfl⟩
abbrev main_c_14 : Ref sig .tc := ⟨.hbm, 110, rfl⟩
abbrev main_v62 : Ref sig .tc := ⟨.hbm, 111, rfl⟩
abbrev main_v63 : Ref sig .tc := ⟨.hbm, 112, rfl⟩
abbrev main_c_15 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_16 : Ref sig .tc := ⟨.hbm, 120, rfl⟩
abbrev main_v70 : Ref sig .tc := ⟨.hbm, 121, rfl⟩
abbrev main_v71 : Ref sig .tc := ⟨.hbm, 122, rfl⟩
abbrev main_c_17 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_18 : Ref sig .tc := ⟨.hbm, 130, rfl⟩
abbrev main_v78 : Ref sig .tc := ⟨.hbm, 131, rfl⟩
abbrev main_v79 : Ref sig .tc := ⟨.hbm, 132, rfl⟩
abbrev main_c_19 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_20 : Ref sig .tc := ⟨.hbm, 140, rfl⟩
abbrev main_c_21 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v86 : Ref sig .tc := ⟨.hbm, 147, rfl⟩
abbrev main_c_22 : Ref sig .tc := ⟨.hbm, 148, rfl⟩
abbrev main_v87 : Ref sig .tc := ⟨.hbm, 149, rfl⟩
abbrev main_v88 : Ref sig .tc := ⟨.hbm, 150, rfl⟩
abbrev main_c_23 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_c_24 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_call6_v5 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_c : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_c_0 : Ref sig .tc := ⟨.hbm, 171, rfl⟩
abbrev main_call6_v12 : Ref sig .tc := ⟨.hbm, 172, rfl⟩
abbrev main_call6_v13 : Ref sig .tc := ⟨.hbm, 173, rfl⟩
abbrev main_v94 : Ref sig .tc := ⟨.hbm, 174, rfl⟩
abbrev main_c_25 : Ref sig .tc := ⟨.hbm, 175, rfl⟩
abbrev main_call7_v0 : Ref sig .tc := ⟨.hbm, 176, rfl⟩
abbrev main_call7_v1 : Ref sig .tc := ⟨.hbm, 177, rfl⟩
abbrev main_v95 : Ref sig .tc := ⟨.hbm, 178, rfl⟩
abbrev main_v96 : Ref sig .tc := ⟨.hbm, 179, rfl⟩
abbrev main_c_26 : Ref sig .tc := ⟨.hbm, 180, rfl⟩
abbrev main_v97 : Ref sig .tc := ⟨.hbm, 181, rfl⟩
abbrev main_v98 : Ref sig .tc := ⟨.hbm, 182, rfl⟩
abbrev main_c_27 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_cst_28 : Ref sig .tc := ⟨.hbm, 189, rfl⟩
abbrev main_call8_v0 : Ref sig .tc := ⟨.hbm, 190, rfl⟩
abbrev main_call8_v1 : Ref sig .tc := ⟨.hbm, 191, rfl⟩
abbrev main_v104 : Ref sig .tc := ⟨.hbm, 192, rfl⟩
abbrev main_v105 : Ref sig .tc := ⟨.hbm, 193, rfl⟩
abbrev main_c_29 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_30 : Ref sig .tc := ⟨.hbm, 203, rfl⟩
abbrev main_v114 : Ref sig .tc := ⟨.hbm, 204, rfl⟩
abbrev main_c_31 : Ref sig .tc := ⟨.hbm, 205, rfl⟩
abbrev main_v115 : Ref sig .tc := ⟨.hbm, 206, rfl⟩
abbrev main_v116 : Ref sig .tc := ⟨.hbm, 207, rfl⟩
abbrev main_call9_v0 : Ref sig .tc := ⟨.hbm, 208, rfl⟩
abbrev main_call9_v1_0 : Ref sig .tc := ⟨.hbm, 209, rfl⟩
abbrev main_v117 : Ref sig .tc := ⟨.hbm, 210, rfl⟩
abbrev main_c_32 : Ref sig .tc := ⟨.hbm, 211, rfl⟩
abbrev main_v118 : Ref sig .tc := ⟨.hbm, 212, rfl⟩
abbrev main_v119 : Ref sig .tc := ⟨.hbm, 213, rfl⟩
abbrev main_c_33 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_c_34 : Ref sig .tc := ⟨.hbm, 223, rfl⟩
abbrev main_v128 : Ref sig .tc := ⟨.hbm, 224, rfl⟩
abbrev main_v129 : Ref sig .tc := ⟨.hbm, 225, rfl⟩
abbrev main_c_35 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_c_36 : Ref sig .tc := ⟨.hbm, 232, rfl⟩
abbrev main_v135 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_c_37 : Ref sig .tc := ⟨.hbm, 239, rfl⟩
abbrev main_v142 : Ref sig .tc := ⟨.hbm, 240, rfl⟩
abbrev main_v143 : Ref sig .tc := ⟨.hbm, 241, rfl⟩
abbrev main_c_38 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_cst_39 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_c_40 : Ref sig .tc := ⟨.hbm, 254, rfl⟩
abbrev main_v154 : Ref sig .tc := ⟨.hbm, 255, rfl⟩
abbrev main_v155 : Ref sig .tc := ⟨.hbm, 256, rfl⟩
abbrev main_c_41 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v136 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![72, 4], ![false, false]⟩

abbrev pre0 : Pipeline.Prefetch sig := ⟨1, ![main_v136.idx], fun | 0 => main_v136.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2x1024 : Shape := ⟨3, ![16384, 2, 1024]⟩
abbrev S16384x8 : Shape := ⟨2, ![16384, 8]⟩
abbrev S2x8x1024x4096 : Shape := ⟨4, ![2, 8, 1024, 4096]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x8x1024x4096 : Shape := ⟨4, ![1, 8, 1024, 4096]⟩
abbrev S8x1024x4096 : Shape := ⟨3, ![8, 1024, 4096]⟩
abbrev S16384x2x8x4096 : Shape := ⟨4, ![16384, 2, 8, 4096]⟩
abbrev S16384x2x4096 : Shape := ⟨3, ![16384, 2, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x2x1024, .f32⟩
  | .hbm, ⟨1, _⟩ => ⟨S16384x8, .f32⟩
  | .hbm, ⟨2, _⟩ => ⟨S2x8x1024x4096, .f32⟩
  | .hbm, ⟨3, _⟩ => ⟨S16384x2, .f32⟩
  | .hbm, ⟨4, _⟩ => ⟨S16384x2, .i32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x2, .f32⟩
  | .hbm, ⟨12, _⟩ => ⟨S16384x2, .f32⟩
  | .hbm, ⟨13, _⟩ => ⟨S16384x2, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x2, .f32⟩
  | .hbm, ⟨18, _⟩ => ⟨S16384x2, .f32⟩
  | .hbm, ⟨19, _⟩ => ⟨S16384x2x1, .i32⟩
  | .hbm, ⟨20, _⟩ => ⟨S1x1x8, .i32⟩
  | .hbm, ⟨21, _⟩ => ⟨S16384x2x8, .i32⟩
  | .hbm, ⟨22, _⟩ => ⟨S16384x2x8, .i32⟩
  | .hbm, ⟨23, _⟩ => ⟨S16384x2x8, .i1⟩
  | .hbm, ⟨24, _⟩ => ⟨S16384x2x8, .f32⟩
  | .hbm, ⟨25, _⟩ => ⟨S1x8x1024x4096, .f32⟩
  | .hbm, ⟨26, _⟩ => ⟨S8x1024x4096, .f32⟩
  | .hbm, ⟨27, _⟩ => ⟨S16384x2x8x4096, .f32⟩
  | .hbm, ⟨28, _⟩ => ⟨S16384x2x4096, .f32⟩
  | .hbm, ⟨29, _⟩ => ⟨S16384x2x1, .f32⟩
  | .hbm, ⟨30, _⟩ => ⟨S16384x2x4096, .f32⟩
  | .hbm, ⟨31, _⟩ => ⟨S16384x2x4096, .f32⟩
  | .hbm, ⟨32, _⟩ => ⟨S_, .f32⟩
  | .hbm, ⟨33, _⟩ => ⟨S16384x4096, .f32⟩
  | _, _ => ⟨S16384x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.DRouteDefs.lean ====
module

public import proofs.«01_k».proof.Defs
public import proofs.«01_k».proof.Proof.Gen.Kernel9Ideal
public import Idealize.ShloMosaic.Lib.Routing.Words
public import Idealize.ShloMosaic.Lib.Routing.OpsSet

@[expose] public section

set_option maxRecDepth 16384

noncomputable section

open Idealize.ShloMosaic Idealize.ShloMosaic.TcCoe

namespace Cert.Kernel9Ideal.Moe

open Cert.Kernel9Ideal Facts₀

/-- jnp's reading of an index word: a negative one counts from the end. -/
def wrap {s : Shape} (hb : S_.BroadcastsInDim s (![] : Fin 0 → Fin s.rank)) (n : BitVec 32) (x : IVec s 32) : IVec s 32 :=
  select (cmpi .slt x (broadcastInDim s ![] hb (constantI S_ 32 0#32))) (addi x (broadcastInDim s ![] hb (constantI S_ 32 n))) x

/-- A running sum of eight words. -/
def cums (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- An entry of an eight-word table for each of 32768 positions, or of 36864 rows. -/
def take8 (x : IVec S8 32) (i : IVec S32768 32) : IVec S32768 32 :=
  Host.gather gather_S8_S32768x1_S32768_n_0_n_n_0_1_1 x (broadcastInDim S32768x1 ![0] bcast_S32768_S32768x1_0 (wrap bcast_S_S32768 8#32 i))
def take8r (x : IVec S8 32) (i : IVec S36864 32) : IVec S36864 32 :=
  Host.gather gather_S8_S36864x1_S36864_n_0_n_n_0_1_1 x (broadcastInDim S36864x1 ![0] bcast_S36864_S36864x1_0 (wrap bcast_S_S36864 8#32 i))
def takeN (x : IVec S32768 32) (i : IVec S32768 32) : IVec S32768 32 :=
  Host.gather gather_S32768_S32768x1_S32768_n_0_n_n_0_1_1 x (broadcastInDim S32768x1 ![0] bcast_S32768_S32768x1_0 (wrap bcast_S_S32768 32768#32 i))
def takeNr {α : Type} (x : S32768.Idx → α) (i : IVec S36864 32) : S36864.Idx → α :=
  Host.gather gather_S32768_S36864x1_S36864_n_0_n_n_0_1_1 x (broadcastInDim S36864x1 ![0] bcast_S36864_S36864x1_0 (wrap bcast_S_S36864 32768#32 i))
/-- The positions in the order of their words. -/
def sortIdx (x : IVec S32768 32) : IVec S32768 32 := (Host.sort2 S32768 0 comparator_i32_i32_d0 x (iotaInDim S32768 32 0)).2

variable (fl : IVec S32768 32)

def ordT : IVec S32768 32 := sortIdx fl
def eS : IVec S32768 32 := takeN fl (ordT fl)
def cntT : IVec S8 32 :=
  Host.reduce IntOp.addi (extui 32 (cmpi .eq
    (broadcastInDim S32768x8 ![0, 1] bcast_S32768x1_S32768x8_0_1 (broadcastInDim S32768x1 ![0] bcast_S32768_S32768x1_0 fl))
    (broadcastInDim S32768x8 ![0, 1] bcast_S1x8_S32768x8_0_1 (iotaInDim S1x8 32 1))) natLt_1_32) (constantI S_ 32 0#32) reducesTo_S32768x8_S8_d0 h_S_
def padT : IVec S8 32 :=
  muli (Routing.pyDiv bcast_S_S8 (subi (addi (cntT fl) (broadcastInDim S8 ![] bcast_S_S8 (constantI S_ 32 512#32)))
    (broadcastInDim S8 ![] bcast_S_S8 (constantI S_ 32 1#32))) (constantI S_ 32 512#32)) (broadcastInDim S8 ![] bcast_S_S8 (constantI S_ 32 512#32))
def peT : IVec S8 32 := cums (padT fl)
def psT : IVec S8 32 := subi (peT fl) (padT fl)
def stT : IVec S8 32 := subi (cums (cntT fl)) (cntT fl)
def dstS : IVec S32768 32 := subi (addi (take8 (psT fl) (eS fl)) (iotaInDim S32768 32 0)) (take8 (stT fl) (eS fl))
def rowE : IVec S36864 32 :=
  minsi (Host.reduce IntOp.addi (extui 32 (cmpi .sge
    (broadcastInDim S36864x8 ![0, 1] bcast_S36864x1_S36864x8_0_1 (broadcastInDim S36864x1 ![0] bcast_S36864_S36864x1_0 (iotaInDim S36864 32 0)))
    (broadcastInDim S36864x8 ![0, 1] bcast_S1x8_S36864x8_0_1 (broadcastInDim S1x8 ![1] bcast_S8_S1x8_1 (peT fl)))) natLt_1_32)
    (constantI S_ 32 0#32) reducesTo_S36864x8_S36864_d1 h_S_) (broadcastInDim S36864 ![] bcast_S_S36864 (constantI S_ 32 7#32))
def within : IVec S36864 32 := subi (iotaInDim S36864 32 0) (take8r (psT fl) (rowE fl))
def validT : IVec S36864 1 := cmpi .slt (within fl) (take8r (cntT fl) (rowE fl))
def posT : IVec S36864 32 :=
  minsi (broadcastInDim S36864 ![] bcast_S_S36864 (constantI S_ 32 32767#32))
    (maxsi (broadcastInDim S36864 ![] bcast_S_S36864 (constantI S_ 32 0#32)) (addi (take8r (stT fl) (rowE fl)) (within fl)))
def tileE : IVec S72 32 :=
  minsi (Host.reduce IntOp.addi (extui 32 (cmpi .sge
    (broadcastInDim S72x8 ![0, 1] bcast_S72x1_S72x8_0_1 (broadcastInDim S72x1 ![0] bcast_S72_S72x1_0
      (muli (iotaInDim S72 32 0) (broadcastInDim S72 ![] bcast_S_S72 (constantI S_ 32 512#32)))))
    (broadcastInDim S72x8 ![0, 1] bcast_S1x8_S72x8_0_1 (broadcastInDim S1x8 ![1] bcast_S8_S1x8_1 (peT fl)))) natLt_1_32)
    (constantI S_ 32 0#32) reducesTo_S72x8_S72_d1 h_S_) (broadcastInDim S72 ![] bcast_S_S72 (constantI S_ 32 7#32))
def tableT : IVec S72 32 := addi (tileE fl) (broadcastInDim S72 ![] bcast_S_S72 (constantI S_ 32 8#32))
def destT : IVec S16384x2 32 := shapeCast S16384x2 (takeN (dstS fl) (sortIdx (ordT fl))) shapeCasts_S32768_S16384x2

/-- The chosen pair each row comes from. -/
def pairT : IVec S36864 32 := takeNr (ordT fl) (posT fl)

/-- The gathered rows. -/
def rowsT {α : Type} (h : S32768x1024.Idx → α) : S36864x1024.Idx → α :=
  Host.gather gather_S32768x1024_S36864x1_S36864x1024_1_0_n_n_0_1_11024 h
    (broadcastInDim S36864x1 ![0] bcast_S36864_S36864x1_0 (wrap bcast_S_S36864 32768#32 (pairT fl)))

/-- A row's gate on every lane: its pair's weight, or the given value where the row is padding. -/
def gateT {α : Type} (w : S16384x2.Idx → α) (z : S_.Idx → α) : S36864x128.Idx → α :=
  broadcastInDim S36864x128 ![0, 1] bcast_S36864x1_S36864x128_0_1 (broadcastInDim S36864x1 ![0] bcast_S36864_S36864x1_0
    (select (validT fl) (takeNr (shapeCast S32768 w shapeCasts_S16384x2_S32768) (pairT fl)) (broadcastInDim S36864 ![] bcast_S_S36864 z)))

/-- A token's row of the product at one of its two destinations. -/
def pick0 {α : Type} (o : S36864x4096.Idx → α) (d : IVec S16384x2 32) : S16384x4096.Idx → α :=
  Host.gather gather_S36864x4096_S16384x1_S16384x4096_1_0_n_n_0_1_14096 o (broadcastInDim S16384x1 ![0] bcast_S16384_S16384x1_0
    (wrap bcast_S_S16384 36864#32 (shapeCast S16384 (extractStridedSlice S16384x1 ![0, 0] d slices_S16384x2_S16384x1_0_0) shapeCasts_S16384x1_S16384)))
def pick1 {α : Type} (o : S36864x4096.Idx → α) (d : IVec S16384x2 32) : S16384x4096.Idx → α :=
  Host.gather gather_S36864x4096_S16384x1_S16384x4096_1_0_n_n_0_1_14096 o (broadcastInDim S16384x1 ![0] bcast_S16384_S16384x1_0
    (wrap bcast_S_S16384 36864#32 (shapeCast S16384 (extractStridedSlice S16384x1 ![0, 1] d slices_S16384x2_S16384x1_0_1) shapeCasts_S16384x1_S16384)))

/-- The two rows of every token added. -/
def backT {F : FTy → Type} [FloatOps F] (o : S36864x4096.Idx → F .bf16) (d : IVec S16384x2 32) : FVec F S16384x4096 .f32 :=
  addf (addf (broadcastInDim S16384x4096 ![] bcast_S_S16384x4096 (constant S_ .f32 0x00000000#32)) (extf .f32 (pick0 o d) bitsLt_bf16_f32))
    (extf .f32 (pick1 o d) bitsLt_bf16_f32)

/-- The weights of the chosen pairs: a softmax of the two logits. -/
def soft {F : FTy → Type} [FloatOps F] (x : FVec F S16384x2 .f32) : FVec F S16384x2 .f32 :=
  let e : FVec F S16384x2 .f32 := Host.exp (subf x (broadcastInDim S16384x2 ![0, 1] bcast_S16384x1_S16384x2_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x2_S16384_d1 h_S_)))))
  Host.divf e (broadcastInDim S16384x2 ![0, 1] bcast_S16384x1_S16384x2_0_1 (broadcastInDim S16384x1 ![0] bcast_S16384_S16384x1_0
    (Host.reduceAdd e (constant S_ .f32 0x00000000#32) reducesTo_S16384x2_S16384_d1 h_S_)))

/-- The chosen experts, flat. -/
def flat (x : IVec S16384x2 32) : IVec S32768 32 := shapeCast S32768 x shapeCasts_S16384x2_S32768

end Cert.Kernel9Ideal.Moe

end
-- ==== Proof.DRouteRead.lean ====
module

public import proofs.«01_k».proof.Proof.DRouteDefs
public import proofs.«01_k».proof.Proof.Gen.Kernel9Ideal.Frame.Runs
public import Idealize.ShloMosaic.Lib.StableHlo.RunRead

@[expose] public section

set_option maxRecDepth 100000
set_option maxHeartbeats 8000000

noncomputable section

open Idealize.ShloMosaic Idealize.ShloMosaic.TcCoe Idealize.SL.Sem

namespace Cert.Kernel9Ideal.Moe

open Cert.Kernel9Ideal Cert.Kernel9Ideal.Gen StableHlo

variable {F : FTy → Type} [FloatOps F] (m : (ℓ : Loc nD τ sig) → Buf (Elt F) ℓ)

abbrev fl (c : Dev nD) : IVec S32768 32 :=
  flat (Host.topK S16384x2 1 (FloatOps.cmpfTotal (F := F) (φ := .f32) .gt) (m ((c : Thread nD τ).loc main_arg1) : Vec F S16384x8 .f32) sliceFits_S16384x8_S16384x2).2

theorem V_table (c : Dev nD) : (V m c main_v136 : IVec S72 32) = tableT (fl m c) := by
  unfold V V0
  after_reads_simp
  unfold tableT tileE peT padT cntT cums
  simp -implicitDefEqProofs only [StableHlo.TRef.toBuf, StableHlo.TRef.ofBuf, cast_cast, cast_eq, id]
  rfl

theorem V_dest (c : Dev nD) : (V m c main_v125 : IVec S16384x2 32) = destT (fl m c) := by
  unfold V V0
  after_reads_simp
  unfold destT takeN dstS take8 psT stT eS takeN ordT peT padT cntT cums sortIdx wrap
  simp -implicitDefEqProofs only [StableHlo.TRef.toBuf, StableHlo.TRef.ofBuf, cast_cast, cast_eq, id]
  rfl

/-- The weights of the chosen pairs. -/
abbrev wt (c : Dev nD) : FVec F S16384x2 .f32 :=
  soft (Host.topK S16384x2 1 (FloatOps.cmpfTotal (F := F) (φ := .f32) .gt) (m ((c : Thread nD τ).loc main_arg1) : Vec F S16384x8 .f32) sliceFits_S16384x8_S16384x2).1

theorem V_rows (c : Dev nD) : (V m c main_v134 : S36864x1024.Idx → Elt F .bf16)
    = rowsT (fl m c) (shapeCast S32768x1024 (truncf (F := F) .bf16 (m ((c : Thread nD τ).loc main_arg0) : Vec F S16384x2x1024 .f32) bitsLt_bf16_f32) shapeCasts_S16384x2x1024_S32768x1024) := by
  unfold V V0
  after_reads_simp
  unfold rowsT pairT takeNr posT within rowE take8r psT stT ordT peT padT cntT cums sortIdx wrap
  simp -implicitDefEqProofs only [StableHlo.TRef.toBuf, StableHlo.TRef.ofBuf, cast_cast, cast_eq, id]
  rfl

theorem V_gate (c : Dev nD) : (V m c main_v138 : S36864x128.Idx → Elt F .f32) = gateT (fl m c) (wt m c) (constant S_ .f32 0x00000000#32) := by
  unfold V V0
  after_reads_simp
  unfold gateT pairT takeNr validT posT within rowE take8r psT stT ordT peT padT cntT cums sortIdx wrap wt soft
  simp -implicitDefEqProofs only [StableHlo.TRef.toBuf, StableHlo.TRef.ofBuf, cast_cast, cast_eq, id]
  rfl

theorem V_w (c : Dev nD) : (V m c main_v1 : S16x1024x4096.Idx → Elt F .bf16)
    = shapeCast S16x1024x4096 (truncf (F := F) .bf16 (m ((c : Thread nD τ).loc main_arg2) : Vec F S2x8x1024x4096 .f32) bitsLt_bf16_f32) shapeCasts_S2x8x1024x4096_S16x1024x4096 := by
  unfold V V0
  after_reads_simp
  rfl

/-- What the lines after the region return. -/
theorem tail_out (hO : Ok m) (dats : (p : Fin 1) → (c : Dev nD) → Pipeline.Dat τ (Elt F) Unit ℕ (UR sig nD τ) ℕ ((Pipeline.pin pcfgs fun _ => adm m hO) p) c) (c : Dev nD) :
    (Pipeline.afterTail pcfgs (fun _ => adm m hO) dats 0 (V0 m) [hostOps1] c main_v162 : FVec F S16384x4096 .f32)
      = backT ((dats 0 c).arrAt 3 (cfgM m hO).N : S36864x4096.Idx → Elt F .bf16) (V m c main_v125 : IVec S16384x2 32) := by
  unfold Pipeline.afterTail
  have e1 : Pipeline.withArrays (Pipeline.pin pcfgs (fun _ => adm m hO) 0).spec c (V0 m c) (fun w => (dats 0 c).arrAt w (Pipeline.pin pcfgs (fun _ => adm m hO) 0).N)
      (Proc.devRef .tc main_v139) = (dats 0 c).arrAt 3 (cfgM m hO).N :=
    Pipeline.withArrays_arr spec0 (by decide) c (V0 m c) _ 3
  have e2 : Pipeline.withArrays (Pipeline.pin pcfgs (fun _ => adm m hO) 0).spec c (V0 m c) (fun w => (dats 0 c).arrAt w (Pipeline.pin pcfgs (fun _ => adm m hO) 0).N)
      (Proc.devRef .tc main_v125) = V m c main_v125 :=
    Pipeline.withArrays_of_ne spec0 c (V0 m c) _ main_v125 (by exact (by decide : ∀ w, Pipeline.arrRef spec0 w ≠ main_v125))
  revert e1 e2
  generalize Pipeline.withArrays (Pipeline.pin pcfgs (fun _ => adm m hO) 0).spec c (V0 m c) (fun w => (dats 0 c).arrAt w (Pipeline.pin pcfgs (fun _ => adm m hO) 0).N) = W
  intro e1 e2
  rw [← e1, ← e2]
  after_reads_simp
  unfold backT pick0 pick1 wrap
  simp -implicitDefEqProofs only [StableHlo.TRef.toBuf, StableHlo.TRef.ofBuf, cast_cast, cast_eq, id]
  rfl

end Cert.Kernel9Ideal.Moe

end
-- ==== Proof.RouteCount.lean ====
module

public import Mathlib.Data.Nat.Count
public import Mathlib.Data.Fintype.Card
public import Mathlib.Order.Fin.Basic
public import Mathlib.Order.WellFounded
public import Mathlib.Algebra.BigOperators.Fin
public import Idealize.ShloMosaic.Lib.Routing.Count

@[expose] public section

noncomputable section

/-! Counting: where a position sorted by its expert lands, and where its expert's padded run of rows begins. -/

namespace Cert.Moves

variable (a : ℕ → ℕ)

/-- How many positions chose expert `e`, and how many chose one before it. -/
def cnt (e : ℕ) : ℕ := Nat.count (fun p => a p = e) 32768
def below (e : ℕ) : ℕ := Nat.count (fun p => a p < e) 32768
/-- The count rounded up to whole tiles of 512 rows. -/
def pad (e : ℕ) : ℕ := (cnt a e + 511) / 512 * 512
/-- Where the run of an expert begins: in the sorted order, and in the padded rows. -/
def st (e : ℕ) : ℕ := ((List.range e).map (cnt a)).sum
def ps (e : ℕ) : ℕ := ((List.range e).map (pad a)).sum

theorem st_succ (e : ℕ) : st a (e + 1) = st a e + cnt a e := by
  unfold st; rw [List.range_succ, List.map_append, List.sum_append]; simp
theorem ps_succ (e : ℕ) : ps a (e + 1) = ps a e + pad a e := by
  unfold ps; rw [List.range_succ, List.map_append, List.sum_append]; simp

theorem count_succ_below (e n : ℕ) : Nat.count (fun p => a p < e + 1) n = Nat.count (fun p => a p < e) n + Nat.count (fun p => a p = e) n := by
  induction n with
  | zero => rfl
  | succ n ih =>
    simp only [Nat.count_succ, ih]
    split_ifs <;> omega

theorem below_eq (e : ℕ) : below a e = st a e := by
  induction e with
  | zero =>
    unfold below st
    simp
  | succ e ih => rw [st_succ, ← ih]; exact count_succ_below a e _

theorem st_le (e : ℕ) : st a e ≤ 32768 := by
  rw [← below_eq]; exact Nat.count_le _

theorem cnt_le (e : ℕ) : cnt a e ≤ 32768 := Nat.count_le _

theorem pad_le (e : ℕ) : pad a e ≤ cnt a e + 511 := by unfold pad; omega
theorem cnt_le_pad (e : ℕ) : cnt a e ≤ pad a e := by unfold pad; omega
theorem ps_dvd (e : ℕ) : 512 ∣ ps a e := by
  induction e with
  | zero => exact ⟨0, rfl⟩
  | succ e ih => rw [ps_succ]; exact Nat.dvd_add ih ⟨_, Nat.mul_comm _ _⟩

theorem ps_le (e : ℕ) : ps a e ≤ st a e + 511 * e := by
  induction e with
  | zero => exact Nat.le_refl _
  | succ e ih => rw [ps_succ, st_succ]; have := pad_le a e; omega

theorem ps_bound (e : ℕ) (he : e ≤ 8) : ps a e ≤ 36864 := by
  have h1 := ps_le a e
  have h2 := st_le a e
  omega

theorem ps_mono {e e' : ℕ} (h : e ≤ e') : ps a e ≤ ps a e' := by
  induction h with
  | refl => exact Nat.le_refl _
  | step _ ih => rw [ps_succ]; omega

/-- In an order sorted by expert a position lies within its expert's run. -/
theorem sorted_run (o : Fin 32768 → Fin 32768) (ho : Function.Bijective o) (hm : ∀ i j, i < j → a (o i) ≤ a (o j)) (i : Fin 32768) :
    st a (a (o i)) ≤ i.val ∧ i.val < st a (a (o i)) + cnt a (a (o i)) := by
  have key : ∀ e, st a e = (Finset.univ.filter fun j : Fin 32768 => a (o j) < e).card := fun e => by
    rw [← below_eq]
    unfold below
    rw [← Idealize.ShloMosaic.Routing.card_filter_fin 32768 (fun p => a p < e)]
    refine (Finset.card_bij (fun j _ => o j) (fun j hj => ?_) (fun j _ j' _ h => ho.1 h) (fun p hp => ?_)).symm
    · simpa using hj
    · obtain ⟨j, rfl⟩ := ho.2 p
      exact ⟨j, by simpa using hp, rfl⟩
  constructor
  · rw [key]
    refine (Finset.card_le_card (t := Finset.Iio i) fun j hj => ?_).trans (by rw [Fin.card_Iio])
    have hj' : a (o j) < a (o i) := by simpa using hj
    rw [Finset.mem_Iio]
    by_contra hc
    rcases Nat.lt_or_ge i.val j.val with h | h
    · exact absurd (hm i j h) (by omega)
    · have : j = i := Fin.ext (by have : ¬ j.val < i.val := hc; omega)
      rw [this] at hj'; omega
  · rw [← st_succ, key]
    have h : (Finset.Iic i).card ≤ (Finset.univ.filter fun j : Fin 32768 => a (o j) < a (o i) + 1).card := by
      refine Finset.card_le_card fun j hj => ?_
      have hj' : j ≤ i := Finset.mem_Iic.1 hj
      have : a (o j) ≤ a (o i) := by
        rcases Nat.lt_or_ge j.val i.val with h | h
        · exact hm j i h
        · have : j = i := Fin.ext (by have : j.val ≤ i.val := hj'; omega)
          rw [this]
      simp only [Finset.mem_filter, Finset.mem_univ, true_and]; omega
    rw [Fin.card_Iic] at h
    omega

/-- The experts whose run of rows ends at or before a row of expert `e`'s run are those before `e`. -/
theorem ends_before (e r : ℕ) (h1 : ps a e ≤ r) (h2 : r < ps a (e + 1)) (q : ℕ) : ps a (q + 1) ≤ r ↔ q < e := by
  constructor
  · intro h
    by_contra hc
    have := ps_mono a (show e + 1 ≤ q + 1 by omega)
    omega
  · intro h
    have := ps_mono a (show q + 1 ≤ e by omega)
    omega

theorem ends_before_tile (e r : ℕ) (h1 : ps a e ≤ r) (h2 : r < ps a (e + 1)) (q : ℕ) : ps a (q + 1) ≤ r / 512 * 512 ↔ q < e := by
  rw [← ends_before a e r h1 h2 q]
  obtain ⟨k, hk⟩ := ps_dvd a (q + 1)
  omega

theorem count_lt (e : ℕ) (he : e < 8) (Q : ℕ → Prop) [DecidablePred Q] (hQ : ∀ q, Q q ↔ q < e) : Nat.count Q 8 = e := by
  have : ∀ n, Nat.count Q n = min e n := fun n => by
    induction n with
    | zero => simp
    | succ n ih =>
      rw [Nat.count_succ, ih]
      by_cases h : Q n
      · have := (hQ n).1 h; simp only [h, if_true]; omega
      · have : ¬ n < e := fun c => h ((hQ n).2 c)
        simp only [h, if_false]; omega
  rw [this]; omega

theorem mono_bij_id {n : ℕ} (f : Fin n → Fin n) (hb : Function.Bijective f) (hm : ∀ i j, i < j → (f i).val ≤ (f j).val) (i : Fin n) : f i = i := by
  have hs : StrictMono f := fun i j hij => by
    have h1 := hm i j hij
    have h2 : f i ≠ f j := fun e => absurd (hb.1 e) (ne_of_lt hij)
    exact lt_of_le_of_ne h1 h2
  have := (StrictMono.range_inj hs strictMono_id).1 (by rw [hb.2.range_eq, Set.range_id])
  exact congrFun this i

end Cert.Moves

end
-- ==== Proof.DRouteWord.lean ====
module

public import proofs.«01_k».proof.Proof.DRouteDefs
public import proofs.«01_k».proof.Proof.RouteCount
public import Idealize.ShloMosaic.Lib.PlanTiles.Rows

@[expose] public section

set_option maxRecDepth 16384

noncomputable section

open Idealize.ShloMosaic Idealize.ShloMosaic.TcCoe Idealize.ShloMosaic.WordCmp Idealize.ShloMosaic.ValueIdx

namespace Cert.Kernel9Ideal.Moe

open Cert.Kernel9Ideal Facts₀ Cert.Moves

theorem wrap_ap {s : Shape} (hb : S_.BroadcastsInDim s (![] : Fin 0 → Fin s.rank)) (n : BitVec 32) (x : IVec s 32) (i : s.Idx) {b : ℕ}
    (h : x i = BitVec.ofNat 32 b) (hlt : b < 2 ^ 31) : wrap hb n x i = BitVec.ofNat 32 b := by
  unfold wrap
  rw [select_at, cmpi_at, Routing.bc0, constantI_at, h, show (0#32 : BitVec 32) = BitVec.ofNat 32 0 from rfl,
    cmpi_slt_ofNat (w := 32) hlt (by decide), select_decide, if_neg (by omega)]

theorem sort_spec (x : IVec S32768 32) (v : ℕ → ℕ) (hx : ∀ p : Fin 32768, x (ix1 p) = BitVec.ofNat 32 (v p.val)) (hv : ∀ p, v p < 2 ^ 31) :
    ∃ o : Fin 32768 → Fin 32768, Function.Bijective o ∧ (∀ i j, i < j → v (o i) ≤ v (o j)) ∧ ∀ i, sortIdx x (ix1 i) = BitVec.ofNat 32 (o i).val := by
  let R : Fin 32768 → Fin 32768 → Bool := fun k k' =>
    comparator_i32_i32_d0 (x (ix1 k), iotaInDim S32768 32 0 (ix1 k)) (x (ix1 k'), iotaInDim S32768 32 0 (ix1 k')) == 1#1
  have hR : ∀ k k', R k k' = decide (v k.val < v k'.val) := fun k k' => by
    show (IntOp.cmpi .slt (x (ix1 k)) (x (ix1 k')) == 1#1) = _
    rw [hx, hx, cmpi_slt_ofNat (w := 32) (hv _) (hv _)]
    by_cases h : v k.val < v k'.val
    · simp only [h, decide_true]; rfl
    · simp only [h, decide_false]; rfl
  refine ⟨sortedFrom R, ⟨sortedFrom_injective R, sortedFrom_surjective R⟩, fun i j hij => ?_, fun i => ?_⟩
  · have h := sortedFrom_noInversion R R (fun a b h => ?_) (fun a b h => h) (fun a b c h1 h2 => ?_) i j hij
    · rw [hR, decide_eq_false_iff_not] at h; omega
    · rw [hR, decide_eq_true_iff] at h; rw [hR, decide_eq_false_iff_not]; omega
    · rw [hR, decide_eq_false_iff_not] at h1 h2 ⊢; omega
  · unfold sortIdx Host.sort2
    rw [dif_pos (by decide)]
    dsimp only
    have hal : ∀ k : Fin 32768, (ix1 i : S32768.Idx).along (0 : Fin 1) k = ix1 k := fun k => by
      rw [← Routing.ofFin_eq_ix1 k]; exact Shape.Idx.along_rank1 _ k
    have hS : (fun k k' : Fin 32768 =>
      comparator_i32_i32_d0 (x ((ix1 i : S32768.Idx).along (0 : Fin 1) k), iotaInDim S32768 32 0 ((ix1 i : S32768.Idx).along (0 : Fin 1) k))
        (x ((ix1 i : S32768.Idx).along (0 : Fin 1) k'), iotaInDim S32768 32 0 ((ix1 i : S32768.Idx).along (0 : Fin 1) k')) == 1#1) = R :=
      funext fun k => funext fun k' => by rw [hal k, hal k']
    have hz : ∀ z : Fin 32768, iotaInDim S32768 32 0 ((ix1 i : S32768.Idx).along (0 : Fin 1) z) = BitVec.ofNat 32 z.val := fun z => by
      rw [hal]; exact Routing.iota1_ap z
    exact (congrArg (fun f : Fin 32768 → Fin 32768 → Bool => iotaInDim S32768 32 0 ((ix1 i : S32768.Idx).along (0 : Fin 1) (sortedFrom f i : Fin 32768))) hS).trans (hz _)

variable (fl : IVec S32768 32) (a : ℕ → ℕ) (ha : ∀ p, a p < 8) (hfl : ∀ p : Fin 32768, fl (ix1 p) = BitVec.ofNat 32 (a p.val))

include ha hfl

theorem cnt_ap (e : Fin 8) : cntT fl (ix1 e) = BitVec.ofNat 32 (cnt a e.val) := by
  unfold cntT
  apply BitVec.eq_of_toNat_eq
  rw [StableHlo.Predicate.toNat_reduce_count_rows (by decide), BitVec.toNat_ofNat, Nat.mod_eq_of_lt (by have := cnt_le a e.val; omega)]
  unfold cnt
  rw [← Routing.card_filter_fin 32768 (fun p => a p = e.val)]
  refine congrArg Finset.card (Finset.filter_congr fun p _ => ?_)
  rw [Routing.ij_eq_ix2, cmpi_at, Routing.bcRows, hfl]
  have e2 : broadcastInDim S32768x8 ![0, 1] bcast_S1x8_S32768x8_0_1 (iotaInDim S1x8 32 1) (ix2 p e) = BitVec.ofNat 32 e.val := by
    refine (broadcastInDim_apply _ bcast_S1x8_S32768x8_0_1 _ _ (ix2 (0 : Fin 1) e) fun b => ?_).trans rfl
    match b with
    | ⟨0, _⟩ => rfl
    | ⟨1, _⟩ => rfl
  refine (iff_of_eq (congrArg (fun w => IntOp.cmpi .eq (BitVec.ofNat 32 (a p.val)) w = 1#1) e2)).trans ?_
  exact cmpi_eq_ofNat_eq_one_iff (w := 32) (by have := ha p.val; omega) (by have := e.isLt; omega)

theorem pad_ap (e : Fin 8) : padT fl (ix1 e) = BitVec.ofNat 32 (pad a e.val) := by
  unfold padT
  have hc := cnt_le a e.val
  rw [Routing.muli_ap, Routing.pyDiv_ap (a := cnt a e.val + 511) (b := 512) _ _ _ _ ?_ rfl (by omega) (by decide) (by decide), Routing.bc0, constantI_at,
    show (512#32 : BitVec 32) = BitVec.ofNat 32 512 from rfl]
  · exact muli_ofNat _ _
  · rw [Routing.subi_ap, Routing.addi_ap, Routing.bc0, Routing.bc0, constantI_at, constantI_at, cnt_ap fl a ha hfl,
      show (512#32 : BitVec 32) = BitVec.ofNat 32 512 from rfl, show (1#32 : BitVec 32) = BitVec.ofNat 32 1 from rfl]
    rw [show BitVec.ofNat 32 (cnt a e.val) + BitVec.ofNat 32 512 = BitVec.ofNat 32 (cnt a e.val + 512) from addi_ofNat _ _, Routing.ofNat32_sub (by omega)]
    rfl

omit ha hfl in
theorem cums_ap (x : IVec S8 32) (f : ℕ → ℕ) (hx : ∀ e : Fin 8, x (ix1 e) = BitVec.ofNat 32 (f e.val)) (e : Fin 8) :
    cums x (ix1 e) = BitVec.ofNat 32 ((List.range (e.val + 1)).map f).sum := by
  unfold cums
  exact Routing.cumsum1 (by rfl) x f hx _ (by rw [Routing.bc0]; rfl) _ _ e

theorem pe_ap (e : Fin 8) : peT fl (ix1 e) = BitVec.ofNat 32 (ps a (e.val + 1)) :=
  cums_ap _ _ (pad_ap fl a ha hfl) e

theorem ps_ap (e : Fin 8) : psT fl (ix1 e) = BitVec.ofNat 32 (ps a e.val) := by
  unfold psT
  rw [Routing.subi_ap, pe_ap fl a ha hfl, pad_ap fl a ha hfl, ps_succ, Routing.ofNat32_sub (by omega)]
  refine congrArg (BitVec.ofNat 32) ?_; omega

theorem st_ap (e : Fin 8) : stT fl (ix1 e) = BitVec.ofNat 32 (st a e.val) := by
  unfold stT
  rw [Routing.subi_ap, cums_ap _ _ (cnt_ap fl a ha hfl), cnt_ap fl a ha hfl]
  show BitVec.ofNat 32 (st a (e.val + 1)) - _ = _
  rw [st_succ, Routing.ofNat32_sub (by omega)]
  refine congrArg (BitVec.ofNat 32) ?_; omega

omit ha hfl in
theorem take8_ap (x : IVec S8 32) (i : IVec S32768 32) (p : Fin 32768) (e : Fin 8) (h : i (ix1 p) = BitVec.ofNat 32 e.val) : take8 x i (ix1 p) = x (ix1 e) := by
  unfold take8
  refine Routing.gather_take1 _ rfl rfl rfl rfl x _ p e ?_ (by decide)
  rw [Routing.bcCol]
  exact wrap_ap _ _ _ _ h (by have := e.isLt; omega)
omit ha hfl in
theorem take8r_ap (x : IVec S8 32) (i : IVec S36864 32) (p : Fin 36864) (e : Fin 8) (h : i (ix1 p) = BitVec.ofNat 32 e.val) : take8r x i (ix1 p) = x (ix1 e) := by
  unfold take8r
  refine Routing.gather_take1 _ rfl rfl rfl rfl x _ p e ?_ (by decide)
  rw [Routing.bcCol]
  exact wrap_ap _ _ _ _ h (by have := e.isLt; omega)
omit ha hfl in
theorem takeN_ap (x : IVec S32768 32) (i : IVec S32768 32) (p : Fin 32768) (e : Fin 32768) (h : i (ix1 p) = BitVec.ofNat 32 e.val) : takeN x i (ix1 p) = x (ix1 e) := by
  unfold takeN
  refine Routing.gather_take1 _ rfl rfl rfl rfl x _ p e ?_ (by decide)
  rw [Routing.bcCol]
  exact wrap_ap _ _ _ _ h (by have := e.isLt; omega)
omit ha hfl in
theorem takeNr_ap {α : Type} (x : S32768.Idx → α) (i : IVec S36864 32) (p : Fin 36864) (e : Fin 32768) (h : i (ix1 p) = BitVec.ofNat 32 e.val) : takeNr x i (ix1 p) = x (ix1 e) := by
  unfold takeNr
  refine Routing.gather_take1 _ rfl rfl rfl rfl x _ p e ?_ (by decide)
  rw [Routing.bcCol]
  exact wrap_ap _ _ _ _ h (by have := e.isLt; omega)

/-- The expert of a row in the run of expert `e`. -/
theorem rowE_ap (r : Fin 36864) (e : ℕ) (he : e < 8) (h1 : ps a e ≤ r.val) (h2 : r.val < ps a (e + 1)) : rowE fl (ix1 r) = BitVec.ofNat 32 e := by
  unfold rowE
  rw [minsi_apply, Routing.bc0, constantI_at, Routing.reduce_count (by decide) _ _ _ _ r (fun q => ps a (q + 1) ≤ r.val) (fun q => ?_),
    count_lt e he _ (ends_before a e r.val h1 h2), show (7#32 : BitVec 32) = BitVec.ofNat 32 7 from rfl]
  · refine (PlanTiles.minsi_word (by omega) (by decide)).trans ?_
    refine congrArg (BitVec.ofNat 32) ?_; omega
  · rw [cmpi_at, Routing.bcRows, Routing.bcCols, pe_ap fl a ha hfl, Routing.iota1_ap]
    exact cmpi_sge_ofNat_eq_one_iff (w := 32) (by have := r.isLt; omega) (by have := ps_bound a (q.val + 1) (by have := q.isLt; omega); omega)

/-- And of its tile. -/
theorem tileE_ap (r : Fin 36864) (t : Fin 72) (ht : t.val = r.val / 512) (e : ℕ) (he : e < 8) (h1 : ps a e ≤ r.val) (h2 : r.val < ps a (e + 1)) :
    tableT fl (ix1 t) = BitVec.ofNat 32 (e + 8) := by
  unfold tableT tileE
  rw [Routing.addi_ap, Routing.bc0, constantI_at, minsi_apply, Routing.bc0, constantI_at,
    Routing.reduce_count (by decide) _ _ _ _ t (fun q => ps a (q + 1) ≤ r.val / 512 * 512) (fun q => ?_),
    count_lt e he _ (ends_before_tile a e r.val h1 h2), show (7#32 : BitVec 32) = BitVec.ofNat 32 7 from rfl, show (8#32 : BitVec 32) = BitVec.ofNat 32 8 from rfl]
  · refine (congrArg (· + BitVec.ofNat 32 8) (PlanTiles.minsi_word (a := e) (b := 7) (by omega) (by decide))).trans ?_
    rw [show min 7 e = e by omega]
    exact addi_ofNat _ _
  · rw [cmpi_at, Routing.bcRows, Routing.bcCols, pe_ap fl a ha hfl, Routing.muli_ap, Routing.bc0, constantI_at, Routing.iota1_ap, ht,
      show (512#32 : BitVec 32) = BitVec.ofNat 32 512 from rfl]
    refine (iff_of_eq (congrArg (fun w => IntOp.cmpi .sge w _ = 1#1) (muli_ofNat (r.val / 512) 512))).trans ?_
    exact cmpi_sge_ofNat_eq_one_iff (w := 32) (by have := r.isLt; omega) (by have := ps_bound a (q.val + 1) (by have := q.isLt; omega); omega)

/-- Where a chosen pair of a token and an expert lands: a row that reads that pair, in a tile of that expert. -/
theorem route (t : Fin 16384) (s : Fin 2) : ∃ r : Fin 36864, destT fl (ix2 t s) = BitVec.ofNat 32 r.val ∧ validT fl (ix1 r) = 1#1 ∧ pairT fl (ix1 r) = BitVec.ofNat 32 (2 * t.val + s.val)
    ∧ tableT fl (ix1 ⟨r.val / 512, by have := r.isLt; omega⟩) = BitVec.ofNat 32 (a (2 * t.val + s.val) + 8) := by
  have htl := t.isLt
  have hsl := s.isLt
  obtain ⟨o, ho, hmo, hso⟩ := sort_spec fl a hfl (fun p => by have := ha p; omega)
  obtain ⟨q, hq, hmq, hsq⟩ := sort_spec (ordT fl) (fun i => if h : i < 32768 then (o ⟨i, h⟩).val else 0) (fun p => by
    rw [dif_pos p.isLt]; exact hso p) (fun p => by
      by_cases h : p < 32768
      · rw [dif_pos h]; have := (o ⟨p, h⟩).isLt; omega
      · rw [dif_neg h]; decide)
  have hoq : ∀ p, o (q p) = p := mono_bij_id (fun p => o (q p)) (ho.comp hq) (fun i j hij => by
    have := hmq i j hij
    rw [dif_pos (q i).isLt, dif_pos (q j).isLt] at this
    exact this)
  -- the flat position, and its place in the sorted order
  let p : Fin 32768 := ⟨2 * t.val + s.val, by omega⟩
  have hoi : o (q p) = p := hoq p
  generalize hi : q p = i at hoi
  have hil := i.isLt
  have hrun := sorted_run a o ho hmo i
  rw [hoi] at hrun
  obtain ⟨hr1, hr2⟩ := hrun
  have he := ha p.val
  have hcp := cnt_le_pad a (a p.val)
  have hps := ps_succ a (a p.val)
  have hpb := ps_bound a (a p.val + 1) (by omega)
  have hst := st_le a (a p.val)
  have eS_i : eS fl (ix1 i) = BitVec.ofNat 32 (a p.val) := by
    unfold eS
    rw [takeN_ap fl (ordT fl) i (o i) (hso i), hoi, hfl]
  have kps : psT fl (ix1 ⟨a p.val, he⟩) = BitVec.ofNat 32 (ps a (a p.val)) := ps_ap fl a ha hfl ⟨a p.val, he⟩
  have kst : stT fl (ix1 ⟨a p.val, he⟩) = BitVec.ofNat 32 (st a (a p.val)) := st_ap fl a ha hfl ⟨a p.val, he⟩
  have kcnt : cntT fl (ix1 ⟨a p.val, he⟩) = BitVec.ofNat 32 (cnt a (a p.val)) := cnt_ap fl a ha hfl ⟨a p.val, he⟩
  have hcl := cnt_le a (a p.val)
  let r : Fin 36864 := ⟨ps a (a p.val) + i.val - st a (a p.val), by omega⟩
  have hrv : r.val = ps a (a p.val) + i.val - st a (a p.val) := rfl
  have h1 : ps a (a p.val) ≤ r.val := by omega
  have h2 : r.val < ps a (a p.val + 1) := by omega
  have hrow := rowE_ap fl a ha hfl r _ he h1 h2
  have hw : within fl (ix1 r) = BitVec.ofNat 32 (i.val - st a (a p.val)) := by
    unfold within
    rw [Routing.subi_ap, take8r_ap _ _ r ⟨a p.val, he⟩ hrow, kps, Routing.iota1_ap, Routing.ofNat32_sub (by omega)]
    refine congrArg (BitVec.ofNat 32) ?_; omega
  have hv : validT fl (ix1 r) = 1#1 := by
    unfold validT
    rw [cmpi_at, take8r_ap _ _ r ⟨a p.val, he⟩ hrow, kcnt, hw]
    exact (cmpi_slt_ofNat_eq_one_iff (w := 32) (by omega) (by have := cnt_le a (a p.val); omega)).2 (by omega)
  have hpos : posT fl (ix1 r) = BitVec.ofNat 32 i.val := by
    unfold posT
    rw [minsi_apply, maxsi_apply, Routing.bc0, Routing.bc0, constantI_at, constantI_at, Routing.addi_ap, take8r_ap _ _ r ⟨a p.val, he⟩ hrow, kst, hw,
      show BitVec.ofNat 32 (st a (a p.val)) + BitVec.ofNat 32 (i.val - st a (a p.val)) = BitVec.ofNat 32 (st a (a p.val) + (i.val - st a (a p.val))) from addi_ofNat _ _,
      show st a (a p.val) + (i.val - st a (a p.val)) = i.val by omega]
    refine (congrArg (IntOp.minsi 32767#32) (Routing.maxsi_zero_left (by omega))).trans ?_
    refine (PlanTiles.minsi_word (a := 32767) (by decide) (by omega)).trans ?_
    refine congrArg (BitVec.ofNat 32) ?_; omega
  refine ⟨r, ?_, ?_, ?_, ?_⟩
  · unfold destT
    rw [Routing.cast12 _ _ t s p (by show 2 * t.val + s.val = _; omega), takeN_ap _ _ p i (by rw [hsq, hi])]
    unfold dstS
    rw [Routing.subi_ap, Routing.addi_ap, take8_ap _ _ i ⟨a p.val, he⟩ eS_i, take8_ap _ _ i ⟨a p.val, he⟩ eS_i, kps, kst, Routing.iota1_ap,
      show BitVec.ofNat 32 (ps a (a p.val)) + BitVec.ofNat 32 i.val = BitVec.ofNat 32 (ps a (a p.val) + i.val) from addi_ofNat _ _, Routing.ofNat32_sub (by omega)]
  · exact hv
  · unfold pairT
    rw [takeNr_ap _ _ r i hpos]
    unfold ordT
    rw [hso, hoi]
  · exact tileE_ap fl a ha hfl r ⟨r.val / 512, _⟩ rfl _ he h1 h2

end Cert.Kernel9Ideal.Moe

end
-- ==== Proof.DMoeOk.lean ====
module

public import proofs.«01_k».proof.Proof.DRouteRead
public import proofs.«01_k».proof.Proof.DRouteWord

@[expose] public section

set_option maxRecDepth 16384

noncomputable section

open Idealize.ShloMosaic Idealize.ShloMosaic.TcCoe Idealize.ShloMosaic.WordCmp Idealize.ShloMosaic.ValueIdx

namespace Cert.Kernel9Ideal.Moe

open Cert.Kernel9Ideal

/-- Whatever the experts chosen, a tile's entry names one of the sixteen matrices. -/
theorem table_small (fl : IVec S32768 32) (t : Fin 72) : ∃ k : ℕ, k < 16 ∧ tableT fl (ix1 t) = BitVec.ofNat 32 k := by
  classical
  unfold tableT tileE
  rw [Routing.addi_ap, Routing.bc0, constantI_at, minsi_apply, Routing.bc0, constantI_at,
    show (7#32 : BitVec 32) = BitVec.ofNat 32 7 from rfl, show (8#32 : BitVec 32) = BitVec.ofNat 32 8 from rfl]
  generalize hM : cmpi .sge _ _ = M
  rw [Routing.reduce_count (by decide) M _ _ _ t (fun q => ∃ h : q < 8, M (ix2 t ⟨q, h⟩) = 1#1) (fun q => ⟨fun h => ⟨q.isLt, h⟩, fun h => h.2⟩)]
  have hc := Nat.count_le (fun q => ∃ h : q < 8, M (ix2 t ⟨q, h⟩) = 1#1) (n := 8)
  generalize Nat.count (fun q => ∃ h : q < 8, M (ix2 t ⟨q, h⟩) = 1#1) 8 = c at hc
  refine ⟨min 7 c + 8, by omega, ?_⟩
  refine (congrArg (· + BitVec.ofNat 32 8) (PlanTiles.minsi_word (a := c) (b := 7) (by omega) (by decide))).trans ?_
  exact addi_ofNat _ _

end Cert.Kernel9Ideal.Moe

namespace Cert.Kernel9Ideal.Moe

open Cert.Kernel9Ideal Cert.Kernel9Ideal.Gen

section
variable {F : FTy → Type} [FloatOps F]

/-- The block index of the weights' window, by the table's entry. -/
theorem tr1 (pf : pre0.Contents (Elt F)) (i : grid0.Coords) :
    cc0_transform_1 k0_off1_inb numel1_S1 pf i = ![((pf 0 : IVec S72 32) (ix1 (i 0))).toNat, 0, (i 1).val] := by
  have h0 : (i 0).val < 72 := (i 0).isLt
  have h1 : (i 1).val < 4 := (i 1).isLt
  unfold cc0_transform_1
  dsimp only
  funext a
  match a with
  | ⟨0, _⟩ =>
    refine congrArg BitVec.toNat (congrArg (pf 0 : IVec S72 32) ?_)
    funext b
    apply Fin.ext
    match b with
    | ⟨0, _⟩ =>
      show (Scalar.indexCast (BitVec.ofNat 32 (i 0).val)).toNat + 1 * 0 = (i 0).val
      rw [show (Scalar.indexCast (BitVec.ofNat 32 (i 0).val)).toNat = (BitVec.ofNat 32 (i 0).val).toNat from rfl, BitVec.toNat_ofNat]
      omega
  | ⟨1, _⟩ => rfl
  | ⟨2, _⟩ => show (BitVec.ofNat 32 (i 1).val).toNat = (i 1).val; rw [BitVec.toNat_ofNat]; omega

variable (m : (ℓ : Loc nD τ sig) → Buf (Elt F) ℓ)

theorem tbl_eq : (tbl m 0 : IVec S72 32) = tableT (fl m 0) := V_table m 0

theorem inb (i : grid0.Coords) : ∀ a, (cc0_transform_1 k0_off1_inb numel1_S1 (tbl m) i a + 1) * S1x1024x1024.size a ≤ S16x1024x4096.size a := by
  intro a
  have h1 : (i 1).val < 4 := (i 1).isLt
  obtain ⟨k, hk, e⟩ := table_small (fl m 0) (i 0)
  rw [tr1, tbl_eq, e, BitVec.toNat_ofNat]
  match a with
  | ⟨0, _⟩ => show (k % 2 ^ 32 + 1) * 1 ≤ 16; omega
  | ⟨1, _⟩ => show (0 + 1) * 1024 ≤ 1024; omega
  | ⟨2, _⟩ => show ((i 1).val + 1) * 1024 ≤ 4096; omega

/-- The table's entries are within the weights whatever the inputs. -/
theorem ok : Ok m :=
  fun i => ⟨inb m i, .inr (Affine.block_words_dvd (of_decide_eq_true rfl) (by decide))⟩

end

end Cert.Kernel9Ideal.Moe

end
-- ==== Proof.DMoeVal.lean ====
module

public import proofs.«01_k».proof.Proof.DMoeOk
public import proofs.«01_k».proof.Proof.Gen.Kernel9Ideal.Frame
public import Idealize.ShloMosaic.Lib.Pipeline.Value
public import Idealize.ShloMosaic.Lib.Pointwise
public import Idealize.ShloMosaic.Lib.Tactic
public import Idealize.ShloMosaic.PureOps.Ideal

@[expose] public section

set_option maxRecDepth 16384
set_option maxHeartbeats 1000000

noncomputable section

open Idealize.ShloMosaic Idealize.ShloMosaic.TcCoe Idealize.SL.Sem
open Idealize.ShloMosaic.Pipeline (Dat)

namespace Cert.Kernel9Ideal.Moe

open Cert.Kernel9Ideal Cert.Kernel9Ideal.Gen Facts₀

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What a grid point leaves in the output block: the one payload of the blocks it reads. -/
theorem out_A (c : Dev nD) (i : grid0.Coords) (a3 : Memref sig .tc .vmem S512x1024 .bf16) (h3 : a3.IsWhole)
    (a4 : Memref sig .tc .vmem S1x1024x1024 .bf16) (h4 : a4.IsWhole) (a5 : Memref sig .tc .vmem S512x128 .f32) (h5 : a5.IsWhole)
    (a6 : Memref sig .tc .vmem S512x1024 .bf16) (h6 : a6.IsWhole)
    (x : Vec F S512x1024 .bf16) (w : Vec F S1x1024x1024 .bf16) (g : Vec F S512x128 .f32) (xt : TbBuf0 (F := F) c tbM0_0) :
    out0_A_3 c i a3 h3 a4 h4 a5 h5 a6 h6 x w g xt = k0_pay1 x w g := by
  unfold out0_A_3
  rw [View.read_writes_junk_eq_canon]
  unfold kernelRun0_A
  dsimp only
  sl_unfold_words
  rw [View.canon_unit_zero (S := S512x1024) hz2]
  simp only [View.readAt_eq_ld, h3.read_unread, h4.read_unread, h5.read_unread, View.ld_unit_zero (S := S512x1024) hz2,
    View.ld_unit_zero (S := S1x1024x1024) hz3, View.ld_unit_zero (S := S512x128) hz2]

end

/-- Eight copies of a block side by side, at an element. -/
theorem lanes (x : S512x128.Idx → EReal) (a : Fin 512) (b : Fin 1024) :
    concatenate S512x1024 1 [⟨S512x128, x⟩, ⟨S512x128, x⟩, ⟨S512x128, x⟩, ⟨S512x128, x⟩, ⟨S512x128, x⟩, ⟨S512x128, x⟩, ⟨S512x128, x⟩, ⟨S512x128, x⟩]
      Gen.concatenates_S512x128_S512x128_S512x128_S512x128_S512x128_S512x128_S512x128_S512x128_S512x1024_d1 (ix2 a b) = x (ix2 a ⟨b.val % 128, by omega⟩) :=
  concatenate_replicate_apply (t := S512x1024) 1 8 x _ rfl (ix2 a b) (ix2 a ⟨b.val % 128, by omega⟩) rfl fun q hq => by
    match q with
    | ⟨0, _⟩ => rfl
    | ⟨1, _⟩ => exact absurd rfl hq

/-- The payload at an element: the product times the row's gate. -/
theorem pay_apply (x : Vec Ideal S512x1024 .bf16) (w : Vec Ideal S1x1024x1024 .bf16) (g : Vec Ideal S512x128 .f32) (a : Fin 512) (b : Fin 1024) :
    (k0_pay1 (F := Ideal) x w g (ix2 a b) : EReal) = (∑ k : Fin 1024, (x (ix2 a k) : EReal) * w (ix3 0 k b)) * g (ix2 a ⟨b.val % 128, by omega⟩) := by
  unfold k0_pay1
  rw [shapeCast_self g]
  have e := lanes g a b
  revert e
  generalize concatenate S512x1024 1 _ _ = C
  intro e
  rw [← e]
  pointwise

theorem crd0 : ∀ t : Fin grid0.N, (grid0.coords t 0).val = t.val / 4 := by decide +kernel
theorem crd1 : ∀ t : Fin grid0.N, (grid0.coords t 1).val = t.val % 4 := by decide +kernel
theorem ind0 : ∀ t : Fin grid0.N, cc0_transform_0 (grid0.coords t) = ![t.val / 4, 0] := by decide +kernel
theorem ind2 : ∀ t : Fin grid0.N, cc0_transform_2 (grid0.coords t) = ![t.val / 4, 0] := by decide +kernel
theorem ind3 : ∀ t : Fin grid0.N, cc0_transform_3 (grid0.coords t) = ![t.val / 4, t.val % 4] := by decide +kernel

variable (m : (ℓ : Loc nD τ sig) → Buf (Elt Ideal) ℓ) (hO : Ok m)

/-- The table's word for a tile. -/
def te (t : ℕ) (ht : t < 72) : ℕ := ((tbl m 0 : IVec S72 32) (ValueIdx.ix1 ⟨t, ht⟩)).toNat

theorem te_lt (t : ℕ) (ht : t < 72) : te m t ht < 16 := by
  obtain ⟨k, hk, e⟩ := table_small (fl m 0) ⟨t, ht⟩
  unfold te
  rw [tbl_eq, e, BitVec.toNat_ofNat]
  omega

abbrev XR (c : Dev nD) : S36864x1024.Idx → EReal := V m c main_v134
abbrev WA (c : Dev nD) : S16x1024x4096.Idx → EReal := V m c main_v1
abbrev GT (c : Dev nD) : S36864x128.Idx → EReal := V m c main_v138

theorem N288 : (cfgM m hO).N = 288 := N_0

theorem index0 (t : Fin (cfgM m hO).N) : ((cfgM m hO).win 0).index t = ![t.val / 4, 0] := ind0 t
theorem index2 (t : Fin (cfgM m hO).N) : ((cfgM m hO).win 2).index t = ![t.val / 4, 0] := ind2 t
theorem index3 (t : Fin (cfgM m hO).N) : ((cfgM m hO).win 3).index t = ![t.val / 4, t.val % 4] := ind3 t
theorem tri (t : Fin (cfgM m hO).N) : ![((tbl m 0 : IVec S72 32) (ValueIdx.ix1 (grid0.coords t 0))).toNat, 0, (grid0.coords t 1).val]
    = ![te m (t.val / 4) (by have := t.isLt; have := N288 m hO; omega), 0, t.val % 4] := by
  have h : t.val / 4 < 72 := by have := t.isLt; have := N288 m hO; omega
  have e : (grid0.coords t 0 : Fin 72) = ⟨t.val / 4, h⟩ := Fin.ext (crd0 t)
  rw [crd1]
  exact congrArg (fun q : Fin 72 => ![((tbl m 0 : IVec S72 32) (ValueIdx.ix1 q)).toNat, 0, t.val % 4]) e
theorem index1 (t : Fin (cfgM m hO).N) : ((cfgM m hO).win 1).index t
    = ![te m (t.val / 4) (by have := t.isLt; have := N288 m hO; omega), 0, t.val % 4] :=
  (tr1 (tbl m) (grid0.coords t)).trans (tri m hO t)

/-- The blocks a grid point reads. -/
def B0 (c : Dev nD) (t : Fin (cfgM m hO).N) : Vec Ideal S512x1024 .bf16 := iblk m hO c 0 t
def B1 (c : Dev nD) (t : Fin (cfgM m hO).N) : Vec Ideal S1x1024x1024 .bf16 := iblk m hO c 1 t
def B2 (c : Dev nD) (t : Fin (cfgM m hO).N) : Vec Ideal S512x128 .f32 := iblk m hO c 2 t

theorem blk0 (c : Dev nD) (t : Fin (cfgM m hO).N) (a : Fin 512) (k : Fin 1024) :
    (B0 m hO c t (ix2 a k) : EReal) = XR m c (ix2 ⟨512 * (t.val / 4) + a.val, by have := t.isLt; have := N288 m hO; have := a.isLt; omega⟩ k) := by
  show (V m c main_v134 : S36864x1024.Idx → EReal) ((((cfgM m hO).win 0).blk t).view.emb (ix2 a k)) = _
  refine congrArg (V m c main_v134 : S36864x1024.Idx → EReal) ?_
  funext x
  apply Fin.ext
  have e := index0 m hO t
  match x with
  | ⟨0, _⟩ =>
    show ((cfgM m hO).win 0).index t (0 : Fin 2) * 512 + 1 * a.val = _
    rw [e]; show t.val / 4 * 512 + 1 * a.val = 512 * (t.val / 4) + a.val; omega
  | ⟨1, _⟩ =>
    show ((cfgM m hO).win 0).index t (1 : Fin 2) * 1024 + 1 * k.val = _
    rw [e]; show 0 * 1024 + 1 * k.val = k.val; omega

theorem blk1 (c : Dev nD) (t : Fin (cfgM m hO).N) (k : Fin 1024) (b : Fin 1024) :
    (B1 m hO c t (ix3 0 k b) : EReal) = WA m c (ix3 ⟨te m (t.val / 4) (by have := t.isLt; have := N288 m hO; omega), te_lt m _ _⟩
      k ⟨1024 * (t.val % 4) + b.val, by have := b.isLt; omega⟩) := by
  show (V m c main_v1 : S16x1024x4096.Idx → EReal) ((((cfgM m hO).win 1).blk t).view.emb (ix3 0 k b)) = _
  refine congrArg (V m c main_v1 : S16x1024x4096.Idx → EReal) ?_
  funext x
  apply Fin.ext
  have e := index1 m hO t
  match x with
  | ⟨0, _⟩ =>
    show ((cfgM m hO).win 1).index t (0 : Fin 3) * 1 + 1 * 0 = _
    rw [e]; show te m (t.val / 4) _ * 1 + 1 * 0 = te m (t.val / 4) _; omega
  | ⟨1, _⟩ =>
    show ((cfgM m hO).win 1).index t (1 : Fin 3) * 1024 + 1 * k.val = _
    rw [e]; show 0 * 1024 + 1 * k.val = k.val; omega
  | ⟨2, _⟩ =>
    show ((cfgM m hO).win 1).index t (2 : Fin 3) * 1024 + 1 * b.val = _
    rw [e]; show t.val % 4 * 1024 + 1 * b.val = 1024 * (t.val % 4) + b.val; omega

theorem blk2 (c : Dev nD) (t : Fin (cfgM m hO).N) (a : Fin 512) (l : Fin 128) :
    (B2 m hO c t (ix2 a l) : EReal) = GT m c (ix2 ⟨512 * (t.val / 4) + a.val, by have := t.isLt; have := N288 m hO; have := a.isLt; omega⟩ l) := by
  show (V m c main_v138 : S36864x128.Idx → EReal) ((((cfgM m hO).win 2).blk t).view.emb (ix2 a l)) = _
  refine congrArg (V m c main_v138 : S36864x128.Idx → EReal) ?_
  funext x
  apply Fin.ext
  have e := index2 m hO t
  match x with
  | ⟨0, _⟩ =>
    show ((cfgM m hO).win 2).index t (0 : Fin 2) * 512 + 1 * a.val = _
    rw [e]; show t.val / 4 * 512 + 1 * a.val = 512 * (t.val / 4) + a.val; omega
  | ⟨1, _⟩ =>
    show ((cfgM m hO).win 2).index t (1 : Fin 2) * 128 + 1 * l.val = _
    rw [e]; show 0 * 128 + 1 * l.val = l.val; omega

/-- The rows of the product: each sorted hidden row through the matrix its tile's table entry names, times the row's gate. -/
def GR (c : Dev nD) (r : Fin 36864) (f : Fin 4096) : EReal :=
  (∑ k : Fin 1024, XR m c (ix2 r k) * WA m c (ix3 ⟨te m (r.val / 512) (by have := r.isLt; omega), te_lt m _ _⟩ k f))
    * GT m c (ix2 r ⟨f.val % 128, by omega⟩)

def G (c : Dev nD) : S36864x4096.Idx → EReal := fun i => GR m c (i 0) (i 1)

theorem out_eq (c : Dev nD) (t : Fin (cfgM m hO).N) : outsAt0 m hO c t = k0_pay1 (B0 m hO c t) (B1 m hO c t) (B2 m hO c t) :=
  out_A (F := Ideal) c (grid0.coords t) (ms0_0 m hO t) (hs0_0 m hO t) (ms0_1 m hO t) (hs0_1 m hO t) (ms0_2 m hO t) (hs0_2 m hO t) (ms0_3 m hO t) (hs0_3 m hO t)
    (iblk m hO c 0 t) (iblk m hO c 1 t) (iblk m hO c 2 t) (tbl m 0)

/-- What a grid point leaves in the output block. -/
theorem block_eq (c : Dev nD) (t : Fin (cfgM m hO).N) (a : Fin 512) (b : Fin 1024) :
    (outsAt0 m hO c t (ix2 a b) : EReal)
      = GR m c ⟨512 * (t.val / 4) + a.val, by have := t.isLt; have := N288 m hO; have := a.isLt; omega⟩ ⟨1024 * (t.val % 4) + b.val, by have := b.isLt; omega⟩ := by
  have hN := N288 m hO
  have ht := t.isLt
  have ha := a.isLt
  have hb := b.isLt
  have hte : ∀ s, (hs : s = t.val / 4) → ∀ h h', (⟨te m s h, te_lt m s h⟩ : Fin 16) = ⟨te m (t.val / 4) h', te_lt m _ h'⟩ :=
    fun s hs h h' => by subst hs; rfl
  rw [out_eq, pay_apply]
  unfold GR
  dsimp only
  rw [hte ((512 * (t.val / 4) + a.val) / 512) (by omega) _ (by omega), blk2]
  refine congrArg₂ (· * ·) (Finset.sum_congr rfl fun k _ => ?_) ?_
  · rw [blk0, blk1]
  · refine congrArg (fun q : Fin 128 => GT m c (ix2 _ q)) (Fin.ext ?_)
    show b.val % 128 = (1024 * (t.val % 4) + b.val) % 128
    omega

theorem flushed_eq (c : Dev nD) (t : Fin (cfgM m hO).N) :
    (dats m hO 0 c).flushed 3 t = (((cfgM m hO).win 3).blk t).view.read (Elt Ideal) (G m c) := by
  show ((cfgM m hO).win 3).cut (grid0.coords t) ((dats m hO 0 c).after 3 t) = _
  rw [after0_3]
  have e := index3 m hO t
  funext (y : S512x1024.Idx)
  have hy : (((cfgM m hO).win 3).xinj (grid0.coords t) y : S512x1024.Idx) = ix2 (y 0) (y 1) := by
    funext x; match x with | ⟨0, _⟩ => rfl | ⟨1, _⟩ => rfl
  show outsAt0 m hO c t (((cfgM m hO).win 3).xinj (grid0.coords t) y) = G m c ((((cfgM m hO).win 3).blk t).view.emb y)
  refine (congrArg (outsAt0 m hO c t) hy).trans ?_
  refine (block_eq m hO c t (y 0) (y 1)).trans ?_
  unfold G
  congr 1
  · apply Fin.ext
    show 512 * (t.val / 4) + (y 0).val = ((cfgM m hO).win 3).index t (0 : Fin 2) * 512 + 1 * (y 0).val
    rw [e]; show _ = t.val / 4 * 512 + 1 * (y 0).val; omega
  · apply Fin.ext
    show 1024 * (t.val % 4) + (y 1).val = ((cfgM m hO).win 3).index t (1 : Fin 2) * 1024 + 1 * (y 1).val
    rw [e]; show _ = t.val % 4 * 1024 + 1 * (y 1).val; omega

theorem mem3 (t : Fin (cfgM m hO).N) (i : S36864x4096.Idx) :
    i ∈ (((cfgM m hO).win 3).blk t).view.set ↔ ∀ a : Fin 2, ((cfgM m hO).win 3).index t a * S512x1024.size a ≤ (i a).val ∧ (i a).val < ((cfgM m hO).win 3).index t a * S512x1024.size a + S512x1024.size a := by
  have e : (((cfgM m hO).win 3).blk t).view.set = (((cfgM m hO).win 3).rect t).set := View.set_slice_whole _ _
  exact (iff_of_eq (congrArg (i ∈ ·) e)).trans Rect.mem_set_unit

theorem covered (i : S36864x4096.Idx) :
    ∃ t : Fin (cfgM m hO).N, ((cfgM m hO).win 3).flush t = true ∧ i ∈ (((cfgM m hO).win 3).blk t).view.set := by
  have hN := N288 m hO
  have h0 : (i 0).val < 36864 := (i 0).isLt
  have h1 : (i 1).val < 4096 := (i 1).isLt
  refine ⟨⟨4 * ((i 0).val / 512) + (i 1).val / 1024, by omega⟩, flush0_3 (adm m hO) _, ?_⟩
  rw [mem3, index3]
  intro a
  match a with
  | ⟨0, _⟩ => show (4 * ((i 0).val / 512) + (i 1).val / 1024) / 4 * 512 ≤ (i 0).val ∧ (i 0).val < (4 * ((i 0).val / 512) + (i 1).val / 1024) / 4 * 512 + 512; omega
  | ⟨1, _⟩ => show (4 * ((i 0).val / 512) + (i 1).val / 1024) % 4 * 1024 ≤ (i 1).val ∧ (i 1).val < (4 * ((i 0).val / 512) + (i 1).val / 1024) % 4 * 1024 + 1024; omega

/-- The rows of the product after the run. -/
theorem final3 (c : Dev nD) : (dats m hO 0 c).arrAt 3 (cfgM m hO).N = G m c :=
  (dats m hO 0 c).arrAt_eq_of_cover 3 _ (fun t _ => flushed_eq m hO c t) (fun i => covered m hO i)

end Cert.Kernel9Ideal.Moe

end
-- ==== Proof.DMoeTake.lean ====
module

public import proofs.«01_k».proof.Proof.DRouteRead
public import proofs.«01_k».proof.Proof.DRouteWord
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.ShloMosaic.WordCmp

namespace Cert.Kernel9Ideal.Moe

open Cert.Kernel9Ideal Facts₀

theorem v1 {n : ℕ} (a : Fin n) : ValueIdx.ix1 a = ix1 a := by funext x; match x with | ⟨0, _⟩ => rfl
theorem v2 {n k : ℕ} (a : Fin n) (b : Fin k) : ValueIdx.ix2 a b = ix2 a b := by funext x; match x with | ⟨0, _⟩ => rfl | ⟨1, _⟩ => rfl
theorem v3 {n k l : ℕ} (a : Fin n) (b : Fin k) (c : Fin l) : ValueIdx.ix3 a b c = ix3 a b c := by
  funext x; match x with | ⟨0, _⟩ => rfl | ⟨1, _⟩ => rfl | ⟨2, _⟩ => rfl

/-- A sorted row is the hidden row of the pair the route gives it. -/
theorem rowsT_ap {α : Type} (fl : IVec S32768 32) (h : S32768x1024.Idx → α) (r : Fin 36864) (p : Fin 32768) (k : Fin 1024)
    (e : pairT fl (ValueIdx.ix1 r) = BitVec.ofNat 32 p.val) : rowsT fl h (ix2 r k) = h (ix2 p k) := by
  rw [← v2, ← v2]
  unfold rowsT
  refine Routing.gather_row _ rfl rfl rfl rfl rfl h _ r k p ?_ (by decide)
  refine (Routing.bcCol ..).trans ?_
  exact wrap_ap _ _ _ _ e (by have := p.isLt; omega)

/-- The hidden rows, flat: a pair's row is its token's and its place's. -/
theorem hid_ap {α : Type} (h : S16384x2x1024.Idx → α) (t : Fin 16384) (s : Fin 2) (p : Fin 32768) (hp : p.val = 2 * t.val + s.val) (k : Fin 1024) :
    shapeCast S32768x1024 h shapeCasts_S16384x2x1024_S32768x1024 (ix2 p k) = h (ix3 t s k) := by
  refine shapeCast_apply h _ _ _ ?_
  rw [Shape.rowMajor_val_three, Shape.rowMajor_val_two]
  show (t.val * 2 + s.val) * 1024 + k.val = p.val * 1024 + k.val
  omega

/-- A row's gate, on every lane, is its pair's weight. -/
theorem gateT_ap {α : Type} (fl : IVec S32768 32) (w : S16384x2.Idx → α) (z : S_.Idx → α) (r : Fin 36864) (t : Fin 16384) (s : Fin 2) (l : Fin 128)
    (hv : validT fl (ValueIdx.ix1 r) = 1#1) (e : pairT fl (ValueIdx.ix1 r) = BitVec.ofNat 32 (2 * t.val + s.val)) : gateT fl w z (ix2 r l) = w (ix2 t s) := by
  have ht := t.isLt
  have hs := s.isLt
  rw [← v2, ← v2]
  unfold gateT
  refine (Routing.bcRows ..).trans ?_
  rw [select_at, hv, select_of_eq_one rfl, takeNr_ap _ _ r ⟨2 * t.val + s.val, by omega⟩ e]
  exact Routing.cast21 w shapeCasts_S16384x2_S32768 t s _ (by dsimp only; omega)

/-- A token's two rows are the product's rows at its destinations. -/
theorem pick0_ap {α : Type} (o : S36864x4096.Idx → α) (d : IVec S16384x2 32) (t : Fin 16384) (q : Fin 4096) (r : Fin 36864)
    (e : d (ValueIdx.ix2 t 0) = BitVec.ofNat 32 r.val) : pick0 o d (ix2 t q) = o (ix2 r q) := by
  have hr := r.isLt
  rw [← v2, ← v2]
  unfold pick0
  refine Routing.gather_row _ rfl rfl rfl rfl rfl o _ t q r ?_ (by decide)
  refine (Routing.bcCol ..).trans (wrap_ap _ _ _ _ ?_ (by omega))
  refine (Routing.cast21 _ shapeCasts_S16384x1_S16384 t (0 : Fin 1) t (by show t.val = t.val * 1 + 0; omega)).trans ?_
  rw [← e]
  unfold extractStridedSlice
  refine congrArg d (funext fun x => Fin.ext ?_)
  match x with
  | ⟨0, _⟩ => show 0 + t.val = t.val; omega
  | ⟨1, _⟩ => rfl
theorem pick1_ap {α : Type} (o : S36864x4096.Idx → α) (d : IVec S16384x2 32) (t : Fin 16384) (q : Fin 4096) (r : Fin 36864)
    (e : d (ValueIdx.ix2 t 1) = BitVec.ofNat 32 r.val) : pick1 o d (ix2 t q) = o (ix2 r q) := by
  have hr := r.isLt
  rw [← v2, ← v2]
  unfold pick1
  refine Routing.gather_row _ rfl rfl rfl rfl rfl o _ t q r ?_ (by decide)
  refine (Routing.bcCol ..).trans (wrap_ap _ _ _ _ ?_ (by omega))
  refine (Routing.cast21 _ shapeCasts_S16384x1_S16384 t (0 : Fin 1) t (by show t.val = t.val * 1 + 0; omega)).trans ?_
  rw [← e]
  unfold extractStridedSlice
  refine congrArg d (funext fun x => Fin.ext ?_)
  match x with
  | ⟨0, _⟩ => show 0 + t.val = t.val; omega
  | ⟨1, _⟩ => rfl

/-- A token's result is the sum of its two rows. -/
theorem backT_ap (o : S36864x4096.Idx → EReal) (d : IVec S16384x2 32) (t : Fin 16384) (q : Fin 4096) (r r' : Fin 36864)
    (e : d (ValueIdx.ix2 t 0) = BitVec.ofNat 32 r.val) (e' : d (ValueIdx.ix2 t 1) = BitVec.ofNat 32 r'.val) :
    (backT (F := Ideal) o d (ix2 t q) : EReal) = o (ix2 r q) + o (ix2 r' q) := by
  rw [← pick0_ap o d t q r e, ← pick1_ap o d t q r' e']
  unfold backT
  generalize pick0 o d = x
  generalize pick1 o d = y
  pointwise

/-- Every chosen expert's number is below eight. -/
theorem topK_small {α : Type} (gt : α → α → BitVec 1) (x : S16384x8.Idx → α) (t : Fin 16384) (s : Fin 2) :
    ∃ a : ℕ, a < 8 ∧ (Host.topK S16384x2 1 gt x sliceFits_S16384x8_S16384x2).2 (ix2 t s) = BitVec.ofNat 32 a := by
  have key : ∀ i : S16384x8.Idx, ∃ z : Fin 8, (Host.sort2 S16384x8 1 (fun l r : α × BitVec 32 => gt l.1 r.1) x
      (fun i => if hd : 1 < S16384x8.rank then iotaInDim S16384x8 32 ⟨1, hd⟩ i else 0#32)).2 i = BitVec.ofNat 32 z.val := fun i => by
    unfold Host.sort2
    rw [dif_pos (by decide)]
    dsimp only
    exact ⟨_, rfl⟩
  have key2 : ∀ i : S16384x2.Idx, ∃ z : Fin 8, (Host.topK S16384x2 1 gt x sliceFits_S16384x8_S16384x2).2 i = BitVec.ofNat 32 z.val := fun i => key _
  obtain ⟨z, hz⟩ := key2 (ix2 t s)
  exact ⟨z.val, z.isLt, hz⟩

/-- A matrix of the stacked weights, by layer and expert. -/
theorem w_ap {α : Type} (w : S2x8x1024x4096.Idx → α) (e : ℕ) (he : e < 8) (k : Fin 1024) (f : Fin 4096) :
    shapeCast S16x1024x4096 w shapeCasts_S2x8x1024x4096_S16x1024x4096 (ix3 ⟨e + 8, by omega⟩ k f) = w (ix4 1 ⟨e, he⟩ k f) := by
  refine shapeCast_apply w _ _ _ ?_
  rw [Shape.rowMajor_val_four, Shape.rowMajor_val_three]
  show ((1 * 8 + e) * 1024 + k.val) * 4096 + f.val = ((e + 8) * 1024 + k.val) * 4096 + f.val
  omega

end Cert.Kernel9Ideal.Moe

end
-- ==== Proof.DRefRun.lean ====
module

public import proofs.«01_k».proof.Proof.Gen.Reference9Ideal
public import Idealize.ShloMosaic.Lib.StableHlo.Run

@[expose] public section

set_option maxRecDepth 16384

noncomputable section

namespace Cert.Reference9Ideal.Value

open Cert.Reference9Ideal Cert.Reference9Ideal.Gen Idealize.ShloMosaic Idealize.ShloMosaic.TcCoe Idealize.SL.Sem Idealize.ShloMosaic.StableHlo

variable {F : FTy → Type} [FloatOps F]

/-- The operations of the reference in order, a called function's in its call's place. -/
abbrev ops : List (HloOp τ sig (Elt F)) :=
  [ unary main_arg1 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    unary main_arg1 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)),
    nullary main_cst (constant S_ .f32 0xFF800000#32),
    binary main_values main_cst main_v0 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x2 ![0, 1] bcast_S16384x1_S16384x2_0_1 : (⟨S16384x1, .f32⟩ : BufTy).Contents (Elt F) → (⟨S16384x2, .f32⟩ : BufTy).Contents (Elt F)),
    binary main_values main_v4 main_v5 (subf : (⟨S16384x2, .f32⟩ : BufTy).Contents (Elt F) → (⟨S16384x2, .f32⟩ : BufTy).Contents (Elt F) → (⟨S16384x2, .f32⟩ : BufTy).Contents (Elt F)),
    unary main_v5 main_v6 (Host.exp : (⟨S16384x2, .f32⟩ : BufTy).Contents (Elt F) → (⟨S16384x2, .f32⟩ : BufTy).Contents (Elt F)),
    nullary main_cst_1 (constant S_ .f32 0x00000000#32),
    binary main_v6 main_cst_1 main_v7 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x2 ![0, 1] bcast_S16384x1_S16384x2_0_1 : (⟨S16384x1, .f32⟩ : BufTy).Contents (Elt F) → (⟨S16384x2, .f32⟩ : BufTy).Contents (Elt F)),
    binary main_v6 main_v9 main_v10 (Host.divf : (⟨S16384x2, .f32⟩ : BufTy).Contents (Elt F) → (⟨S16384x2, .f32⟩ : BufTy).Contents (Elt F) → (⟨S16384x2, .f32⟩ : BufTy).Contents (Elt F)),
    TRef.unary (TRef.of (T := ⟨S16384x2, .i32⟩) main_indices) (TRef.of (T := ⟨S16384x2x1, .i32⟩) main_call0_v0) (broadcastInDim S16384x2x1 ![0, 1] bcast_S16384x2_S16384x2x1_0_1),
    TRef.nullary (TRef.of (T := ⟨S1x1x8, .i32⟩) main_call0_v1) (iotaInDim S1x1x8 32 2),
    TRef.unary (TRef.of (T := ⟨S16384x2x1, .i32⟩) main_call0_v0) (TRef.of (T := ⟨S16384x2x8, .i32⟩) main_call0_v2) (broadcastInDim S16384x2x8 ![0, 1, 2] bcast_S16384x2x1_S16384x2x8_0_1_2),
    TRef.unary (TRef.of (T := ⟨S1x1x8, .i32⟩) main_call0_v1) (TRef.of (T := ⟨S16384x2x8, .i32⟩) main_call0_v3) (broadcastInDim S16384x2x8 ![0, 1, 2] bcast_S1x1x8_S16384x2x8_0_1_2),
    TRef.binary (TRef.of (T := ⟨S16384x2x8, .i32⟩) main_call0_v2) (TRef.of (T := ⟨S16384x2x8, .i32⟩) main_call0_v3) (TRef.of (T := ⟨S16384x2x8, .i1⟩) main_call0_v4) (cmpi .eq),
    TRef.unary (TRef.of (T := ⟨S16384x2x8, .i1⟩) main_call0_v4) (TRef.of (T := ⟨S16384x2x8, .f32⟩) main_v11) (uitofp .f32),
    unary main_arg2 main_v12 ((extractStridedSlice S1x8x1024x4096 ![1, 0, 0, 0] · slices_S2x8x1024x4096_S1x8x1024x4096_1_0_0_0) : (⟨S2x8x1024x4096, .f32⟩ : BufTy).Contents (Elt F) → (⟨S1x8x1024x4096, .f32⟩ : BufTy).Contents (Elt F)),
    reshape main_v12 main_v13 (rfl : (.f32 : EltTy) = .f32) shapeCasts_S1x8x1024x4096_S8x1024x4096,
    binary main_arg0 main_v13 main_v14 ((fun l r => Host.dotGeneral dot_S16384x2x1024_S8x1024x4096_S16384x2x8x4096_2_1_01_02_n_n none l r) : (⟨S16384x2x1024, .f32⟩ : BufTy).Contents (Elt F) → (⟨S8x1024x4096, .f32⟩ : BufTy).Contents (Elt F) → (⟨S16384x2x8x4096, .f32⟩ : BufTy).Contents (Elt F)),
    binary main_v11 main_v14 main_v15 ((fun l r => Host.dotGeneral dot_S16384x2x8_S16384x2x8x4096_S16384x2x4096_2_2_n_3_01_01 none l r) : (⟨S16384x2x8, .f32⟩ : BufTy).Contents (Elt F) → (⟨S16384x2x8x4096, .f32⟩ : BufTy).Contents (Elt F) → (⟨S16384x2x4096, .f32⟩ : BufTy).Contents (Elt F)),
    unary main_v10 main_v16 (broadcastInDim S16384x2x1 ![0, 1] bcast_S16384x2_S16384x2x1_0_1 : (⟨S16384x2, .f32⟩ : BufTy).Contents (Elt F) → (⟨S16384x2x1, .f32⟩ : BufTy).Contents (Elt F)),
    unary main_v16 main_v17 (broadcastInDim S16384x2x4096 ![0, 1, 2] bcast_S16384x2x1_S16384x2x4096_0_1_2 : (⟨S16384x2x1, .f32⟩ : BufTy).Contents (Elt F) → (⟨S16384x2x4096, .f32⟩ : BufTy).Contents (Elt F)),
    binary main_v17 main_v15 main_v18 (mulf : (⟨S16384x2x4096, .f32⟩ : BufTy).Contents (Elt F) → (⟨S16384x2x4096, .f32⟩ : BufTy).Contents (Elt F) → (⟨S16384x2x4096, .f32⟩ : BufTy).Contents (Elt F)),
    nullary main_cst_2 (constant S_ .f32 0x00000000#32),
    binary main_v18 main_cst_2 main_v19 ((fun x v => Host.reduceAdd x v reducesTo_S16384x2x4096_S16384x4096_d1 h_S_) : (⟨S16384x2x4096, .f32⟩ : BufTy).Contents (Elt F) → (⟨S_, .f32⟩ : BufTy).Contents (Elt F) → (⟨S16384x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., reshape_bufs_sub .., binary_bufs_sub .., binary_bufs_sub .., unary_bufs_sub .., unary_bufs_sub .., binary_bufs_sub .., nullary_bufs_sub .., binary_bufs_sub ..⟩

/-- The weights of the layer taken. -/
def lay (w : FVec F S2x8x1024x4096 .f32) : FVec F S8x1024x4096 .f32 :=
  shapeCast S8x1024x4096 (extractStridedSlice S1x8x1024x4096 ![1, 0, 0, 0] w slices_S2x8x1024x4096_S1x8x1024x4096_1_0_0_0) shapeCasts_S1x8x1024x4096_S8x1024x4096

/-- Every pair's hidden row through every expert's matrix. -/
def all (h : FVec F S16384x2x1024 .f32) (w : FVec F S2x8x1024x4096 .f32) : FVec F S16384x2x8x4096 .f32 :=
  Host.dotGeneral dot_S16384x2x1024_S8x1024x4096_S16384x2x8x4096_2_1_01_02_n_n none h (lay w)

/-- A softmax of the chosen experts' logits. -/
def soft (x : FVec F S16384x2 .f32) : FVec F S16384x2 .f32 :=
  let e : FVec F S16384x2 .f32 := Host.exp (subf x (broadcastInDim S16384x2 ![0, 1] bcast_S16384x1_S16384x2_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x2_S16384_d1 h_S_)))))
  Host.divf e (broadcastInDim S16384x2 ![0, 1] bcast_S16384x1_S16384x2_0_1 (broadcastInDim S16384x1 ![0] bcast_S16384_S16384x1_0
    (Host.reduceAdd e (constant S_ .f32 0x00000000#32) reducesTo_S16384x2_S16384_d1 h_S_)))

/-- The weights of the chosen pairs. -/
def wts (l : FVec F S16384x8 .f32) : FVec F S16384x2 .f32 :=
  soft (Host.topK S16384x2 1 (FloatOps.cmpfTotal (F := F) (φ := .f32) .gt) l sliceFits_S16384x8_S16384x2).1

/-- The chosen experts' numbers. -/
def pick (l : FVec F S16384x8 .f32) : IVec S16384x2 32 :=
  (Host.topK S16384x2 1 (FloatOps.cmpfTotal (F := F) (φ := .f32) .gt) l sliceFits_S16384x8_S16384x2).2

def oneHot (p : IVec S16384x2 32) : FVec F S16384x2x8 .f32 :=
  uitofp .f32 (cmpi .eq (broadcastInDim S16384x2x8 ![0, 1, 2] bcast_S16384x2x1_S16384x2x8_0_1_2 (broadcastInDim S16384x2x1 ![0, 1] bcast_S16384x2_S16384x2x1_0_1 p))
    (broadcastInDim S16384x2x8 ![0, 1, 2] bcast_S1x1x8_S16384x2x8_0_1_2 (iotaInDim S1x1x8 32 2)))

/-- The chosen expert's row for every pair. -/
def sel (h : FVec F S16384x2x1024 .f32) (p : IVec S16384x2 32) (w : FVec F S2x8x1024x4096 .f32) : FVec F S16384x2x4096 .f32 :=
  Host.dotGeneral dot_S16384x2x8_S16384x2x8x4096_S16384x2x4096_2_2_n_3_01_01 none (oneHot (F := F) p) (all h w)

/-- The pairs' rows times their weights, added for every token. -/
def mix (g : FVec F S16384x2 .f32) (y : FVec F S16384x2x4096 .f32) : FVec F S16384x4096 .f32 :=
  Host.reduceAdd (mulf (broadcastInDim S16384x2x4096 ![0, 1, 2] bcast_S16384x2x1_S16384x2x4096_0_1_2 (broadcastInDim S16384x2x1 ![0, 1] bcast_S16384x2_S16384x2x1_0_1 g)) y)
    (constant S_ .f32 0x00000000#32) reducesTo_S16384x2x4096_S16384x4096_d1 h_S_

def out (h : FVec F S16384x2x1024 .f32) (l : FVec F S16384x8 .f32) (w : FVec F S2x8x1024x4096 .f32) : FVec F S16384x4096 .f32 :=
  mix (wts l) (sel h (pick l) w)

set_option maxHeartbeats 1700000 in
/-- The reference's run: its result, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (by unfold out mix sel oneHot pick all lay wts soft; simp only [ops, TRef.binary, TRef.nullary, TRef.unary, TRef.toBuf, TRef.ofBuf, cast_eq]; after_results <;> rfl),
      (h c main_arg0).trans (by simp only [ops, TRef.binary, TRef.nullary, TRef.unary, TRef.toBuf, TRef.ofBuf, cast_eq]; after_results <;> rfl),
      (h c main_arg1).trans (by simp only [ops, TRef.binary, TRef.nullary, TRef.unary, TRef.toBuf, TRef.ofBuf, cast_eq]; after_results <;> rfl),
      (h c main_arg2).trans (by simp only [ops, TRef.binary, TRef.nullary, TRef.unary, TRef.toBuf, TRef.ofBuf, cast_eq]; after_results <;> rfl)⟩)
    (run_seq scopedRefs_eq scopedSems_eq defs main (fun _ => ops) main_eq (fun _ => ops_sub) m ρ)

end Cert.Reference9Ideal.Value

end
-- ==== Proof.DRefVal.lean ====
module

public import proofs.«01_k».proof.Proof.DRefRun
public import Idealize.ShloMosaic.Lib.Pointwise
public import Idealize.ShloMosaic.Lib.WordCmp
public import Idealize.ShloMosaic.Lib.Tactic
public import Idealize.ShloMosaic.PureOps.Ideal

@[expose] public section

set_option maxRecDepth 16384

noncomputable section

namespace Cert.Reference9Ideal.Value

open Cert.Reference9Ideal Cert.Reference9Ideal.Gen Idealize.ShloMosaic Idealize.ShloMosaic.TcCoe

theorem all_apply (h : FVec Ideal S16384x2x1024 .f32) (w : FVec Ideal S2x8x1024x4096 .f32) (t : Fin 16384) (s : Fin 2) (e : Fin 8) (q : Fin 4096) :
    (all h w (ix4 t s e q) : EReal) = ∑ k : Fin 1024, (h (ix3 t s k) : EReal) * w (ix4 1 e k q) := by
  unfold all lay
  pointwise

theorem sel_sum (h : FVec Ideal S16384x2x1024 .f32) (p : IVec S16384x2 32) (w : FVec Ideal S2x8x1024x4096 .f32) (t : Fin 16384) (s : Fin 2) (q : Fin 4096) :
    (sel h p w (ix3 t s q) : EReal) = ∑ e : Fin 8, (oneHot (F := Ideal) p (ix3 t s e) : EReal) * all h w (ix4 t s e q) := by
  unfold sel
  generalize oneHot (F := Ideal) p = o
  generalize all h w = b
  pointwise

theorem mix_apply (g : FVec Ideal S16384x2 .f32) (y : FVec Ideal S16384x2x4096 .f32) (t : Fin 16384) (q : Fin 4096) :
    (mix g y (ix2 t q) : EReal) = ∑ s : Fin 2, (g (ix2 t s) : EReal) * y (ix3 t s q) := by
  unfold mix
  pointwise

theorem oneHot_apply (p : IVec S16384x2 32) (t : Fin 16384) (s : Fin 2) (e : Fin 8) (a : ℕ) (ha : a < 8) (hp : p (ix2 t s) = BitVec.ofNat 32 a) :
    (oneHot (F := Ideal) p (ix3 t s e) : EReal) = if e.val = a then 1 else 0 := by
  unfold oneHot
  pointwise
  rw [hp]
  have h8 := e.isLt
  by_cases h : e.val = a
  · subst h
    rw [if_pos rfl]
    have hc : IntOp.cmpi CmpIPredicate.eq (BitVec.ofNat 32 e.val) (BitVec.ofNat 32 e.val) = 1#1 := (WordCmp.cmpi_eq_ofNat_eq_one_iff (w := 32) (by omega) (by omega)).mpr rfl
    rw [hc]
    show (((1#1 : BitVec 1).toNat : ℝ) : EReal) = 1
    simp
  · rw [if_neg h]
    have hc : ¬ IntOp.cmpi CmpIPredicate.eq (BitVec.ofNat 32 a) (BitVec.ofNat 32 e.val) = 1#1 := fun q =>
      h ((WordCmp.cmpi_eq_ofNat_eq_one_iff (w := 32) (by omega) (by omega)).mp q).symm
    generalize IntOp.cmpi CmpIPredicate.eq (BitVec.ofNat 32 a) (BitVec.ofNat 32 e.val) = q at hc
    have hq : q = 0#1 := by revert hc; revert q; decide
    rw [hq]
    show (((0#1 : BitVec 1).toNat : ℝ) : EReal) = 0
    simp

/-- A pair's row is the chosen expert's. -/
theorem sel_apply (h : FVec Ideal S16384x2x1024 .f32) (p : IVec S16384x2 32) (w : FVec Ideal S2x8x1024x4096 .f32)
    (t : Fin 16384) (s : Fin 2) (q : Fin 4096) (a : ℕ) (ha : a < 8) (hp : p (ix2 t s) = BitVec.ofNat 32 a) :
    (sel h p w (ix3 t s q) : EReal) = ∑ k : Fin 1024, (h (ix3 t s k) : EReal) * w (ix4 1 ⟨a, ha⟩ k q) := by
  rw [sel_sum, Finset.sum_eq_single (⟨a, ha⟩ : Fin 8)]
  · rw [oneHot_apply _ t s ⟨a, ha⟩ a ha hp, if_pos rfl, one_mul, all_apply]
  · intro e _ he
    rw [oneHot_apply _ t s e a ha hp, if_neg (fun q => he (Fin.ext q)), zero_mul]
  · exact fun q => absurd (Finset.mem_univ _) q

end Cert.Reference9Ideal.Value

end
-- ==== Proof.DMoeAlg.lean ====
module

public import proofs.«01_k».proof.Defs
public import proofs.«01_k».proof.Proof.DMoeVal
public import proofs.«01_k».proof.Proof.DMoeTake
public import proofs.«01_k».proof.Proof.DRefVal

@[expose] public section

set_option maxRecDepth 16384
set_option maxHeartbeats 1000000

noncomputable section

open Idealize.ShloMosaic Idealize.ShloMosaic.TcCoe Idealize.SL.Sem

namespace Cert.Kernel9Ideal.Moe

open Cert.Kernel9Ideal Cert.Kernel9Ideal.Gen

abbrev H0 (m : (ℓ : Loc nD τ sig) → Buf (Elt Ideal) ℓ) (c : Dev nD) : FVec Ideal S16384x2x1024 .f32 := m ((c : Thread nD τ).loc main_arg0)
abbrev L1 (m : (ℓ : Loc nD τ sig) → Buf (Elt Ideal) ℓ) (c : Dev nD) : FVec Ideal S16384x8 .f32 := m ((c : Thread nD τ).loc main_arg1)
abbrev W2 (m : (ℓ : Loc nD τ sig) → Buf (Elt Ideal) ℓ) (c : Dev nD) : FVec Ideal S2x8x1024x4096 .f32 := m ((c : Thread nD τ).loc main_arg2)

variable (m : (ℓ : Loc nD τ sig) → Buf (Elt Ideal) ℓ)

/-- The chosen experts and their weights are the reference's. -/
abbrev top (c : Dev nD) : IVec S16384x2 32 := Cert.Reference9Ideal.Value.pick (F := Ideal) (L1 m c)

theorem wt_eq (c : Dev nD) : wt m c = Cert.Reference9Ideal.Value.wts (F := Ideal) (L1 m c) := rfl

theorem top_small (c : Dev nD) (t : Fin 16384) (s : Fin 2) : ∃ a : ℕ, a < 8 ∧ top m c (ix2 t s) = BitVec.ofNat 32 a :=
  topK_small (FloatOps.cmpfTotal (F := Ideal) (φ := .f32) .gt) (L1 m c) t s

theorem fl_top (c : Dev nD) (t : Fin 16384) (s : Fin 2) (p : Fin 32768) (hp : p.val = t.val * 2 + s.val) :
    fl m c (ValueIdx.ix1 p) = top m c (ix2 t s) := by
  rw [← v2]
  exact Routing.cast21 (top m c) shapeCasts_S16384x2_S32768 t s p hp

/-- The program's result. -/
def res (c : Dev nD) : S16384x4096.Idx → EReal := backT (F := Ideal) (G m c) (V m c main_v125)

/-- The row of the product at a pair's destination: the reference's row of that pair times its weight. -/
theorem row_apply (t : Fin 16384) (s : Fin 2) (q : Fin 4096) : ∃ r : Fin 36864, (V m 0 main_v125 : IVec S16384x2 32) (ValueIdx.ix2 t s) = BitVec.ofNat 32 r.val
    ∧ GR m 0 r q = (Cert.Reference9Ideal.Value.wts (F := Ideal) (L1 m 0) (ix2 t s) : EReal)
        * (Cert.Reference9Ideal.Value.sel (H0 m 0) (top m 0) (W2 m 0) (ix3 t s q) : EReal) := by
  classical
  have hall : ∀ p : Fin 32768, ∃ a : ℕ, a < 8 ∧ fl m 0 (ValueIdx.ix1 p) = BitVec.ofNat 32 a := fun p => by
    have hp := p.isLt
    rw [fl_top m 0 ⟨p.val / 2, by omega⟩ ⟨p.val % 2, by omega⟩ p (by dsimp only; omega)]
    exact top_small m 0 _ _
  choose b hb hfb using hall
  let a : ℕ → ℕ := fun p => if h : p < 32768 then b ⟨p, h⟩ else 0
  have ha : ∀ p, a p < 8 := fun p => by
    show (if h : p < 32768 then b ⟨p, h⟩ else 0) < 8
    split
    · exact hb _
    · omega
  have hfl : ∀ p : Fin 32768, fl m 0 (ValueIdx.ix1 p) = BitVec.ofNat 32 (a p.val) := fun p => by
    rw [show a p.val = b p from dif_pos p.isLt]
    exact hfb p
  obtain ⟨r, h1, hv, h2, h3⟩ := route (fl m 0) a ha hfl t s
  clear_value a
  have ht := t.isLt
  have hs := s.isLt
  have he : top m 0 (ix2 t s) = BitVec.ofNat 32 (a (2 * t.val + s.val)) := by
    rw [← fl_top m 0 t s ⟨2 * t.val + s.val, by omega⟩ (by dsimp only; omega)]
    exact hfl _
  have hae := ha (2 * t.val + s.val)
  generalize a (2 * t.val + s.val) = e at he h3 hae
  refine ⟨r, by rw [V_dest]; exact h1, ?_⟩
  rw [Cert.Reference9Ideal.Value.sel_apply _ _ _ t s q e hae he, mul_comm]
  have hte : te m (r.val / 512) (by have := r.isLt; omega) = e + 8 := by
    unfold te
    rw [tbl_eq, h3, BitVec.toNat_ofNat]
    omega
  have hX : ∀ k, XR m 0 (ix2 r k) = H0 m 0 (ix3 t s k) := fun k => by
    unfold XR
    rw [V_rows, rowsT_ap _ _ r ⟨2 * t.val + s.val, by omega⟩ k h2, hid_ap _ t s _ rfl k]
    rfl
  have hf : (⟨te m (r.val / 512) (by have := r.isLt; omega), te_lt m _ _⟩ : Fin 16) = ⟨e + 8, by omega⟩ := Fin.ext hte
  have hA : ∀ k, WA m 0 (ix3 ⟨e + 8, by omega⟩ k q) = W2 m 0 (ix4 1 ⟨e, hae⟩ k q) := fun k => by
    unfold WA
    rw [V_w, w_ap _ e hae k q]
    rfl
  have hg : ∀ l, GT m 0 (ix2 r l) = (Cert.Reference9Ideal.Value.wts (F := Ideal) (L1 m 0) (ix2 t s) : EReal) := fun l => by
    unfold GT
    rw [V_gate, gateT_ap _ _ _ r t s l hv h2, wt_eq]
  unfold GR
  rw [hf, hg]
  simp only [hX, hA]

theorem res_apply (t : Fin 16384) (q : Fin 4096) :
    res m 0 (ix2 t q) = (Cert.Reference9Ideal.Value.out (H0 m 0) (L1 m 0) (W2 m 0) (ix2 t q) : EReal) := by
  obtain ⟨r, h1, h2⟩ := row_apply m t 0 q
  obtain ⟨r', h1', h2'⟩ := row_apply m t 1 q
  unfold res Cert.Reference9Ideal.Value.out
  rw [Cert.Reference9Ideal.Value.mix_apply, Fin.sum_univ_two, backT_ap (G m 0) (V m 0 main_v125) t q r r' h1 h1', ← h2, ← h2']
  rfl

/-- The kernel's run leaves its result and keeps its arguments. -/
theorem run_res (ρ : Dev nD → PrngReg) : θ_run defs (onTc (τ := τ) (main (F := Ideal))) ⟨m, fun _ => 0, ρ⟩ fun r => ∀ c : Dev nD,
    r.2.mem ((c : Thread nD τ).loc main_v162) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h1 : θ_run defs (onTc (τ := τ) (main (F := Ideal))) ⟨m, fun _ => 0, ρ⟩ fun r => ∀ c : Dev nD, r.2.mem ((c : Thread nD τ).loc main_v162) = res m c :=
    (θ_run defs _ _).mono (fun r h c => ((h c).2 main_v162 (by decide : main_v162 ∈ Pipeline.restRefs sig spec0)).trans (by rw [tail_out, final3]; rfl)) (run_main m ρ (ok m))
  exact (θ_run defs _ _).mono (fun r h c => ⟨h.1 c, h.2.1 c⟩) (θ_run_and h1 (Gen.frame m ρ (ok m)))

theorem frame_ideal : Cert.quiescent_Kernel9Ideal := fun m ρ _ => Gen.frame (F := Ideal) m ρ (ok m)

theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The value claim. -/
theorem alg : Cert.algebraic_Kernel9Ideal_Reference9Ideal := fun m ρ m' ρ' _ hag =>
  ⟨fun c => res m c, run_res m ρ,
    (θ_run _ _ _).mono (fun _ h c => ⟨(h c).1.trans (by
      obtain ⟨e0, e1, e2⟩ := hag c
      obtain rfl : c = 0 := Subsingleton.elim _ _
      funext i
      idx_vars i
      refine Eq.trans ?_ (res_apply m i0 i1).symm
      rw [e0, e1, e2]), (h c).2⟩) (Cert.Reference9Ideal.Value.run m' ρ')⟩

end Cert.Kernel9Ideal.Moe

end
-- ==== Proof.KDRouteRead.lean ====
module

public import proofs.«01_k».proof.Proof.KDRouteDefs
public import proofs.«01_k».proof.Proof.Gen.Kernel9.Frame.Runs
public import Idealize.ShloMosaic.Lib.StableHlo.RunRead

@[expose] public section

set_option maxRecDepth 100000
set_option maxHeartbeats 8000000

noncomputable section

open Idealize.ShloMosaic Idealize.ShloMosaic.TcCoe Idealize.SL.Sem

namespace Cert.Kernel9.Moe

open Cert.Kernel9 Cert.Kernel9.Gen StableHlo

variable {F : FTy → Type} [FloatOps F] (m : (ℓ : Loc nD τ sig) → Buf (Elt F) ℓ)

abbrev fl (c : Dev nD) : IVec S32768 32 :=
  flat (Host.topK S16384x2 1 (FloatOps.cmpfTotal (F := F) (φ := .f32) .gt) (m ((c : Thread nD τ).loc main_arg1) : Vec F S16384x8 .f32) sliceFits_S16384x8_S16384x2).2

theorem V_table (c : Dev nD) : (V m c main_v136 : IVec S72 32) = tableT (fl m c) := by
  unfold V V0
  after_reads_simp
  unfold tableT tileE peT padT cntT cums
  simp -implicitDefEqProofs only [StableHlo.TRef.toBuf, StableHlo.TRef.ofBuf, cast_cast, cast_eq, id]
  rfl

end Cert.Kernel9.Moe

end
-- ==== Proof.KDFrame.lean ====
module

public import proofs.«01_k».proof.Proof.KDMoeOk
public import proofs.«01_k».proof.Proof.Gen.Kernel9.Frame

@[expose] public section

set_option maxRecDepth 16384

noncomputable section

open Idealize.ShloMosaic Idealize.ShloMosaic.TcCoe

namespace Cert.Kernel9.Moe

theorem frame_kernel : Cert.quiescent_Kernel9 := fun m ρ _ => Gen.frame (F := Bits) m ρ (ok m)

end Cert.Kernel9.Moe

end
-- ==== Proof.Val8.lean ====
module

public import proofs.«01_k».proof.Defs
public import proofs.«01_k».proof.Proof.Gen.Kernel8Ideal.Value
public import proofs.«01_k».proof.Proof.Gen.Reference8Ideal.Run
public import Idealize.ShloMosaic.Lib.Pipeline.Value
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Kernel8Ideal.Val

open Cert.Kernel8Ideal Cert.Kernel8Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

abbrev A0 (c : Dev nD) : S2x8192x4096.Idx → EReal := m ((c : Thread nD τ).loc main_arg0)
abbrev A1 (c : Dev nD) : S4x4096.Idx → EReal := m ((c : Thread nD τ).loc main_arg1)
abbrev A2 (c : Dev nD) : S2x1x4096.Idx → EReal := m ((c : Thread nD τ).loc main_arg2)
abbrev A3 (c : Dev nD) : S2x1x4096.Idx → EReal := m ((c : Thread nD τ).loc main_arg3)

/-- The operands as the region finds them. -/
theorem V_x (c : Dev nD) (r : Fin 16384) (q : Fin 4096) : (V m c main_v0 : S16384x4096.Idx → EReal) (ix2 r q)
    = A0 m c (ix3 ⟨r.val / 8192, by omega⟩ ⟨r.val % 8192, by omega⟩ q) := by
  have e : (V m c main_v0 : S16384x4096.Idx → EReal) = shapeCast (α := Elt Ideal .f32) S16384x4096 (A0 m c) shapeCasts_S2x8192x4096_S16384x4096 := by
    unfold_abbrev_sides
    after_results
    try rfl
  rw [e]
  pointwise
theorem V_w (c : Dev nD) (q : Fin 4096) : (V m c main_v3 : S1x4096.Idx → EReal) (ix2 0 q) = A1 m c (ix2 0 q) := by
  have e : (V m c main_v3 : S1x4096.Idx → EReal) = broadcastInDim (α := Elt Ideal .f32) S1x4096 ![1] bcast_S4096_S1x4096_1
      (shapeCast (α := Elt Ideal .f32) S4096 (extractStridedSlice (α := Elt Ideal .f32) S1x4096 ![0, 0] (A1 m c) slices_S4x4096_S1x4096_0_0) shapeCasts_S1x4096_S4096) := by
    unfold_abbrev_sides
    after_results
    try rfl
  rw [e]
  pointwise
theorem V_s (c : Dev nD) : (V m c main_arg2 : S2x1x4096.Idx → EReal) = A2 m c := by
  unfold_abbrev_sides
  after_results
  try rfl
theorem V_c (c : Dev nD) : (V m c main_arg3 : S2x1x4096.Idx → EReal) = A3 m c := by
  unfold_abbrev_sides
  after_results
  try rfl

theorem N64 : cfg0.N = 64 := N_0

theorem idx0 : ∀ t : Fin cfg0.N, win0_0.index t = ![t.val, 0] :=
  (by decide +kernel : ∀ t : Fin grid0.N, _)
theorem blk0 (c : Dev nD) (t : Fin cfg0.N) (a : Fin 256) (k : Fin 4096) :
    (iblk m c 0 t (ix2 a k) : EReal) = A0 m c (ix3 ⟨(256 * t.val + a.val) / 8192, by have := lt_of_lt_of_eq t.isLt N64; have := a.isLt; omega⟩
      ⟨(256 * t.val + a.val) % 8192, by omega⟩ k) := by
  refine Eq.trans ?_ (V_x m c ⟨256 * t.val + a.val, by have := lt_of_lt_of_eq t.isLt N64; have := a.isLt; omega⟩ k)
  unfold iblk
  rw [View.read_apply]
  refine congrArg (V m c main_v0 : S16384x4096.Idx → EReal) ?_
  funext x
  apply Fin.ext
  have e := idx0 t
  match x with
  | ⟨0, _⟩ =>
    show win0_0.index t 0 * 256 + 1 * a.val = _
    rw [e]; show t.val * 256 + 1 * a.val = 256 * t.val + a.val; omega
  | ⟨1, _⟩ =>
    show win0_0.index t 1 * 4096 + 1 * k.val = _
    rw [e]; show 0 * 4096 + 1 * k.val = k.val; omega

theorem idx1 : ∀ t : Fin cfg0.N, win0_1.index t = ![0, 0] :=
  (by decide +kernel : ∀ t : Fin grid0.N, _)
theorem blk1 (c : Dev nD) (t : Fin cfg0.N) (k : Fin 4096) : (iblk m c 1 t (ix2 0 k) : EReal) = A1 m c (ix2 0 k) := by
  refine Eq.trans ?_ (V_w m c k)
  unfold iblk
  rw [View.read_apply]
  refine congrArg (V m c main_v3 : S1x4096.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 4096 + 1 * k.val = _
    rw [e]; show 0 * 4096 + 1 * k.val = k.val; omega

theorem idx2 : ∀ t : Fin cfg0.N, win0_2.index t = ![t.val / 32, 0, 0] :=
  (by decide +kernel : ∀ t : Fin grid0.N, _)
theorem blk2 (c : Dev nD) (t : Fin cfg0.N) (k : Fin 4096) :
    (iblk m c 2 t (ix3 0 0 k) : EReal) = A2 m c (ix3 ⟨t.val / 32, by have := lt_of_lt_of_eq t.isLt N64; omega⟩ 0 k) := by
  rw [← V_s]
  unfold iblk
  rw [View.read_apply]
  refine congrArg (V m c main_arg2 : S2x1x4096.Idx → EReal) ?_
  funext x
  apply Fin.ext
  have e := idx2 t
  match x with
  | ⟨0, _⟩ =>
    show win0_2.index t 0 * 1 + 1 * 0 = _
    rw [e]; show t.val / 32 * 1 + 1 * 0 = t.val / 32; omega
  | ⟨1, _⟩ =>
    show win0_2.index t 1 * 1 + 1 * 0 = _
    rw [e]; rfl
  | ⟨2, _⟩ =>
    show win0_2.index t 2 * 4096 + 1 * k.val = _
    rw [e]; show 0 * 4096 + 1 * k.val = k.val; omega

theorem idx3 : ∀ t : Fin cfg0.N, win0_3.index t = ![t.val / 32, 0, 0] :=
  (by decide +kernel : ∀ t : Fin grid0.N, _)
theorem blk3 (c : Dev nD) (t : Fin cfg0.N) (k : Fin 4096) :
    (iblk m c 3 t (ix3 0 0 k) : EReal) = A3 m c (ix3 ⟨t.val / 32, by have := lt_of_lt_of_eq t.isLt N64; omega⟩ 0 k) := by
  rw [← V_c]
  unfold iblk
  rw [View.read_apply]
  refine congrArg (V m c main_arg3 : S2x1x4096.Idx → EReal) ?_
  funext x
  apply Fin.ext
  have e := idx3 t
  match x with
  | ⟨0, _⟩ =>
    show win0_3.index t 0 * 1 + 1 * 0 = _
    rw [e]; show t.val / 32 * 1 + 1 * 0 = t.val / 32; omega
  | ⟨1, _⟩ =>
    show win0_3.index t 1 * 1 + 1 * 0 = _
    rw [e]; rfl
  | ⟨2, _⟩ =>
    show win0_3.index t 2 * 4096 + 1 * k.val = _
    rw [e]; show 0 * 4096 + 1 * k.val = k.val; omega

/-- One over the root of a row's mean square, from the sum of its squares. -/
def inv (s : EReal) : EReal :=
  FloatOps.rsqrt (F := Ideal) (φ := .f32) (FloatOps.addf (F := Ideal) (φ := .f32)
    (FloatOps.divf (F := Ideal) (φ := .f32) s (Scalar.ofBits .f32 0x45800000#32)) (Scalar.ofBits .f32 0x358637BD#32))

/-- The block written back, at an element. -/
theorem out_apply (x0 : Vec Ideal S256x4096 .f32) (x1 : Vec Ideal S1x4096 .f32) (x2 x3 : Vec Ideal S1x1x4096 .f32) (a : Fin 256) (b : Fin 4096) :
    (out0_4 x0 x1 x2 x3 (ix2 a b) : EReal)
      = (((x0 (ix2 a b) : EReal) * inv (∑ k : Fin 4096, (x0 (ix2 a k) : EReal) * x0 (ix2 a k))) * x1 (ix2 0 b)) * ((Scalar.ofBits (F := Ideal) .f32 0x3F800000#32 : EReal) + x3 (ix3 0 0 b))
        + x2 (ix3 0 0 b) := by
  unfold out0_4
  rw [View.canon_unit_zero (S := S256x4096) hz2]
  simp only [View.ld_unit_zero (S := S256x4096) hz2, View.ld_unit_zero (S := S1x4096) hz2, View.ld_unit_zero (S := S1x1x4096) hz3]
  unfold k0_pay1 inv
  pointwise

theorem flush4 : ∀ t : Fin cfg0.N, (cfg0.win 4).flush t = true := (by decide +kernel : ∀ t : Fin grid0.N, win0_4.flush t = true)
theorem idx4 : ∀ t : Fin cfg0.N, win0_4.index t = ![t.val, 0] := (by decide +kernel : ∀ t : Fin grid0.N, _)

/-- The output array after the run, at an element of block `t`. -/
theorem arr_at (c : Dev nD) (t : Fin cfg0.N) (a : Fin 256) (q : Fin 4096) (r : Fin 16384) (hr : r.val = 256 * t.val + a.val) :
    ((dats m 0 c).arrAt 4 cfg0.N (ix2 r q) : EReal) = out0_4 (iblk m c 0 t) (iblk m c 1 t) (iblk m c 2 t) (iblk m c 3 t) (ix2 a q) := by
  have h := congrFun ((Value.blocks4 m c t (flush4 t)).trans (Value.flushed4 m c t)) (ix2 a q)
  refine Eq.trans ?_ h
  rw [View.read_apply]
  refine congrArg ((dats m 0 c).arrAt 4 cfg0.N : S16384x4096.Idx → EReal) ?_
  funext x
  apply Fin.ext
  have e := idx4 t
  match x with
  | ⟨0, _⟩ =>
    show r.val = win0_4.index t 0 * 256 + 1 * a.val
    rw [e]; show r.val = t.val * 256 + 1 * a.val; omega
  | ⟨1, _⟩ =>
    show q.val = win0_4.index t 1 * 4096 + 1 * q.val
    rw [e]; show q.val = 0 * 4096 + 1 * q.val; omega

/-- The modulated normalised row at an element, from the argument arrays. -/
def spec (a0 : S2x8192x4096.Idx → EReal) (a1 : S4x4096.Idx → EReal) (a2 a3 : S2x1x4096.Idx → EReal) (n : Fin 2) (t : Fin 8192) (q : Fin 4096) : EReal :=
  ((a0 (ix3 n t q) * inv (∑ k : Fin 4096, a0 (ix3 n t k) * a0 (ix3 n t k))) * a1 (ix2 0 q)) * ((Scalar.ofBits (F := Ideal) .f32 0x3F800000#32 : EReal) + a3 (ix3 n 0 q))
    + a2 (ix3 n 0 q)

theorem G_eq (c : Dev nD) (r : Fin 16384) (q : Fin 4096) : ((dats m 0 c).arrAt 4 cfg0.N (ix2 r q) : EReal) =
    spec (A0 m c) (A1 m c) (A2 m c) (A3 m c) ⟨r.val / 8192, by omega⟩ ⟨r.val % 8192, by omega⟩ q := by
  have hN : cfg0.N = 64 := N_0
  have hr := r.isLt
  rw [arr_at m c ⟨r.val / 256, by omega⟩ ⟨r.val % 256, by omega⟩ q r (by dsimp only; omega), out_apply]
  unfold spec
  simp only [blk0, blk1, blk2, blk3]
  have er : 256 * (r.val / 256) + r.val % 256 = r.val := by omega
  have ed : r.val / 256 / 32 = r.val / 8192 := by omega
  simp only [er, ed]

/-- The reference at an element. -/
theorem ref_at (a0 : Vec Ideal Cert.Reference8Ideal.S2x8192x4096 .f32) (a1 : Vec Ideal Cert.Reference8Ideal.S4x4096 .f32)
    (a2 a3 : Vec Ideal Cert.Reference8Ideal.S2x1x4096 .f32) (r : Fin 16384) (q : Fin 4096) :
    ((truncf (F := Ideal) (φ := .f32) .bf16 (shapeCast (α := Elt Ideal .f32) Cert.Reference8Ideal.S16384x4096 (addf (F := Ideal) (φ := .f32) (mulf (F := Ideal) (φ := .f32) (mulf (F := Ideal) (φ := .f32) (mulf (F := Ideal) (φ := .f32) a0 (broadcastInDim (α := Elt Ideal .f32) Cert.Reference8Ideal.S2x8192x4096 ![0, 1, 2] Cert.Reference8Ideal.Gen.bcast_S2x8192x1_S2x8192x4096_0_1_2 (Host.rsqrt (F := Ideal) (φ := .f32) (addf (F := Ideal) (φ := .f32) (Host.divf (F := Ideal) (φ := .f32) (broadcastInDim (α := Elt Ideal .f32) Cert.Reference8Ideal.S2x8192x1 ![0, 1] Cert.Reference8Ideal.Gen.bcast_S2x8192_S2x8192x1_0_1 (Host.reduceAdd (F := Ideal) (φ := .f32) (mulf (F := Ideal) (φ := .f32) a0 a0) (constant (F := Ideal) Cert.Reference8Ideal.S_ .f32 0x00000000#32) Cert.Reference8Ideal.Gen.reducesTo_S2x8192x4096_S2x8192_d2 Cert.Reference8Ideal.Gen.h_S_)) (broadcastInDim (α := Elt Ideal .f32) Cert.Reference8Ideal.S2x8192x1 ![] Cert.Reference8Ideal.Gen.bcast_S_S2x8192x1 (constant (F := Ideal) Cert.Reference8Ideal.S_ .f32 0x45800000#32))) (broadcastInDim (α := Elt Ideal .f32) Cert.Reference8Ideal.S2x8192x1 ![] Cert.Reference8Ideal.Gen.bcast_S_S2x8192x1 (constant (F := Ideal) Cert.Reference8Ideal.S_ .f32 0x358637BD#32)))))) (broadcastInDim (α := Elt Ideal .f32) Cert.Reference8Ideal.S2x8192x4096 ![0, 1, 2] Cert.Reference8Ideal.Gen.bcast_S1x1x4096_S2x8192x4096_0_1_2 (broadcastInDim (α := Elt Ideal .f32) Cert.Reference8Ideal.S1x1x4096 ![2] Cert.Reference8Ideal.Gen.bcast_S4096_S1x1x4096_2 (shapeCast (α := Elt Ideal .f32) Cert.Reference8Ideal.S4096 (extractStridedSlice (α := Elt Ideal .f32) Cert.Reference8Ideal.S1x4096 ![0, 0] a1 Cert.Reference8Ideal.Gen.slices_S4x4096_S1x4096_0_0) Cert.Reference8Ideal.Gen.shapeCasts_S1x4096_S4096)))) (broadcastInDim (α := Elt Ideal .f32) Cert.Reference8Ideal.S2x8192x4096 ![0, 1, 2] Cert.Reference8Ideal.Gen.bcast_S2x1x4096_S2x8192x4096_0_1_2 (addf (F := Ideal) (φ := .f32) (broadcastInDim (α := Elt Ideal .f32) Cert.Reference8Ideal.S2x1x4096 ![] Cert.Reference8Ideal.Gen.bcast_S_S2x1x4096 (constant (F := Ideal) Cert.Reference8Ideal.S_ .f32 0x3F800000#32)) a3))) (broadcastInDim (α := Elt Ideal .f32) Cert.Reference8Ideal.S2x8192x4096 ![0, 1, 2] Cert.Reference8Ideal.Gen.bcast_S2x1x4096_S2x8192x4096_0_1_2 a2)) Cert.Reference8Ideal.Gen.shapeCasts_S2x8192x4096_S16384x4096) Cert.Reference8Ideal.Gen.bitsLt_bf16_f32) (ix2 r q) : EReal) = spec a0 a1 a2 a3 ⟨r.val / 8192, by omega⟩ ⟨r.val % 8192, by omega⟩ q := by
  unfold spec inv
  pointwise

end Cert.Kernel8Ideal.Val

/-- The value claim. -/
theorem Cert.Kernel8Ideal.Val.alg : Cert.algebraic_Kernel8Ideal_Reference8Ideal := fun m ρ m' ρ' _ hag =>
  ⟨fun c => (Cert.Kernel8Ideal.Gen.dats m 0 c).arrAt 4 Cert.Kernel8Ideal.cfg0.N, Cert.Kernel8Ideal.Value.run_blocks m ρ,
    (θ_run _ _ _).mono (fun _ h c => ⟨(h c).1.trans (by
      obtain ⟨e0, e1, e2, e3⟩ := hag c
      funext i
      idx_vars i
      refine Eq.trans ?_ (Cert.Kernel8Ideal.Val.G_eq m c i0 i1).symm
      rw [e0, e1, e2, e3]
      exact Cert.Kernel8Ideal.Val.ref_at _ _ _ _ i0 i1), (h c).2⟩) (Cert.Reference8Ideal.Value.run m' ρ')⟩

end
-- ==== Proof.Sigmoid.lean ====
module

public import Idealize.ShloMosaic.PureOps.Ideal
public import Idealize.ShloMosaic.Lib.Pointwise
public import Idealize.ShloMosaic.Lib.Tactic

/-! The logistic function in two spellings: half of `tanh (x / 2)` plus a half, and `1 / (1 + exp (-x))`. -/

@[expose] public section

noncomputable section

open Idealize.ShloMosaic

namespace Cert.Sigmoid

/-- On the reals, both spellings are one number. -/
theorem real_eq (x : ℝ) : (1 / 2 : ℝ) * Real.tanh (1 / 2 * x) + 1 / 2 = 1 * (1 + Real.exp (-x))⁻¹ := by
  have h : Real.exp (-x) = Real.exp (-(1 / 2 * x)) * Real.exp (-(1 / 2 * x)) := by rw [← Real.exp_add]; congr 1; ring
  rw [Real.tanh_eq_sinh_div_cosh, Real.sinh_eq, Real.cosh_eq, h]
  have hp : 0 < Real.exp (-(1 / 2 * x)) := Real.exp_pos _
  have hi : Real.exp (1 / 2 * x) = 1 / Real.exp (-(1 / 2 * x)) := by rw [Real.exp_neg]; simp
  rw [hi]
  generalize Real.exp (-(1 / 2 * x)) = y at hp
  have : 0 < 1 + y * y := by positivity
  field_simp
  ring

/-- `1 / (1 + exp (-x))` as the reference writes it. -/
def logistic (x : EReal) : EReal :=
  Ideal.div (Scalar.ofBits (F := Ideal) .f32 0x3F800000#32) ((Scalar.ofBits (F := Ideal) .f32 0x3F800000#32 : EReal) + Ideal.exp (-x))

/-- The hyperbolic spelling, as the kernel writes it. -/
def tanhForm (x : EReal) : EReal :=
  (Scalar.ofBits (F := Ideal) .f32 0x3F000000#32 : EReal) * Ideal.tanh ((Scalar.ofBits (F := Ideal) .f32 0x3F000000#32 : EReal) * x)
    + (Scalar.ofBits (F := Ideal) .f32 0x3F000000#32 : EReal)

theorem one_eq : (Scalar.ofBits (F := Ideal) .f32 0x3F800000#32 : EReal) = ((1 : ℝ) : EReal) := by
  pointwise
  exact EReal.coe_one.symm
theorem half_eq : (Scalar.ofBits (F := Ideal) .f32 0x3F000000#32 : EReal) = ((1 / 2 : ℝ) : EReal) := by
  show Ideal.ofBits .f32 _ = _
  unfold Ideal.ofBits
  simp [Ideal.ieee, -EReal.coe_mul]; norm_num

theorem tanh_form (x : EReal) : tanhForm x = logistic x := by
  unfold tanhForm logistic
  rw [one_eq, half_eq]
  induction x using EReal.rec with
  | bot =>
    rw [EReal.coe_mul_bot_of_pos (by norm_num)]
    simp only [Ideal.tanh_bot, EReal.neg_bot, Ideal.exp_top]
    rw [EReal.coe_one, EReal.add_top_of_ne_bot (by decide), Ideal.div, if_neg (by decide), EReal.inv_top, mul_zero,
      show (-1 : EReal) = ((-1 : ℝ) : EReal) from rfl, ← EReal.coe_mul, ← EReal.coe_add]
    norm_num
  | top =>
    rw [EReal.coe_mul_top_of_pos (by norm_num)]
    simp only [Ideal.tanh_top, EReal.neg_top, Ideal.exp_bot]
    rw [EReal.coe_one, add_zero, Ideal.div, if_neg one_ne_zero, inv_one, mul_one, mul_one, ← EReal.coe_add, show (1 / 2 + 1 / 2 : ℝ) = 1 by norm_num]
    simp
  | coe r =>
    have h1 : (0:ℝ) < 1 + Real.exp (-r) := by positivity
    rw [← EReal.coe_mul, Ideal.tanh_coe, ← EReal.coe_neg, Ideal.exp_coe, ← EReal.coe_add, ← EReal.coe_mul, ← EReal.coe_add, real_eq,
      Ideal.div, if_neg (by exact_mod_cast h1.ne'), ← EReal.coe_inv, ← EReal.coe_mul]

end Cert.Sigmoid
-- ==== Proof.Val2.lean ====
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.Tactic
public import Idealize.ShloMosaic.PureOps.Ideal
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a run leaves in the first accumulator: the product of its blocks, added to zeros. -/
theorem acc_A1 (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1x2048x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x : Vec F S1024x2048 .bf16) (w : Vec F S1x2048x1024 .bf16) (u : Vec F S1x2048x1024 .bf16) :
    sout0_A_0 c i a3 h3 a4 h4 a5 h5 a6 h6 a7 h7 a8 h8 hc0 hc1 x w u = k0_pay4 x (k0_pay1 (F := F)) w := by
  unfold sout0_A_0
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h7.read_unread, h8.read_unread, View.ld_unit_zero (S := S1024x2048) hz2,
    View.ld_unit_zero (S := S1x2048x1024) hz3, View.ld_unit_zero (S := S1024x1024) hz2]

/-- And in the second. -/
theorem acc_A2 (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1x2048x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x : Vec F S1024x2048 .bf16) (w : Vec F S1x2048x1024 .bf16) (u : Vec F S1x2048x1024 .bf16) :
    sout0_A_1 c i a3 h3 a4 h4 a5 h5 a6 h6 a7 h7 a8 h8 hc0 hc1 x w u = k0_pay5 x (k0_pay2 (F := F)) u := by
  unfold sout0_A_1
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h7.read_unread, h8.read_unread, View.ld_unit_zero (S := S1024x2048) hz2,
    View.ld_unit_zero (S := S1x2048x1024) hz3, View.ld_unit_zero (S := S1024x1024) hz2]

/-- What the last step leaves in the output block. -/
theorem out_L (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1x2048x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x : Vec F S1024x2048 .bf16) (w : Vec F S1x2048x1024 .bf16) (u : Vec F S1x2048x1024 .bf16) (s s' : Vec F S1024x1024 .f32) :
    out0_B_3 c i a3 h3 a4 h4 a5 h5 a6 h6 a7 h7 a8 h8 hc0 hc1 x w u s s' = k0_pay6 (k0_pay4 x s w) (k0_pay5 x s' u) := by
  unfold out0_B_3
  rw [View.read_writes_junk_eq_canon]
  unfold kernelRun0_B
  dsimp only
  sl_unfold_words
  rw [View.canon_unit_zero (S := S1024x1024) hz2, View.readCov_unit_zero (S := S1024x1024) _ hz2, View.readCov_unit_zero (S := S1024x1024) _ hz2]
  simp only [View.readAt_eq_ld, h3.read_unread, h4.read_unread, h5.read_unread, h7.read_unread, h8.read_unread, View.ld_unit_zero (S := S1024x2048) hz2,
    View.ld_unit_zero (S := S1x2048x1024) hz3, View.ld_unit_zero (S := S1024x1024) hz2]

end

variable (m : (ℓ : Loc nD τ sig) → Buf (Elt Ideal) ℓ)

theorem idx0 : ∀ t : Fin cfg0.N, win0_0.index t = ![t.val / 16, t.val % 2] :=
  (by decide +kernel : ∀ t : Fin grid0.N, _)
theorem idx1 : ∀ t : Fin cfg0.N, win0_1.index t = ![0, t.val % 2, t.val / 2 % 8] :=
  (by decide +kernel : ∀ t : Fin grid0.N, _)
theorem idx2 : ∀ t : Fin cfg0.N, win0_2.index t = ![0, t.val % 2, t.val / 2 % 8] :=
  (by decide +kernel : ∀ t : Fin grid0.N, _)

abbrev A0 (c : Dev nD) : S16384x4096.Idx → EReal := m ((c : Thread nD τ).loc main_arg0)
abbrev A1 (c : Dev nD) : S2x4096x8192.Idx → EReal := m ((c : Thread nD τ).loc main_arg1)
abbrev A2 (c : Dev nD) : S2x4096x8192.Idx → EReal := m ((c : Thread nD τ).loc main_arg2)

/-- The operands as the region finds them. -/
theorem V_x (c : Dev nD) : (V m c main_v0 : S16384x4096.Idx → EReal) = A0 m c := by
  unfold_abbrev_sides
  after_results
  try rfl
theorem V_w (c : Dev nD) : (V m c main_v1 : S2x4096x8192.Idx → EReal) = A1 m c := by
  unfold_abbrev_sides
  after_results
  try rfl
theorem V_u (c : Dev nD) : (V m c main_v2 : S2x4096x8192.Idx → EReal) = A2 m c := by
  unfold_abbrev_sides
  after_results
  try rfl

theorem blk0 (c : Dev nD) (t : Fin cfg0.N) (a : Fin 1024) (k : Fin 2048) :
    (iblk m c 0 t (ix2 a k) : EReal) = A0 m c (ix2 ⟨1024 * (t.val / 16) + a.val, by have := lt_of_lt_of_eq t.isLt (show cfg0.N = 256 from N_0); have := a.isLt; omega⟩
      ⟨2048 * (t.val % 2) + k.val, by have := k.isLt; omega⟩) := by
  rw [← V_x]
  unfold iblk
  rw [View.read_apply]
  refine congrArg (V m c main_v0 : S16384x4096.Idx → EReal) ?_
  funext x
  apply Fin.ext
  have e := idx0 t
  match x with
  | ⟨0, _⟩ =>
    show win0_0.index t 0 * 1024 + 1 * a.val = _
    rw [e]; show t.val / 16 * 1024 + 1 * a.val = 1024 * (t.val / 16) + a.val; omega
  | ⟨1, _⟩ =>
    show win0_0.index t 1 * 2048 + 1 * k.val = _
    rw [e]; show t.val % 2 * 2048 + 1 * k.val = 2048 * (t.val % 2) + k.val; omega

theorem blk1 (c : Dev nD) (t : Fin cfg0.N) (k : Fin 2048) (b : Fin 1024) :
    (iblk m c 1 t (ix3 0 k b) : EReal) = A1 m c (ix3 0
      ⟨2048 * (t.val % 2) + k.val, by have := k.isLt; omega⟩ ⟨1024 * (t.val / 2 % 8) + b.val, by have := b.isLt; omega⟩) := by
  rw [← V_w]
  unfold iblk
  rw [View.read_apply]
  refine congrArg (V m c main_v1 : S2x4096x8192.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 2048 + 1 * k.val = _
    rw [e]; show t.val % 2 * 2048 + 1 * k.val = 2048 * (t.val % 2) + k.val; omega
  | ⟨2, _⟩ =>
    show win0_1.index t 2 * 1024 + 1 * b.val = _
    rw [e]; show t.val / 2 % 8 * 1024 + 1 * b.val = 1024 * (t.val / 2 % 8) + b.val; omega

theorem blk2 (c : Dev nD) (t : Fin cfg0.N) (k : Fin 2048) (b : Fin 1024) :
    (iblk m c 2 t (ix3 0 k b) : EReal) = A2 m c (ix3 0
      ⟨2048 * (t.val % 2) + k.val, by have := k.isLt; omega⟩ ⟨1024 * (t.val / 2 % 8) + b.val, by have := b.isLt; omega⟩) := by
  rw [← V_u]
  unfold iblk
  rw [View.read_apply]
  refine congrArg (V m c main_v2 : S2x4096x8192.Idx → EReal) ?_
  funext x
  apply Fin.ext
  have e := idx2 t
  match x with
  | ⟨0, _⟩ =>
    show win0_2.index t 0 * 1 + 1 * 0 = _
    rw [e]; rfl
  | ⟨1, _⟩ =>
    show win0_2.index t 1 * 2048 + 1 * k.val = _
    rw [e]; show t.val % 2 * 2048 + 1 * k.val = 2048 * (t.val % 2) + k.val; omega
  | ⟨2, _⟩ =>
    show win0_2.index t 2 * 1024 + 1 * b.val = _
    rw [e]; show t.val / 2 % 8 * 1024 + 1 * b.val = 1024 * (t.val / 2 % 8) + b.val; omega

/-- The accumulators at an element. -/
theorem acc1_apply (x x' : Vec Ideal S1024x2048 .bf16) (w w' : Vec Ideal S1x2048x1024 .bf16) (a b : Fin 1024) :
    (k0_pay4 x' (k0_pay4 x (k0_pay1 (F := Ideal)) w) w' (ix2 a b) : EReal)
      = (∑ k : Fin 2048, (x (ix2 a k) : EReal) * w (ix3 0 k b)) + ∑ k : Fin 2048, (x' (ix2 a k) : EReal) * w' (ix3 0 k b) := by
  unfold k0_pay4 k0_pay3 k0_pay1
  pointwise

theorem acc2_apply (x x' : Vec Ideal S1024x2048 .bf16) (w w' : Vec Ideal S1x2048x1024 .bf16) (a b : Fin 1024) :
    (k0_pay5 x' (k0_pay5 x (k0_pay2 (F := Ideal)) w) w' (ix2 a b) : EReal)
      = (∑ k : Fin 2048, (x (ix2 a k) : EReal) * w (ix3 0 k b)) + ∑ k : Fin 2048, (x' (ix2 a k) : EReal) * w' (ix3 0 k b) := by
  unfold k0_pay5 k0_pay3 k0_pay2
  pointwise

/-- The block written back, at an element. -/
theorem out_apply (p q : Vec Ideal S1024x1024 .f32) (a b : Fin 1024) :
    (k0_pay6 p q (ix2 a b) : EReal) = (p (ix2 a b) : EReal) * Cert.Sigmoid.logistic (p (ix2 a b)) * q (ix2 a b) := by
  rw [← Cert.Sigmoid.tanh_form]
  unfold k0_pay6
  pointwise
  rfl

theorem sum_two (f : Fin 4096 → EReal) (g h : Fin 2048 → EReal)
    (hg : ∀ k : Fin 2048, g k = f ⟨k.val, by omega⟩) (hh : ∀ k : Fin 2048, h k = f ⟨2048 + k.val, by omega⟩) :
    (∑ k, g k) + ∑ k, h k = ∑ k, f k := by
  rw [Fin.sum_univ_two_halves 2048 2048 (by rfl) f]
  congr 1
  · exact Finset.sum_congr rfl fun k _ => hg k
  · exact Finset.sum_congr rfl fun k _ => hh k

theorem G_eq (c : Dev nD) (r : Fin 16384) (q : Fin 8192) : (Value.G3 m c (ix2 r q) : EReal) =
    (∑ k : Fin 4096, A0 m c (ix2 r k) * A1 m c (ix3 0 k q)) * Cert.Sigmoid.logistic (∑ k : Fin 4096, A0 m c (ix2 r k) * A1 m c (ix3 0 k q))
      * ∑ k : Fin 4096, A0 m c (ix2 r k) * A2 m c (ix3 0 k q) := by
  have hN : cfg0.N = 256 := N_0
  have hr := r.isLt
  have hq := q.isLt
  have hpe : Value.pt3Of (ix2 r q) = 2 * (8 * (r.val / 1024 - 0) + 1 * (q.val / 1024 - 0)) + 1 := rfl
  have hp : Value.pt3Of (ix2 r q) < cfg0.N := by omega
  unfold Value.G3
  rw [dif_pos hp, ← Value.outsAt0_sweep m c _ hp]
  generalize Value.pt3Of (ix2 r q) = p at hp hpe
  have hl : Value.loc3Of (ix2 r q) = ix2 ⟨r.val % 1024, by omega⟩ ⟨q.val % 1024, by omega⟩ := by
    funext x; match x with | ⟨0, _⟩ => rfl | ⟨1, _⟩ => rfl
  rw [hl, outsAt0_B m c ⟨p, hp⟩ (by dsimp only; omega) (by dsimp only; omega)]
  dsimp only
  rw [out_L, outsAt0_A m c ⟨p - 1, by omega⟩ (by dsimp only; omega) (by dsimp only; omega)]
  dsimp only
  rw [acc_A1, acc_A2, out_apply, acc1_apply, acc2_apply]
  rw [sum_two (fun k => A0 m c (ix2 r k) * A1 m c (ix3 0 k q)) _ _ (fun k => ?_) (fun k => ?_),
    sum_two (fun k => A0 m c (ix2 r k) * A2 m c (ix3 0 k q)) _ _ (fun k => ?_) (fun k => ?_)]
  · rw [blk0, blk2]
    congr 2 <;> congr 1 <;> apply Fin.ext <;> dsimp only <;> omega
  · rw [blk0, blk2]
    congr 2 <;> congr 1 <;> apply Fin.ext <;> dsimp only <;> omega
  · rw [blk0, blk1]
    congr 2 <;> congr 1 <;> apply Fin.ext <;> dsimp only <;> omega
  · rw [blk0, blk1]
    congr 2 <;> congr 1 <;> apply Fin.ext <;> dsimp only <;> omega

end Cert.Kernel2Ideal.Val

/-- The value claim. -/
theorem Cert.Kernel2Ideal.Val.alg : Cert.algebraic_Kernel2Ideal_Reference2Ideal := fun m ρ m' ρ' _ hag =>
  ⟨fun c => Cert.Kernel2Ideal.Value.G3 m c, Cert.Kernel2Ideal.Value.run m ρ,
    (θ_run _ _ _).mono (fun _ h c => ⟨(h c).1.trans (by
      obtain ⟨e0, e1, e2⟩ := hag c
      funext i
      idx_vars i
      refine Eq.trans ?_ (Cert.Kernel2Ideal.Val.G_eq m c i0 i1).symm
      rw [e0, e1, e2]
      unfold Cert.Sigmoid.logistic
      pointwise), (h c).2⟩) (Cert.Reference2Ideal.Value.run m' ρ')⟩

end
-- ==== Proof.Val3.lean ====
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a run leaves in the accumulator: the product of its blocks, added to zeros. -/
theorem acc_A (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x : Vec F S1024x2048 .bf16) (w : Vec F S1x2048x1024 .bf16) (xl : Vec F S1024x1024 .f32) (md : Vec F S1x1x1024 .f32) :
    sout0_A_0 c i a3 h3 a4 h4 a5 h5 a6 h6 a7 h7 a8 h8 hc0 hc1 x w xl md = k0_pay2 (k0_pay1 (F := F)) x w := by
  unfold sout0_A_0
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h6.read_unread, h8.read_unread, View.ld_unit_zero (S := S1024x2048) hz2,
    View.ld_unit_zero (S := S1x2048x1024) hz3, View.ld_unit_zero (S := S1x1x1024) hz3, View.ld_unit_zero (S := S1024x1024) hz2]

/-- A middle step adds the product of its blocks. -/
theorem acc_B (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x : Vec F S1024x2048 .bf16) (w : Vec F S1x2048x1024 .bf16) (xl : Vec F S1024x1024 .f32) (md : Vec F S1x1x1024 .f32) (s : Vec F S1024x1024 .f32) :
    sout0_B_0 c i a3 h3 a4 h4 a5 h5 a6 h6 a7 h7 a8 h8 hc0 hc1 x w xl md s = k0_pay2 s x w := by
  unfold sout0_B_0
  rw [View.read_writes_junk_eq_canon]
  unfold kernelRun0_B
  dsimp only
  sl_unfold_words
  rw [View.canon_unit_zero (S := S1024x1024) hz2]
  simp only [View.readAt_eq_ld, h3.read_unread, h4.read_unread, h5.read_unread, h6.read_unread, h8.read_unread, View.ld_unit_zero (S := S1024x2048) hz2,
    View.ld_unit_zero (S := S1x2048x1024) hz3, View.ld_unit_zero (S := S1x1x1024) hz3, View.ld_unit_zero (S := S1024x1024) hz2]

/-- What the last step of a run leaves in the output block: the rows held before, and the scaled accumulator. -/
theorem out_L (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x : Vec F S1024x2048 .bf16) (w : Vec F S1x2048x1024 .bf16) (xl : Vec F S1024x1024 .f32) (md : Vec F S1x1x1024 .f32) (s : Vec F S1024x1024 .f32) :
    out0_C_4 c i a3 h3 a4 h4 a5 h5 a6 h6 a7 h7 a8 h8 hc0 hc1 x w xl md s = k0_pay3 xl md (k0_pay2 s x w) := by
  unfold out0_C_4
  rw [View.read_writes_junk_eq_canon]
  unfold kernelRun0_C
  dsimp only
  sl_unfold_words
  rw [View.canon_unit_zero (S := S1024x1024) hz2, View.readCov_unit_zero (S := S1024x1024) _ hz2]
  simp only [View.readAt_eq_ld, h3.read_unread, h4.read_unread, h5.read_unread, h6.read_unread, h8.read_unread, View.ld_unit_zero (S := S1024x2048) hz2,
    View.ld_unit_zero (S := S1x2048x1024) hz3, View.ld_unit_zero (S := S1x1x1024) hz3, View.ld_unit_zero (S := S1024x1024) hz2]

end

variable (m : (ℓ : Loc nD τ sig) → Buf (Elt Ideal) ℓ)

theorem idx0 : ∀ t : Fin cfg0.N, win0_0.index t = ![t.val / 16, t.val % 4] :=
  (by decide +kernel : ∀ t : Fin grid0.N, _)
theorem idx1 : ∀ t : Fin cfg0.N, win0_1.index t = ![0, t.val % 4, t.val / 4 % 4] :=
  (by decide +kernel : ∀ t : Fin grid0.N, _)
theorem idx2 : ∀ t : Fin cfg0.N, win0_2.index t = ![t.val / 16, t.val / 4 % 4] :=
  (by decide +kernel : ∀ t : Fin grid0.N, _)
theorem idx3 : ∀ t : Fin cfg0.N, win0_3.index t = ![t.val / 128, 0, t.val / 4 % 4] :=
  (by decide +kernel : ∀ t : Fin grid0.N, _)

abbrev A0 (c : Dev nD) : S16384x8192.Idx → EReal := m ((c : Thread nD τ).loc main_arg0)
abbrev A1 (c : Dev nD) : S2x8192x4096.Idx → EReal := m ((c : Thread nD τ).loc main_arg1)
abbrev A2 (c : Dev nD) : S2x8192x4096.Idx → EReal := m ((c : Thread nD τ).loc main_arg2)
abbrev A3 (c : Dev nD) : S2x1x4096.Idx → EReal := m ((c : Thread nD τ).loc main_arg3)

/-- The operands as the region finds them. -/
theorem V_x (c : Dev nD) : (V m c main_v0 : S16384x8192.Idx → EReal) = A0 m c := by
  unfold_abbrev_sides
  after_results
  try rfl
theorem V_w (c : Dev nD) : (V m c main_v1 : S2x8192x4096.Idx → EReal) = A1 m c := by
  unfold_abbrev_sides
  after_results
  try rfl
theorem V_l (c : Dev nD) (r : Fin 16384) (q : Fin 4096) : (V m c main_v2 : S16384x4096.Idx → EReal) (ix2 r q)
    = A2 m c (ix3 ⟨r.val / 8192, by omega⟩ ⟨r.val % 8192, by omega⟩ q) := by
  have e : (V m c main_v2 : S16384x4096.Idx → EReal) = shapeCast (α := Elt Ideal .f32) S16384x4096 (A2 m c) shapeCasts_S2x8192x4096_S16384x4096 := by
    unfold_abbrev_sides
    after_results
    try rfl
  rw [e]
  pointwise
theorem V_md (c : Dev nD) : (V m c main_arg3 : S2x1x4096.Idx → EReal) = A3 m c := by
  unfold_abbrev_sides
  after_results
  try rfl

theorem blk0 (c : Dev nD) (t : Fin cfg0.N) (a : Fin 1024) (k : Fin 2048) :
    (iblk m c 0 t (ix2 a k) : EReal) = A0 m c (ix2 ⟨1024 * (t.val / 16) + a.val, by have := lt_of_lt_of_eq t.isLt (show cfg0.N = 256 from N_0); have := a.isLt; omega⟩
      ⟨2048 * (t.val % 4) + k.val, by have := k.isLt; omega⟩) := by
  rw [← V_x]
  unfold iblk
  rw [View.read_apply]
  refine congrArg (V m c main_v0 : S16384x8192.Idx → EReal) ?_
  funext x
  apply Fin.ext
  have e := idx0 t
  match x with
  | ⟨0, _⟩ =>
    show win0_0.index t 0 * 1024 + 1 * a.val = _
    rw [e]; show t.val / 16 * 1024 + 1 * a.val = 1024 * (t.val / 16) + a.val; omega
  | ⟨1, _⟩ =>
    show win0_0.index t 1 * 2048 + 1 * k.val = _
    rw [e]; show t.val % 4 * 2048 + 1 * k.val = 2048 * (t.val % 4) + k.val; omega

theorem blk1 (c : Dev nD) (t : Fin cfg0.N) (k : Fin 2048) (b : Fin 1024) :
    (iblk m c 1 t (ix3 0 k b) : EReal) = A1 m c (ix3 0
      ⟨2048 * (t.val % 4) + k.val, by have := k.isLt; omega⟩ ⟨1024 * (t.val / 4 % 4) + b.val, by have := b.isLt; omega⟩) := by
  rw [← V_w]
  unfold iblk
  rw [View.read_apply]
  refine congrArg (V m c main_v1 : S2x8192x4096.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 2048 + 1 * k.val = _
    rw [e]; show t.val % 4 * 2048 + 1 * k.val = 2048 * (t.val % 4) + k.val; omega
  | ⟨2, _⟩ =>
    show win0_1.index t 2 * 1024 + 1 * b.val = _
    rw [e]; show t.val / 4 % 4 * 1024 + 1 * b.val = 1024 * (t.val / 4 % 4) + b.val; omega

theorem blk2 (c : Dev nD) (t : Fin cfg0.N) (a b : Fin 1024) :
    (iblk m c 2 t (ix2 a b) : EReal) = A2 m c (ix3 ⟨(1024 * (t.val / 16) + a.val) / 8192, by have := lt_of_lt_of_eq t.isLt (show cfg0.N = 256 from N_0); have := a.isLt; omega⟩
      ⟨(1024 * (t.val / 16) + a.val) % 8192, by omega⟩ ⟨1024 * (t.val / 4 % 4) + b.val, by have := b.isLt; omega⟩) := by
  refine Eq.trans ?_ (V_l m c ⟨1024 * (t.val / 16) + a.val, by have := lt_of_lt_of_eq t.isLt (show cfg0.N = 256 from N_0); have := a.isLt; omega⟩ ⟨1024 * (t.val / 4 % 4) + b.val, by have := b.isLt; omega⟩)
  unfold iblk
  rw [View.read_apply]
  refine congrArg (V m c main_v2 : S16384x4096.Idx → EReal) ?_
  funext x
  apply Fin.ext
  have e := idx2 t
  match x with
  | ⟨0, _⟩ =>
    show win0_2.index t 0 * 1024 + 1 * a.val = _
    rw [e]; show t.val / 16 * 1024 + 1 * a.val = 1024 * (t.val / 16) + a.val; omega
  | ⟨1, _⟩ =>
    show win0_2.index t 1 * 1024 + 1 * b.val = _
    rw [e]; show t.val / 4 % 4 * 1024 + 1 * b.val = 1024 * (t.val / 4 % 4) + b.val; omega

theorem blk3 (c : Dev nD) (t : Fin cfg0.N) (b : Fin 1024) :
    (iblk m c 3 t (ix3 0 0 b) : EReal) = A3 m c (ix3 ⟨t.val / 128, by have := lt_of_lt_of_eq t.isLt (show cfg0.N = 256 from N_0); omega⟩ 0
      ⟨1024 * (t.val / 4 % 4) + b.val, by have := b.isLt; omega⟩) := by
  rw [← V_md]
  unfold iblk
  rw [View.read_apply]
  refine congrArg (V m c main_arg3 : S2x1x4096.Idx → EReal) ?_
  funext x
  apply Fin.ext
  have e := idx3 t
  match x with
  | ⟨0, _⟩ =>
    show win0_3.index t 0 * 1 + 1 * 0 = _
    rw [e]; show t.val / 128 * 1 + 1 * 0 = t.val / 128; omega
  | ⟨1, _⟩ =>
    show win0_3.index t 1 * 1 + 1 * 0 = _
    rw [e]; rfl
  | ⟨2, _⟩ =>
    show win0_3.index t 2 * 1024 + 1 * b.val = _
    rw [e]; show t.val / 4 % 4 * 1024 + 1 * b.val = 1024 * (t.val / 4 % 4) + b.val; omega

/-- The payloads at an element. -/
theorem pay_apply (x x' x2 x3 : Vec Ideal S1024x2048 .bf16) (w w' w2 w3 : Vec Ideal S1x2048x1024 .bf16) (xl : Vec Ideal S1024x1024 .f32) (md : Vec Ideal S1x1x1024 .f32) (a b : Fin 1024) :
    (k0_pay3 xl md (k0_pay2 (k0_pay2 (k0_pay2 (k0_pay2 (k0_pay1 (F := Ideal)) x w) x' w') x2 w2) x3 w3) (ix2 a b) : EReal)
      = xl (ix2 a b) + md (ix3 0 0 b) * ((((∑ k : Fin 2048, (x (ix2 a k) : EReal) * w (ix3 0 k b)) + ∑ k : Fin 2048, (x' (ix2 a k) : EReal) * w' (ix3 0 k b))
        + ∑ k : Fin 2048, (x2 (ix2 a k) : EReal) * w2 (ix3 0 k b)) + ∑ k : Fin 2048, (x3 (ix2 a k) : EReal) * w3 (ix3 0 k b)) := by
  unfold k0_pay3 k0_pay2 k0_pay1
  pointwise

theorem sum_four (f : Fin 8192 → EReal) (g h u v : Fin 2048 → EReal)
    (hg : ∀ k : Fin 2048, g k = f ⟨k.val, by omega⟩) (hh : ∀ k : Fin 2048, h k = f ⟨2048 + k.val, by omega⟩)
    (hu : ∀ k : Fin 2048, u k = f ⟨4096 + k.val, by omega⟩) (hv : ∀ k : Fin 2048, v k = f ⟨6144 + k.val, by omega⟩) :
    (((∑ k, g k) + ∑ k, h k) + ∑ k, u k) + ∑ k, v k = ∑ k, f k := by
  rw [Fin.sum_univ_two_halves 6144 2048 (by rfl) f, Fin.sum_univ_two_halves 4096 2048 (by rfl) (fun k : Fin 6144 => f ⟨k.val, by omega⟩),
    Fin.sum_univ_two_halves 2048 2048 (by rfl) (fun k : Fin 4096 => f ⟨k.val, by omega⟩)]
  congr 1
  · congr 1
    · congr 1
      · exact Finset.sum_congr rfl fun k _ => hg k
      · exact Finset.sum_congr rfl fun k _ => hh k
    · exact Finset.sum_congr rfl fun k _ => hu k
  · exact Finset.sum_congr rfl fun k _ => hv k

theorem G_eq (c : Dev nD) (r : Fin 16384) (q : Fin 4096) : (Value.G4 m c (ix2 r q) : EReal) =
    A2 m c (ix3 ⟨r.val / 8192, by omega⟩ ⟨r.val % 8192, by omega⟩ q) + A3 m c (ix3 ⟨r.val / 8192, by omega⟩ 0 q)
      * ∑ k : Fin 8192, A0 m c (ix2 r k) * A1 m c (ix3 0 k q) := by
  have hN : cfg0.N = 256 := N_0
  have hr := r.isLt
  have hq := q.isLt
  have hpe : Value.pt4Of (ix2 r q) = 4 * (4 * (r.val / 1024 - 0) + 1 * (q.val / 1024 - 0)) + 3 := rfl
  have hp : Value.pt4Of (ix2 r q) < cfg0.N := by omega
  unfold Value.G4
  rw [dif_pos hp, ← Value.outsAt0_sweep m c _ hp]
  generalize Value.pt4Of (ix2 r q) = p at hp hpe
  have hl : Value.loc4Of (ix2 r q) = ix2 ⟨r.val % 1024, by omega⟩ ⟨q.val % 1024, by omega⟩ := by
    funext x; match x with | ⟨0, _⟩ => rfl | ⟨1, _⟩ => rfl
  rw [hl, outsAt0_C m c ⟨p, hp⟩ (by dsimp only; omega) (by dsimp only; omega)]
  dsimp only
  rw [out_L, outsAt0_B m c ⟨p - 1, by omega⟩ (by dsimp only; omega) (by dsimp only; omega)]
  dsimp only
  rw [acc_B, outsAt0_B m c ⟨p - 1 - 1, by omega⟩ (by dsimp only; omega) (by dsimp only; omega)]
  dsimp only
  rw [acc_B, outsAt0_A m c ⟨p - 1 - 1 - 1, by omega⟩ (by dsimp only; omega) (by dsimp only; omega)]
  dsimp only
  rw [acc_A, pay_apply]
  rw [blk2, blk3]
  congr 1
  · congr 2 <;> apply Fin.ext <;> dsimp only <;> omega
  congr 1
  · congr 2 <;> apply Fin.ext <;> dsimp only <;> omega
  · refine sum_four _ _ _ _ _ (fun k => ?_) (fun k => ?_) (fun k => ?_) (fun k => ?_) <;>
    · rw [blk0, blk1]
      congr 2 <;> congr 1 <;> apply Fin.ext <;> dsimp only <;> omega

/-- The reference at an element. -/
theorem ref_at (a0 : Vec Ideal Cert.Reference3Ideal.S16384x8192 .f32) (a1 : Vec Ideal Cert.Reference3Ideal.S2x8192x4096 .f32)
    (a2 : Vec Ideal Cert.Reference3Ideal.S2x8192x4096 .f32) (a3 : Vec Ideal Cert.Reference3Ideal.S2x1x4096 .f32) (r : Fin 16384) (q : Fin 4096) :
    ((shapeCast (α := Elt Ideal .f32) Cert.Reference3Ideal.S16384x4096
      (addf (F := Ideal) (φ := .f32) a2
        (mulf (F := Ideal) (φ := .f32)
          (broadcastInDim (α := Elt Ideal .f32) Cert.Reference3Ideal.S2x8192x4096 ![0, 1, 2] Cert.Reference3Ideal.Gen.bcast_S2x1x4096_S2x8192x4096_0_1_2 a3)
          (shapeCast (α := Elt Ideal .f32) Cert.Reference3Ideal.S2x8192x4096
            (Host.dotGeneral (F := Ideal) (φ₁ := .f32) (φ₂ := .f32) Cert.Reference3Ideal.dot_S16384x8192_S8192x4096_S16384x4096_1_0_0_1_n_n none a0
              (shapeCast (α := Elt Ideal .f32) Cert.Reference3Ideal.S8192x4096
                (extractStridedSlice (α := Elt Ideal .f32) Cert.Reference3Ideal.S1x8192x4096 ![0, 0, 0] a1
                  Cert.Reference3Ideal.Gen.slices_S2x8192x4096_S1x8192x4096_0_0_0)
                Cert.Reference3Ideal.Gen.shapeCasts_S1x8192x4096_S8192x4096))
            Cert.Reference3Ideal.Gen.shapeCasts_S16384x4096_S2x8192x4096)))
      Cert.Reference3Ideal.Gen.shapeCasts_S2x8192x4096_S16384x4096 : FVec Ideal Cert.Reference3Ideal.S16384x4096 .f32) (ix2 r q) : EReal) =
    (a2 (ix3 ⟨r.val / 8192, by omega⟩ ⟨r.val % 8192, by omega⟩ q) : EReal) + (a3 (ix3 ⟨r.val / 8192, by omega⟩ 0 q) : EReal)
      * ∑ k : Fin 8192, (a0 (ix2 r k) : EReal) * a1 (ix3 0 k q) := by
  pointwise

end Cert.Kernel3Ideal.Val

/-- The value claim. -/
theorem Cert.Kernel3Ideal.Val.alg : Cert.algebraic_Kernel3Ideal_Reference3Ideal := fun m ρ m' ρ' _ hag =>
  ⟨fun c => Cert.Kernel3Ideal.Value.G4 m c, Cert.Kernel3Ideal.Value.run m ρ,
    (θ_run _ _ _).mono (fun _ h c => ⟨(h c).1.trans (by
      obtain ⟨e0, e1, e2, e3⟩ := hag c
      funext i
      idx_vars i
      refine Eq.trans ?_ (Cert.Kernel3Ideal.Val.G_eq m c i0 i1).symm
      rw [e0, e1, e2, e3]
      exact Cert.Kernel3Ideal.Val.ref_at _ _ _ _ i0 i1), (h c).2⟩) (Cert.Reference3Ideal.Value.run m' ρ')⟩

end
-- ==== Proof.Val4.lean ====
module

public import proofs.«01_k».proof.Defs
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.Tactic
public import Idealize.ShloMosaic.PureOps.Ideal
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

end

variable (m : (ℓ : Loc nD τ sig) → Buf (Elt Ideal) ℓ)

abbrev A0 (c : Dev nD) : S16384x2048.Idx → EReal := m ((c : Thread nD τ).loc main_arg0)
abbrev A1 (c : Dev nD) : S16384x1024.Idx → EReal := m ((c : Thread nD τ).loc main_arg1)
abbrev A2 (c : Dev nD) : S16384x1024.Idx → EReal := m ((c : Thread nD τ).loc main_arg2)
abbrev A3 (c : Dev nD) : S16384x256.Idx → EReal := m ((c : Thread nD τ).loc main_arg3)
abbrev A4 (c : Dev nD) : S4x2048x4096.Idx → EReal := m ((c : Thread nD τ).loc main_arg4)
abbrev A5 (c : Dev nD) : S4x1024x4096.Idx → EReal := m ((c : Thread nD τ).loc main_arg5)
abbrev A6 (c : Dev nD) : S4x1024x4096.Idx → EReal := m ((c : Thread nD τ).loc main_arg6)
abbrev A7 (c : Dev nD) : S4x256x12288.Idx → EReal := m ((c : Thread nD τ).loc main_arg7)
abbrev A8 (c : Dev nD) : S4x12288.Idx → EReal := m ((c : Thread nD τ).loc main_arg8)

/-- The operands as the region finds them. -/
theorem V_0 (c : Dev nD) : (V m c main_v0 : S16384x2048.Idx → EReal) = A0 m c := by
  unfold_abbrev_sides
  after_results
  try rfl
theorem V_1 (c : Dev nD) : (V m c main_v1 : S16384x1024.Idx → EReal) = A1 m c := by
  unfold_abbrev_sides
  after_results
  try rfl
theorem V_2 (c : Dev nD) : (V m c main_v2 : S16384x1024.Idx → EReal) = A2 m c := by
  unfold_abbrev_sides
  after_results
  try rfl
theorem V_3 (c : Dev nD) : (V m c main_v3 : S16384x256.Idx → EReal) = A3 m c := by
  unfold_abbrev_sides
  after_results
  try rfl
theorem V_4 (c : Dev nD) : (V m c main_v4 : S4x2048x4096.Idx → EReal) = A4 m c := by
  unfold_abbrev_sides
  after_results
  try rfl
theorem V_5 (c : Dev nD) : (V m c main_v5 : S4x1024x4096.Idx → EReal) = A5 m c := by
  unfold_abbrev_sides
  after_results
  try rfl
theorem V_6 (c : Dev nD) : (V m c main_v6 : S4x1024x4096.Idx → EReal) = A6 m c := by
  unfold_abbrev_sides
  after_results
  try rfl
theorem V_7 (c : Dev nD) : (V m c main_v7 : S4x256x12288.Idx → EReal) = A7 m c := by
  unfold_abbrev_sides
  after_results
  try rfl
theorem V_8 (c : Dev nD) (q : Fin 12288) : (V m c main_v8 : S4x1x12288.Idx → EReal) (ix3 0 0 q) = A8 m c (ix2 0 q) := by
  have e : (V m c main_v8 : S4x1x12288.Idx → EReal) = broadcastInDim (α := Elt Ideal .f32) S4x1x12288 ![0, 2] bcast_S4x12288_S4x1x12288_0_2 (A8 m c) := by
    unfold_abbrev_sides
    after_results
    try rfl
  rw [e]
  pointwise

theorem idx0 : ∀ t : Fin cfg0.N, win0_0.index t = ![t.val / 8, 0] :=
  (by decide +kernel : ∀ t : Fin grid0.N, _)
theorem blk0 (c : Dev nD) (t : Fin cfg0.N) (a : Fin 1024) (k : Fin 2048) :
    (iblk m c 0 t (ix2 a k) : EReal) = A0 m c (ix2 ⟨1024 * (t.val / 8) + a.val, by have := lt_of_lt_of_eq t.isLt (show cfg0.N = 128 from N_0); have := a.isLt; omega⟩ k) := by
  rw [← V_0]
  unfold iblk
  rw [View.read_apply]
  refine congrArg (V m c main_v0 : S16384x2048.Idx → EReal) ?_
  funext x
  apply Fin.ext
  have e := idx0 t
  match x with
  | ⟨0, _⟩ =>
    show win0_0.index t 0 * 1024 + 1 * a.val = _
    rw [e]; show t.val / 8 * 1024 + 1 * a.val = 1024 * (t.val / 8) + a.val; omega
  | ⟨1, _⟩ =>
    show win0_0.index t 1 * 2048 + 1 * k.val = _
    rw [e]; show 0 * 2048 + 1 * k.val = k.val; omega

theorem idx1 : ∀ t : Fin cfg0.N, win0_1.index t = ![t.val / 8, 0] :=
  (by decide +kernel : ∀ t : Fin grid0.N, _)
theorem blk1 (c : Dev nD) (t : Fin cfg0.N) (a : Fin 1024) (k : Fin 1024) :
    (iblk m c 1 t (ix2 a k) : EReal) = A1 m c (ix2 ⟨1024 * (t.val / 8) + a.val, by have := lt_of_lt_of_eq t.isLt (show cfg0.N = 128 from N_0); have := a.isLt; omega⟩ k) := by
  rw [← V_1]
  unfold iblk
  rw [View.read_apply]
  refine congrArg (V m c main_v1 : S16384x1024.Idx → EReal) ?_
  funext x
  apply Fin.ext
  have e := idx1 t
  match x with
  | ⟨0, _⟩ =>
    show win0_1.index t 0 * 1024 + 1 * a.val = _
    rw [e]; show t.val / 8 * 1024 + 1 * a.val = 1024 * (t.val / 8) + a.val; omega
  | ⟨1, _⟩ =>
    show win0_1.index t 1 * 1024 + 1 * k.val = _
    rw [e]; show 0 * 1024 + 1 * k.val = k.val; omega

theorem idx2 : ∀ t : Fin cfg0.N, win0_2.index t = ![t.val / 8, 0] :=
  (by decide +kernel : ∀ t : Fin grid0.N, _)
theorem blk2 (c : Dev nD) (t : Fin cfg0.N) (a : Fin 1024) (k : Fin 1024) :
    (iblk m c 2 t (ix2 a k) : EReal) = A2 m c (ix2 ⟨1024 * (t.val / 8) + a.val, by have := lt_of_lt_of_eq t.isLt (show cfg0.N = 128 from N_0); have := a.isLt; omega⟩ k) := by
  rw [← V_2]
  unfold iblk
  rw [View.read_apply]
  refine congrArg (V m c main_v2 : S16384x1024.Idx → EReal) ?_
  funext x
  apply Fin.ext
  have e := idx2 t
  match x with
  | ⟨0, _⟩ =>
    show win0_2.index t 0 * 1024 + 1 * a.val = _
    rw [e]; show t.val / 8 * 1024 + 1 * a.val = 1024 * (t.val / 8) + a.val; omega
  | ⟨1, _⟩ =>
    show win0_2.index t 1 * 1024 + 1 * k.val = _
    rw [e]; show 0 * 1024 + 1 * k.val = k.val; omega

theorem idx3 : ∀ t : Fin cfg0.N, win0_3.index t = ![t.val / 8, 0] :=
  (by decide +kernel : ∀ t : Fin grid0.N, _)
theorem blk3 (c : Dev nD) (t : Fin cfg0.N) (a : Fin 1024) (k : Fin 256) :
    (iblk m c 3 t (ix2 a k) : EReal) = A3 m c (ix2 ⟨1024 * (t.val / 8) + a.val, by have := lt_of_lt_of_eq t.isLt (show cfg0.N = 128 from N_0); have := a.isLt; omega⟩ k) := by
  rw [← V_3]
  unfold iblk
  rw [View.read_apply]
  refine congrArg (V m c main_v3 : S16384x256.Idx → EReal) ?_
  funext x
  apply Fin.ext
  have e := idx3 t
  match x with
  | ⟨0, _⟩ =>
    show win0_3.index t 0 * 1024 + 1 * a.val = _
    rw [e]; show t.val / 8 * 1024 + 1 * a.val = 1024 * (t.val / 8) + a.val; omega
  | ⟨1, _⟩ =>
    show win0_3.index t 1 * 256 + 1 * k.val = _
    rw [e]; show 0 * 256 + 1 * k.val = k.val; omega

theorem idx4 : ∀ t : Fin cfg0.N, win0_4.index t = ![0, 0, t.val % 8] :=
  (by decide +kernel : ∀ t : Fin grid0.N, _)
theorem blk4 (c : Dev nD) (t : Fin cfg0.N) (k : Fin 2048) (b : Fin 512) :
    (iblk m c 4 t (ix3 0 k b) : EReal) = A4 m c (ix3 0 k ⟨512 * (t.val % 8) + b.val, by have := b.isLt; omega⟩) := by
  rw [← V_4]
  unfold iblk
  rw [View.read_apply]
  refine congrArg (V m c main_v4 : S4x2048x4096.Idx → EReal) ?_
  funext x
  apply Fin.ext
  have e := idx4 t
  match x with
  | ⟨0, _⟩ =>
    show win0_4.index t 0 * 1 + 1 * 0 = _
    rw [e]; rfl
  | ⟨1, _⟩ =>
    show win0_4.index t 1 * 2048 + 1 * k.val = _
    rw [e]; show 0 * 2048 + 1 * k.val = k.val; omega
  | ⟨2, _⟩ =>
    show win0_4.index t 2 * 512 + 1 * b.val = _
    rw [e]; show (t.val % 8) * 512 + 1 * b.val = 512 * (t.val % 8) + b.val; omega

theorem idx5 : ∀ t : Fin cfg0.N, win0_5.index t = ![0, 0, t.val % 8] :=
  (by decide +kernel : ∀ t : Fin grid0.N, _)
theorem blk5 (c : Dev nD) (t : Fin cfg0.N) (k : Fin 1024) (b : Fin 512) :
    (iblk m c 5 t (ix3 0 k b) : EReal) = A5 m c (ix3 0 k ⟨512 * (t.val % 8) + b.val, by have := b.isLt; omega⟩) := by
  rw [← V_5]
  unfold iblk
  rw [View.read_apply]
  refine congrArg (V m c main_v5 : S4x1024x4096.Idx → EReal) ?_
  funext x
  apply Fin.ext
  have e := idx5 t
  match x with
  | ⟨0, _⟩ =>
    show win0_5.index t 0 * 1 + 1 * 0 = _
    rw [e]; rfl
  | ⟨1, _⟩ =>
    show win0_5.index t 1 * 1024 + 1 * k.val = _
    rw [e]; show 0 * 1024 + 1 * k.val = k.val; omega
  | ⟨2, _⟩ =>
    show win0_5.index t 2 * 512 + 1 * b.val = _
    rw [e]; show (t.val % 8) * 512 + 1 * b.val = 512 * (t.val % 8) + b.val; omega

theorem idx6 : ∀ t : Fin cfg0.N, win0_6.index t = ![0, 0, t.val % 8] :=
  (by decide +kernel : ∀ t : Fin grid0.N, _)
theorem blk6 (c : Dev nD) (t : Fin cfg0.N) (k : Fin 1024) (b : Fin 512) :
    (iblk m c 6 t (ix3 0 k b) : EReal) = A6 m c (ix3 0 k ⟨512 * (t.val % 8) + b.val, by have := b.isLt; omega⟩) := by
  rw [← V_6]
  unfold iblk
  rw [View.read_apply]
  refine congrArg (V m c main_v6 : S4x1024x4096.Idx → EReal) ?_
  funext x
  apply Fin.ext
  have e := idx6 t
  match x with
  | ⟨0, _⟩ =>
    show win0_6.index t 0 * 1 + 1 * 0 = _
    rw [e]; rfl
  | ⟨1, _⟩ =>
    show win0_6.index t 1 * 1024 + 1 * k.val = _
    rw [e]; show 0 * 1024 + 1 * k.val = k.val; omega
  | ⟨2, _⟩ =>
    show win0_6.index t 2 * 512 + 1 * b.val = _
    rw [e]; show (t.val % 8) * 512 + 1 * b.val = 512 * (t.val % 8) + b.val; omega

theorem idx7 : ∀ t : Fin cfg0.N, win0_7.index t = ![0, 0, t.val % 8] :=
  (by decide +kernel : ∀ t : Fin grid0.N, _)
theorem blk7 (c : Dev nD) (t : Fin cfg0.N) (k : Fin 256) (b : Fin 512) :
    (iblk m c 7 t (ix3 0 k b) : EReal) = A7 m c (ix3 0 k ⟨512 * (t.val % 8) + b.val, by have := b.isLt; omega⟩) := by
  rw [← V_7]
  unfold iblk
  rw [View.read_apply]
  refine congrArg (V m c main_v7 : S4x256x12288.Idx → EReal) ?_
  funext x
  apply Fin.ext
  have e := idx7 t
  match x with
  | ⟨0, _⟩ =>
    show win0_7.index t 0 * 1 + 1 * 0 = _
    rw [e]; rfl
  | ⟨1, _⟩ =>
    show win0_7.index t 1 * 256 + 1 * k.val = _
    rw [e]; show 0 * 256 + 1 * k.val = k.val; omega
  | ⟨2, _⟩ =>
    show win0_7.index t 2 * 512 + 1 * b.val = _
    rw [e]; show (t.val % 8) * 512 + 1 * b.val = 512 * (t.val % 8) + b.val; omega

theorem idx8 : ∀ t : Fin cfg0.N, win0_8.index t = ![0, 0, 8 + t.val % 8] :=
  (by decide +kernel : ∀ t : Fin grid0.N, _)
theorem blk8 (c : Dev nD) (t : Fin cfg0.N) (k : Fin 256) (b : Fin 512) :
    (iblk m c 8 t (ix3 0 k b) : EReal) = A7 m c (ix3 0 k ⟨4096 + (512 * (t.val % 8) + b.val), by have := b.isLt; omega⟩) := by
  rw [← V_7]
  unfold iblk
  rw [View.read_apply]
  refine congrArg (V m c main_v7 : S4x256x12288.Idx → EReal) ?_
  funext x
  apply Fin.ext
  have e := idx8 t
  match x with
  | ⟨0, _⟩ =>
    show win0_8.index t 0 * 1 + 1 * 0 = _
    rw [e]; rfl
  | ⟨1, _⟩ =>
    show win0_8.index t 1 * 256 + 1 * k.val = _
    rw [e]; show 0 * 256 + 1 * k.val = k.val; omega
  | ⟨2, _⟩ =>
    show win0_8.index t 2 * 512 + 1 * b.val = _
    rw [e]; show (8 + t.val % 8) * 512 + 1 * b.val = 4096 + (512 * (t.val % 8) + b.val); omega

theorem idx9 : ∀ t : Fin cfg0.N, win0_9.index t = ![0, 0, 16 + t.val % 8] :=
  (by decide +kernel : ∀ t : Fin grid0.N, _)
theorem blk9 (c : Dev nD) (t : Fin cfg0.N) (k : Fin 256) (b : Fin 512) :
    (iblk m c 9 t (ix3 0 k b) : EReal) = A7 m c (ix3 0 k ⟨8192 + (512 * (t.val % 8) + b.val), by have := b.isLt; omega⟩) := by
  rw [← V_7]
  unfold iblk
  rw [View.read_apply]
  refine congrArg (V m c main_v7 : S4x256x12288.Idx → EReal) ?_
  funext x
  apply Fin.ext
  have e := idx9 t
  match x with
  | ⟨0, _⟩ =>
    show win0_9.index t 0 * 1 + 1 * 0 = _
    rw [e]; rfl
  | ⟨1, _⟩ =>
    show win0_9.index t 1 * 256 + 1 * k.val = _
    rw [e]; show 0 * 256 + 1 * k.val = k.val; omega
  | ⟨2, _⟩ =>
    show win0_9.index t 2 * 512 + 1 * b.val = _
    rw [e]; show (16 + t.val % 8) * 512 + 1 * b.val = 8192 + (512 * (t.val % 8) + b.val); omega

theorem idx10 : ∀ t : Fin cfg0.N, win0_10.index t = ![0, 0, t.val % 8] :=
  (by decide +kernel : ∀ t : Fin grid0.N, _)
theorem blk10 (c : Dev nD) (t : Fin cfg0.N) (b : Fin 512) :
    (iblk m c 10 t (ix3 0 0 b) : EReal) = A8 m c (ix2 0 ⟨512 * (t.val % 8) + b.val, by have := b.isLt; omega⟩) := by
  refine Eq.trans ?_ (V_8 m c ⟨512 * (t.val % 8) + b.val, by have := b.isLt; omega⟩)
  unfold iblk
  rw [View.read_apply]
  refine congrArg (V m c main_v8 : S4x1x12288.Idx → EReal) ?_
  funext x
  apply Fin.ext
  have e := idx10 t
  match x with
  | ⟨0, _⟩ =>
    show win0_10.index t 0 * 1 + 1 * 0 = _
    rw [e]; rfl
  | ⟨1, _⟩ =>
    show win0_10.index t 1 * 1 + 1 * 0 = _
    rw [e]; show 0 * 1 + 1 * 0 = 0; omega
  | ⟨2, _⟩ =>
    show win0_10.index t 2 * 512 + 1 * b.val = _
    rw [e]; show (t.val % 8) * 512 + 1 * b.val = 512 * (t.val % 8) + b.val; omega

theorem idx11 : ∀ t : Fin cfg0.N, win0_11.index t = ![0, 0, 8 + t.val % 8] :=
  (by decide +kernel : ∀ t : Fin grid0.N, _)
theorem blk11 (c : Dev nD) (t : Fin cfg0.N) (b : Fin 512) :
    (iblk m c 11 t (ix3 0 0 b) : EReal) = A8 m c (ix2 0 ⟨4096 + (512 * (t.val % 8) + b.val), by have := b.isLt; omega⟩) := by
  refine Eq.trans ?_ (V_8 m c ⟨4096 + (512 * (t.val % 8) + b.val), by have := b.isLt; omega⟩)
  unfold iblk
  rw [View.read_apply]
  refine congrArg (V m c main_v8 : S4x1x12288.Idx → EReal) ?_
  funext x
  apply Fin.ext
  have e := idx11 t
  match x with
  | ⟨0, _⟩ =>
    show win0_11.index t 0 * 1 + 1 * 0 = _
    rw [e]; rfl
  | ⟨1, _⟩ =>
    show win0_11.index t 1 * 1 + 1 * 0 = _
    rw [e]; show 0 * 1 + 1 * 0 = 0; omega
  | ⟨2, _⟩ =>
    show win0_11.index t 2 * 512 + 1 * b.val = _
    rw [e]; show (8 + t.val % 8) * 512 + 1 * b.val = 4096 + (512 * (t.val % 8) + b.val); omega

theorem idx12 : ∀ t : Fin cfg0.N, win0_12.index t = ![0, 0, 16 + t.val % 8] :=
  (by decide +kernel : ∀ t : Fin grid0.N, _)
theorem blk12 (c : Dev nD) (t : Fin cfg0.N) (b : Fin 512) :
    (iblk m c 12 t (ix3 0 0 b) : EReal) = A8 m c (ix2 0 ⟨8192 + (512 * (t.val % 8) + b.val), by have := b.isLt; omega⟩) := by
  refine Eq.trans ?_ (V_8 m c ⟨8192 + (512 * (t.val % 8) + b.val), by have := b.isLt; omega⟩)
  unfold iblk
  rw [View.read_apply]
  refine congrArg (V m c main_v8 : S4x1x12288.Idx → EReal) ?_
  funext x
  apply Fin.ext
  have e := idx12 t
  match x with
  | ⟨0, _⟩ =>
    show win0_12.index t 0 * 1 + 1 * 0 = _
    rw [e]; rfl
  | ⟨1, _⟩ =>
    show win0_12.index t 1 * 1 + 1 * 0 = _
    rw [e]; show 0 * 1 + 1 * 0 = 0; omega
  | ⟨2, _⟩ =>
    show win0_12.index t 2 * 512 + 1 * b.val = _
    rw [e]; show (16 + t.val % 8) * 512 + 1 * b.val = 8192 + (512 * (t.val % 8) + b.val); omega

open Cert.Sigmoid (logistic tanh_form) in
/-- The block written back, at an element: three gated products, added. -/
theorem out_apply (x0 : Vec Ideal S1024x2048 .bf16) (x1 : Vec Ideal S1024x1024 .bf16) (x2 : Vec Ideal S1024x1024 .bf16) (x3 : Vec Ideal S1024x256 .bf16) (x4 : Vec Ideal S1x2048x512 .bf16) (x5 : Vec Ideal S1x1024x512 .bf16) (x6 : Vec Ideal S1x1024x512 .bf16) (x7 : Vec Ideal S1x256x512 .bf16) (x8 : Vec Ideal S1x256x512 .bf16) (x9 : Vec Ideal S1x256x512 .bf16) (x10 : Vec Ideal S1x1x512 .f32) (x11 : Vec Ideal S1x1x512 .f32) (x12 : Vec Ideal S1x1x512 .f32) (a : Fin 1024) (b : Fin 512) :
    (out0_13 x0 x1 x2 x3 x4 x5 x6 x7 x8 x9 x10 x11 x12 (ix2 a b) : EReal)
      = (logistic ((∑ k : Fin 256, (x3 (ix2 a k) : EReal) * x7 (ix3 0 k b)) + x10 (ix3 0 0 b)) * (∑ k : Fin 2048, (x0 (ix2 a k) : EReal) * x4 (ix3 0 k b))
        + logistic ((∑ k : Fin 256, (x3 (ix2 a k) : EReal) * x8 (ix3 0 k b)) + x11 (ix3 0 0 b)) * (∑ k : Fin 1024, (x1 (ix2 a k) : EReal) * x5 (ix3 0 k b)))
        + logistic ((∑ k : Fin 256, (x3 (ix2 a k) : EReal) * x9 (ix3 0 k b)) + x12 (ix3 0 0 b)) * (∑ k : Fin 1024, (x2 (ix2 a k) : EReal) * x6 (ix3 0 k b)) := by
  rw [← tanh_form, ← tanh_form, ← tanh_form]
  unfold out0_13
  rw [View.canon_unit_zero (S := S1024x512) hz2]
  simp only [View.ld_unit_zero (S := S1024x256) hz2, View.ld_unit_zero (S := S1024x2048) hz2, View.ld_unit_zero (S := S1024x1024) hz2,
    View.ld_unit_zero (S := S1x256x512) hz3, View.ld_unit_zero (S := S1x1x512) hz3, View.ld_unit_zero (S := S1x2048x512) hz3, View.ld_unit_zero (S := S1x1024x512) hz3]
  unfold k0_pay4 k0_pay3 k0_pay2 k0_pay1
  pointwise
  rfl

theorem flush13 : ∀ t : Fin cfg0.N, (cfg0.win 13).flush t = true := (by decide +kernel : ∀ t : Fin grid0.N, win0_13.flush t = true)
theorem idx13 : ∀ t : Fin cfg0.N, win0_13.index t = ![t.val / 8, t.val % 8] := (by decide +kernel : ∀ t : Fin grid0.N, _)

/-- The output array after the run, at an element of block `t`. -/
theorem arr_at (c : Dev nD) (t : Fin cfg0.N) (a : Fin 1024) (b : Fin 512) (r : Fin 16384) (q : Fin 4096)
    (hr : r.val = 1024 * (t.val / 8) + a.val) (hq : q.val = 512 * (t.val % 8) + b.val) :
    ((dats m 0 c).arrAt 13 cfg0.N (ix2 r q) : EReal) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 a b) := by
  have h := congrFun ((Value.blocks13 m c t (flush13 t)).trans (Value.flushed13 m c t)) (ix2 a b)
  refine Eq.trans ?_ h
  rw [View.read_apply]
  refine congrArg ((dats m 0 c).arrAt 13 cfg0.N : S16384x4096.Idx → EReal) ?_
  funext x
  apply Fin.ext
  have e := idx13 t
  match x with
  | ⟨0, _⟩ =>
    show r.val = win0_13.index t 0 * 1024 + 1 * a.val
    rw [e]; show r.val = t.val / 8 * 1024 + 1 * a.val; omega
  | ⟨1, _⟩ =>
    show q.val = win0_13.index t 1 * 512 + 1 * b.val
    rw [e]; show q.val = t.val % 8 * 512 + 1 * b.val; omega

open Cert.Sigmoid (logistic) in
/-- The gated sum at an element, from the argument arrays. -/
def spec (a0 : S16384x2048.Idx → EReal) (a1 : S16384x1024.Idx → EReal) (a2 : S16384x1024.Idx → EReal) (a3 : S16384x256.Idx → EReal) (a4 : S4x2048x4096.Idx → EReal) (a5 : S4x1024x4096.Idx → EReal) (a6 : S4x1024x4096.Idx → EReal) (a7 : S4x256x12288.Idx → EReal) (a8 : S4x12288.Idx → EReal) (r : Fin 16384) (q : Fin 4096) : EReal :=
  (logistic ((∑ k : Fin 256, a3 (ix2 r k) * a7 (ix3 0 k ⟨q.val, by omega⟩)) + a8 (ix2 0 ⟨q.val, by omega⟩)) * (∑ k : Fin 2048, a0 (ix2 r k) * a4 (ix3 0 k q))
        + logistic ((∑ k : Fin 256, a3 (ix2 r k) * a7 (ix3 0 k ⟨4096 + q.val, by omega⟩)) + a8 (ix2 0 ⟨4096 + q.val, by omega⟩)) * (∑ k : Fin 1024, a1 (ix2 r k) * a5 (ix3 0 k q)))
        + logistic ((∑ k : Fin 256, a3 (ix2 r k) * a7 (ix3 0 k ⟨8192 + q.val, by omega⟩)) + a8 (ix2 0 ⟨8192 + q.val, by omega⟩)) * (∑ k : Fin 1024, a2 (ix2 r k) * a6 (ix3 0 k q))

theorem G_eq (c : Dev nD) (r : Fin 16384) (q : Fin 4096) : ((dats m 0 c).arrAt 13 cfg0.N (ix2 r q) : EReal) =
    spec (A0 m c) (A1 m c) (A2 m c) (A3 m c) (A4 m c) (A5 m c) (A6 m c) (A7 m c) (A8 m c) r q := by
  have hN : cfg0.N = 128 := N_0
  have hr := r.isLt
  have hq := q.isLt
  rw [arr_at m c ⟨8 * (r.val / 1024) + q.val / 512, by omega⟩ ⟨r.val % 1024, by omega⟩ ⟨q.val % 512, by omega⟩ r q (by dsimp only; omega) (by dsimp only; omega),
    out_apply]
  unfold spec
  simp only [blk0, blk1, blk2, blk3, blk4, blk5, blk6, blk7, blk8, blk9, blk10, blk11, blk12]
  have er : (⟨1024 * ((8 * (r.val / 1024) + q.val / 512) / 8) + r.val % 1024, by omega⟩ : Fin 16384) = r := Fin.ext (by dsimp only; omega)
  have eq : 512 * ((8 * (r.val / 1024) + q.val / 512) % 8) + q.val % 512 = q.val := by omega
  simp only [er, eq]

end Cert.Kernel4Ideal.Val

/-- The value claim. -/
theorem Cert.Kernel4Ideal.Val.alg : Cert.algebraic_Kernel4Ideal_Reference4Ideal := fun m ρ m' ρ' _ hag =>
  ⟨fun c => (Cert.Kernel4Ideal.Gen.dats m 0 c).arrAt 13 Cert.Kernel4Ideal.cfg0.N, Cert.Kernel4Ideal.Value.run_blocks m ρ,
    (θ_run _ _ _).mono (fun _ h c => ⟨(h c).1.trans (by
      obtain ⟨e0, e1, e2, e3, e4, e5, e6, e7, e8⟩ := hag c
      funext i
      idx_vars i
      refine Eq.trans ?_ (Cert.Kernel4Ideal.Val.G_eq m c i0 i1).symm
      rw [e0, e1, e2, e3, e4, e5, e6, e7, e8]
      unfold Cert.Kernel4Ideal.Val.spec Cert.Sigmoid.logistic
      pointwise), (h c).2⟩) (Cert.Reference4Ideal.Value.run m' ρ')⟩

end
-- ==== Proof.Val5.lean ====
module

public import proofs.«01_k».proof.Defs
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Kernel5Ideal.Val

open Cert.Kernel5Ideal Cert.Kernel5Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a run leaves in the accumulator: the product of its blocks, added to zeros. -/
theorem acc_A (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x : Vec F S1024x2048 .bf16) (w : Vec F S1x2048x1024 .bf16) (xl : Vec F S1024x1024 .f32) (md : Vec F S1x1x1024 .f32) :
    sout0_A_0 c i a3 h3 a4 h4 a5 h5 a6 h6 a7 h7 a8 h8 hc0 hc1 x w xl md = k0_pay2 (k0_pay1 (F := F)) x w := by
  unfold sout0_A_0
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h6.read_unread, h8.read_unread, View.ld_unit_zero (S := S1024x2048) hz2,
    View.ld_unit_zero (S := S1x2048x1024) hz3, View.ld_unit_zero (S := S1x1x1024) hz3, View.ld_unit_zero (S := S1024x1024) hz2]

/-- What the last step of a run leaves in the output block: the rows held before, and the scaled accumulator. -/
theorem out_L (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x : Vec F S1024x2048 .bf16) (w : Vec F S1x2048x1024 .bf16) (xl : Vec F S1024x1024 .f32) (md : Vec F S1x1x1024 .f32) (s : Vec F S1024x1024 .f32) :
    out0_B_4 c i a3 h3 a4 h4 a5 h5 a6 h6 a7 h7 a8 h8 hc0 hc1 x w xl md s = k0_pay3 xl md (k0_pay2 s x w) := by
  unfold out0_B_4
  rw [View.read_writes_junk_eq_canon]
  unfold kernelRun0_B
  dsimp only
  sl_unfold_words
  rw [View.canon_unit_zero (S := S1024x1024) hz2, View.readCov_unit_zero (S := S1024x1024) _ hz2]
  simp only [View.readAt_eq_ld, h3.read_unread, h4.read_unread, h5.read_unread, h6.read_unread, h8.read_unread, View.ld_unit_zero (S := S1024x2048) hz2,
    View.ld_unit_zero (S := S1x2048x1024) hz3, View.ld_unit_zero (S := S1x1x1024) hz3, View.ld_unit_zero (S := S1024x1024) hz2]

end

variable (m : (ℓ : Loc nD τ sig) → Buf (Elt Ideal) ℓ)

theorem idx0 : ∀ t : Fin cfg0.N, win0_0.index t = ![t.val / 8, t.val % 2] :=
  (by decide +kernel : ∀ t : Fin grid0.N, _)
theorem idx1 : ∀ t : Fin cfg0.N, win0_1.index t = ![0, t.val % 2, t.val / 2 % 4] :=
  (by decide +kernel : ∀ t : Fin grid0.N, _)
theorem idx2 : ∀ t : Fin cfg0.N, win0_2.index t = ![t.val / 8, t.val / 2 % 4] :=
  (by decide +kernel : ∀ t : Fin grid0.N, _)
theorem idx3 : ∀ t : Fin cfg0.N, win0_3.index t = ![t.val / 64, 0, t.val / 2 % 4] :=
  (by decide +kernel : ∀ t : Fin grid0.N, _)

abbrev A0 (c : Dev nD) : S16384x4096.Idx → EReal := m ((c : Thread nD τ).loc main_arg0)
abbrev A1 (c : Dev nD) : S4x4096x4096.Idx → EReal := m ((c : Thread nD τ).loc main_arg1)
abbrev A2 (c : Dev nD) : S2x8192x4096.Idx → EReal := m ((c : Thread nD τ).loc main_arg2)
abbrev A3 (c : Dev nD) : S2x1x4096.Idx → EReal := m ((c : Thread nD τ).loc main_arg3)

/-- The operands as the region finds them. -/
theorem V_x (c : Dev nD) : (V m c main_v0 : S16384x4096.Idx → EReal) = A0 m c := by
  unfold_abbrev_sides
  after_results
  try rfl
theorem V_w (c : Dev nD) : (V m c main_v1 : S4x4096x4096.Idx → EReal) = A1 m c := by
  unfold_abbrev_sides
  after_results
  try rfl
theorem V_l (c : Dev nD) (r : Fin 16384) (q : Fin 4096) : (V m c main_v2 : S16384x4096.Idx → EReal) (ix2 r q)
    = A2 m c (ix3 ⟨r.val / 8192, by omega⟩ ⟨r.val % 8192, by omega⟩ q) := by
  have e : (V m c main_v2 : S16384x4096.Idx → EReal) = shapeCast (α := Elt Ideal .f32) S16384x4096 (A2 m c) shapeCasts_S2x8192x4096_S16384x4096 := by
    unfold_abbrev_sides
    after_results
    try rfl
  rw [e]
  pointwise
theorem V_md (c : Dev nD) : (V m c main_arg3 : S2x1x4096.Idx → EReal) = A3 m c := by
  unfold_abbrev_sides
  after_results
  try rfl

theorem blk0 (c : Dev nD) (t : Fin cfg0.N) (a : Fin 1024) (k : Fin 2048) :
    (iblk m c 0 t (ix2 a k) : EReal) = A0 m c (ix2 ⟨1024 * (t.val / 8) + a.val, by have := lt_of_lt_of_eq t.isLt (show cfg0.N = 128 from N_0); have := a.isLt; omega⟩
      ⟨2048 * (t.val % 2) + k.val, by have := k.isLt; omega⟩) := by
  rw [← V_x]
  unfold iblk
  rw [View.read_apply]
  refine congrArg (V m c main_v0 : S16384x4096.Idx → EReal) ?_
  funext x
  apply Fin.ext
  have e := idx0 t
  match x with
  | ⟨0, _⟩ =>
    show win0_0.index t 0 * 1024 + 1 * a.val = _
    rw [e]; show t.val / 8 * 1024 + 1 * a.val = 1024 * (t.val / 8) + a.val; omega
  | ⟨1, _⟩ =>
    show win0_0.index t 1 * 2048 + 1 * k.val = _
    rw [e]; show t.val % 2 * 2048 + 1 * k.val = 2048 * (t.val % 2) + k.val; omega

theorem blk1 (c : Dev nD) (t : Fin cfg0.N) (k : Fin 2048) (b : Fin 1024) :
    (iblk m c 1 t (ix3 0 k b) : EReal) = A1 m c (ix3 0
      ⟨2048 * (t.val % 2) + k.val, by have := k.isLt; omega⟩ ⟨1024 * (t.val / 2 % 4) + b.val, by have := b.isLt; omega⟩) := by
  rw [← V_w]
  unfold iblk
  rw [View.read_apply]
  refine congrArg (V m c main_v1 : S4x4096x4096.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 2048 + 1 * k.val = _
    rw [e]; show t.val % 2 * 2048 + 1 * k.val = 2048 * (t.val % 2) + k.val; omega
  | ⟨2, _⟩ =>
    show win0_1.index t 2 * 1024 + 1 * b.val = _
    rw [e]; show t.val / 2 % 4 * 1024 + 1 * b.val = 1024 * (t.val / 2 % 4) + b.val; omega

theorem blk2 (c : Dev nD) (t : Fin cfg0.N) (a b : Fin 1024) :
    (iblk m c 2 t (ix2 a b) : EReal) = A2 m c (ix3 ⟨(1024 * (t.val / 8) + a.val) / 8192, by have := lt_of_lt_of_eq t.isLt (show cfg0.N = 128 from N_0); have := a.isLt; omega⟩
      ⟨(1024 * (t.val / 8) + a.val) % 8192, by omega⟩ ⟨1024 * (t.val / 2 % 4) + b.val, by have := b.isLt; omega⟩) := by
  refine Eq.trans ?_ (V_l m c ⟨1024 * (t.val / 8) + a.val, by have := lt_of_lt_of_eq t.isLt (show cfg0.N = 128 from N_0); have := a.isLt; omega⟩ ⟨1024 * (t.val / 2 % 4) + b.val, by have := b.isLt; omega⟩)
  unfold iblk
  rw [View.read_apply]
  refine congrArg (V m c main_v2 : S16384x4096.Idx → EReal) ?_
  funext x
  apply Fin.ext
  have e := idx2 t
  match x with
  | ⟨0, _⟩ =>
    show win0_2.index t 0 * 1024 + 1 * a.val = _
    rw [e]; show t.val / 8 * 1024 + 1 * a.val = 1024 * (t.val / 8) + a.val; omega
  | ⟨1, _⟩ =>
    show win0_2.index t 1 * 1024 + 1 * b.val = _
    rw [e]; show t.val / 2 % 4 * 1024 + 1 * b.val = 1024 * (t.val / 2 % 4) + b.val; omega

theorem blk3 (c : Dev nD) (t : Fin cfg0.N) (b : Fin 1024) :
    (iblk m c 3 t (ix3 0 0 b) : EReal) = A3 m c (ix3 ⟨t.val / 64, by have := lt_of_lt_of_eq t.isLt (show cfg0.N = 128 from N_0); omega⟩ 0
      ⟨1024 * (t.val / 2 % 4) + b.val, by have := b.isLt; omega⟩) := by
  rw [← V_md]
  unfold iblk
  rw [View.read_apply]
  refine congrArg (V m c main_arg3 : S2x1x4096.Idx → EReal) ?_
  funext x
  apply Fin.ext
  have e := idx3 t
  match x with
  | ⟨0, _⟩ =>
    show win0_3.index t 0 * 1 + 1 * 0 = _
    rw [e]; show t.val / 64 * 1 + 1 * 0 = t.val / 64; omega
  | ⟨1, _⟩ =>
    show win0_3.index t 1 * 1 + 1 * 0 = _
    rw [e]; rfl
  | ⟨2, _⟩ =>
    show win0_3.index t 2 * 1024 + 1 * b.val = _
    rw [e]; show t.val / 2 % 4 * 1024 + 1 * b.val = 1024 * (t.val / 2 % 4) + b.val; omega

/-- The payloads at an element. -/
theorem pay_apply (x x' : Vec Ideal S1024x2048 .bf16) (w w' : Vec Ideal S1x2048x1024 .bf16) (xl : Vec Ideal S1024x1024 .f32) (md : Vec Ideal S1x1x1024 .f32) (a b : Fin 1024) :
    (k0_pay3 xl md (k0_pay2 (k0_pay2 (k0_pay1 (F := Ideal)) x w) x' w') (ix2 a b) : EReal)
      = xl (ix2 a b) + md (ix3 0 0 b) * ((∑ k : Fin 2048, (x (ix2 a k) : EReal) * w (ix3 0 k b)) + ∑ k : Fin 2048, (x' (ix2 a k) : EReal) * w' (ix3 0 k b)) := by
  unfold k0_pay3 k0_pay2 k0_pay1
  pointwise

theorem sum_two (f : Fin 4096 → EReal) (g h : Fin 2048 → EReal)
    (hg : ∀ k : Fin 2048, g k = f ⟨k.val, by omega⟩) (hh : ∀ k : Fin 2048, h k = f ⟨2048 + k.val, by omega⟩) :
    (∑ k, g k) + ∑ k, h k = ∑ k, f k := by
  rw [Fin.sum_univ_two_halves 2048 2048 (by rfl) f]
  congr 1
  · exact Finset.sum_congr rfl fun k _ => hg k
  · exact Finset.sum_congr rfl fun k _ => hh k

theorem G_eq (c : Dev nD) (r : Fin 16384) (q : Fin 4096) : (Value.G4 m c (ix2 r q) : EReal) =
    A2 m c (ix3 ⟨r.val / 8192, by omega⟩ ⟨r.val % 8192, by omega⟩ q) + A3 m c (ix3 ⟨r.val / 8192, by omega⟩ 0 q)
      * ∑ k : Fin 4096, A0 m c (ix2 r k) * A1 m c (ix3 0 k q) := by
  have hN : cfg0.N = 128 := N_0
  have hr := r.isLt
  have hq := q.isLt
  have hpe : Value.pt4Of (ix2 r q) = 2 * (4 * (r.val / 1024 - 0) + 1 * (q.val / 1024 - 0)) + 1 := rfl
  have hp : Value.pt4Of (ix2 r q) < cfg0.N := by omega
  unfold Value.G4
  rw [dif_pos hp, ← Value.outsAt0_sweep m c _ hp]
  generalize Value.pt4Of (ix2 r q) = p at hp hpe
  have hl : Value.loc4Of (ix2 r q) = ix2 ⟨r.val % 1024, by omega⟩ ⟨q.val % 1024, by omega⟩ := by
    funext x; match x with | ⟨0, _⟩ => rfl | ⟨1, _⟩ => rfl
  rw [hl, outsAt0_B m c ⟨p, hp⟩ (by dsimp only; omega) (by dsimp only; omega)]
  dsimp only
  rw [out_L, outsAt0_A m c ⟨p - 1, by omega⟩ (by dsimp only; omega) (by dsimp only; omega)]
  dsimp only
  rw [acc_A, pay_apply]
  rw [blk2, blk3]
  congr 1
  · congr 2 <;> apply Fin.ext <;> dsimp only <;> omega
  congr 1
  · congr 2 <;> apply Fin.ext <;> dsimp only <;> omega
  · refine sum_two _ _ _ (fun k => ?_) (fun k => ?_)
    · rw [blk0, blk1]
      congr 2 <;> congr 1 <;> apply Fin.ext <;> dsimp only <;> omega
    · rw [blk0, blk1]
      congr 2 <;> congr 1 <;> apply Fin.ext <;> dsimp only <;> omega

/-- The reference at an element. -/
theorem ref_at (a0 : Vec Ideal Cert.Reference5Ideal.S16384x4096 .f32) (a1 : Vec Ideal Cert.Reference5Ideal.S4x4096x4096 .f32)
    (a2 : Vec Ideal Cert.Reference5Ideal.S2x8192x4096 .f32) (a3 : Vec Ideal Cert.Reference5Ideal.S2x1x4096 .f32) (r : Fin 16384) (q : Fin 4096) :
    ((shapeCast (α := Elt Ideal .f32) Cert.Reference5Ideal.S16384x4096
      (addf (F := Ideal) (φ := .f32) a2
        (mulf (F := Ideal) (φ := .f32)
          (broadcastInDim (α := Elt Ideal .f32) Cert.Reference5Ideal.S2x8192x4096 ![0, 1, 2] Cert.Reference5Ideal.Gen.bcast_S2x1x4096_S2x8192x4096_0_1_2 a3)
          (shapeCast (α := Elt Ideal .f32) Cert.Reference5Ideal.S2x8192x4096
            (Host.dotGeneral (F := Ideal) (φ₁ := .f32) (φ₂ := .f32) Cert.Reference5Ideal.dot_S16384x4096_S4096x4096_S16384x4096_1_0_0_1_n_n none a0
              (shapeCast (α := Elt Ideal .f32) Cert.Reference5Ideal.S4096x4096
                (extractStridedSlice (α := Elt Ideal .f32) Cert.Reference5Ideal.S1x4096x4096 ![0, 0, 0] a1
                  Cert.Reference5Ideal.Gen.slices_S4x4096x4096_S1x4096x4096_0_0_0)
                Cert.Reference5Ideal.Gen.shapeCasts_S1x4096x4096_S4096x4096))
            Cert.Reference5Ideal.Gen.shapeCasts_S16384x4096_S2x8192x4096)))
      Cert.Reference5Ideal.Gen.shapeCasts_S2x8192x4096_S16384x4096 : FVec Ideal Cert.Reference5Ideal.S16384x4096 .f32) (ix2 r q) : EReal) =
    (a2 (ix3 ⟨r.val / 8192, by omega⟩ ⟨r.val % 8192, by omega⟩ q) : EReal) + (a3 (ix3 ⟨r.val / 8192, by omega⟩ 0 q) : EReal)
      * ∑ k : Fin 4096, (a0 (ix2 r k) : EReal) * a1 (ix3 0 k q) := by
  pointwise

end Cert.Kernel5Ideal.Val

/-- The value claim. -/
theorem Cert.Kernel5Ideal.Val.alg : Cert.algebraic_Kernel5Ideal_Reference5Ideal := fun m ρ m' ρ' _ hag =>
  ⟨fun c => Cert.Kernel5Ideal.Value.G4 m c, Cert.Kernel5Ideal.Value.run m ρ,
    (θ_run _ _ _).mono (fun _ h c => ⟨(h c).1.trans (by
      obtain ⟨e0, e1, e2, e3⟩ := hag c
      funext i
      idx_vars i
      refine Eq.trans ?_ (Cert.Kernel5Ideal.Val.G_eq m c i0 i1).symm
      rw [e0, e1, e2, e3]
      exact Cert.Kernel5Ideal.Val.ref_at _ _ _ _ i0 i1), (h c).2⟩) (Cert.Reference5Ideal.Value.run m' ρ')⟩

end
-- ==== Proof.Val6.lean ====
module

public import proofs.«01_k».proof.Defs
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Kernel6Ideal.Val

open Cert.Kernel6Ideal Cert.Kernel6Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a run leaves in the accumulator: the product of its blocks, added to zeros. -/
theorem acc_A (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x : Vec F S1024x2048 .bf16) (w : Vec F S1x2048x1024 .bf16) :
    sout0_A_0 c i a3 h3 a4 h4 a5 h5 a6 h6 hc0 hc1 x w = k0_pay2 (k0_pay1 (F := F)) x w := by
  unfold sout0_A_0
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x2048) hz2,
    View.ld_unit_zero (S := S1x2048x1024) hz3]

/-- What the last step of a run leaves in the output block: the accumulator with its product added, rounded. -/
theorem out_B (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x : Vec F S1024x2048 .bf16) (w : Vec F S1x2048x1024 .bf16) (s : Vec F S1024x1024 .f32) :
    out0_B_2 c i a3 h3 a4 h4 a5 h5 a6 h6 hc0 hc1 x w s = k0_pay3 (k0_pay2 s x w) := by
  unfold out0_B_2
  rw [View.read_writes_junk_eq_canon]
  unfold kernelRun0_B
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x2048) hz2,
    View.ld_unit_zero (S := S1x2048x1024) hz3, View.ld_unit_zero (S := S1024x1024) hz2]

end

variable (m : (ℓ : Loc nD τ sig) → Buf (Elt Ideal) ℓ)

theorem idx0 : ∀ t : Fin cfg0.N, win0_0.index t = ![t.val / 12, t.val % 2] :=
  (by decide +kernel : ∀ t : Fin grid0.N, _)
theorem idx1 : ∀ t : Fin cfg0.N, win0_1.index t = ![0, t.val % 2, t.val / 2 % 6] :=
  (by decide +kernel : ∀ t : Fin grid0.N, _)

abbrev A0 (c : Dev nD) : S16384x8192.Idx → EReal := m ((c : Thread nD τ).loc main_arg0)
abbrev A1 (c : Dev nD) : S4x4096x10240.Idx → EReal := m ((c : Thread nD τ).loc main_arg1)

/-- The operands as the region finds them. -/
theorem V_x (c : Dev nD) : (V m c main_v0 : S16384x8192.Idx → EReal) = A0 m c := by
  unfold_abbrev_sides
  after_results
  try rfl
theorem V_w (c : Dev nD) : (V m c main_v1 : S4x4096x10240.Idx → EReal) = A1 m c := by
  unfold_abbrev_sides
  after_results
  try rfl

theorem blk0 (c : Dev nD) (t : Fin cfg0.N) (a : Fin 1024) (k : Fin 2048) :
    (iblk m c 0 t (ix2 a k) : EReal) = A0 m c (ix2 ⟨1024 * (t.val / 12) + a.val, by have := lt_of_lt_of_eq t.isLt (show cfg0.N = 192 from N_0); have := a.isLt; omega⟩
      ⟨2048 * (t.val % 2) + k.val, by have := k.isLt; omega⟩) := by
  rw [← V_x]
  unfold iblk
  rw [View.read_apply]
  refine congrArg (V m c main_v0 : S16384x8192.Idx → EReal) ?_
  funext x
  apply Fin.ext
  have e := idx0 t
  match x with
  | ⟨0, _⟩ =>
    show win0_0.index t 0 * 1024 + 1 * a.val = _
    rw [e]; show t.val / 12 * 1024 + 1 * a.val = 1024 * (t.val / 12) + a.val; omega
  | ⟨1, _⟩ =>
    show win0_0.index t 1 * 2048 + 1 * k.val = _
    rw [e]; show t.val % 2 * 2048 + 1 * k.val = 2048 * (t.val % 2) + k.val; omega

theorem blk1 (c : Dev nD) (t : Fin cfg0.N) (k : Fin 2048) (b : Fin 1024) :
    (iblk m c 1 t (ix3 0 k b) : EReal) = A1 m c (ix3 0
      ⟨2048 * (t.val % 2) + k.val, by have := k.isLt; omega⟩ ⟨1024 * (t.val / 2 % 6) + b.val, by have := b.isLt; omega⟩) := by
  rw [← V_w]
  unfold iblk
  rw [View.read_apply]
  refine congrArg (V m c main_v1 : S4x4096x10240.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 2048 + 1 * k.val = _
    rw [e]; show t.val % 2 * 2048 + 1 * k.val = 2048 * (t.val % 2) + k.val; omega
  | ⟨2, _⟩ =>
    show win0_1.index t 2 * 1024 + 1 * b.val = _
    rw [e]; show t.val / 2 % 6 * 1024 + 1 * b.val = 1024 * (t.val / 2 % 6) + b.val; omega

/-- The payloads at an element. -/
theorem pay_apply (x x' : Vec Ideal S1024x2048 .bf16) (w w' : Vec Ideal S1x2048x1024 .bf16) (a b : Fin 1024) :
    (k0_pay3 (k0_pay2 (k0_pay2 (k0_pay1 (F := Ideal)) x w) x' w') (ix2 a b) : EReal)
      = (∑ k : Fin 2048, (x (ix2 a k) : EReal) * w (ix3 0 k b)) + ∑ k : Fin 2048, (x' (ix2 a k) : EReal) * w' (ix3 0 k b) := by
  unfold k0_pay3 k0_pay2 k0_pay1
  pointwise

theorem sum_two (f : Fin 4096 → EReal) (g h : Fin 2048 → EReal)
    (hg : ∀ k : Fin 2048, g k = f ⟨k.val, by omega⟩) (hh : ∀ k : Fin 2048, h k = f ⟨2048 + k.val, by omega⟩) :
    (∑ k, g k) + ∑ k, h k = ∑ k, f k := by
  rw [Fin.sum_univ_two_halves 2048 2048 (by rfl) f]
  congr 1
  · exact Finset.sum_congr rfl fun k _ => hg k
  · exact Finset.sum_congr rfl fun k _ => hh k

theorem G_eq (c : Dev nD) (r : Fin 16384) (q : Fin 6144) : (Value.G2 m c (ix2 r q) : EReal) =
    ∑ k : Fin 4096, A0 m c (ix2 r ⟨k.val, by omega⟩) * A1 m c (ix3 0 k ⟨q.val, by omega⟩) := by
  have hN : cfg0.N = 192 := N_0
  have hr := r.isLt
  have hq := q.isLt
  have hpe : Value.pt2Of (ix2 r q) = 2 * (6 * (r.val / 1024 - 0) + 1 * (q.val / 1024 - 0)) + 1 := rfl
  have hp : Value.pt2Of (ix2 r q) < cfg0.N := by omega
  unfold Value.G2
  rw [dif_pos hp, ← Value.outsAt0_sweep m c _ hp]
  generalize Value.pt2Of (ix2 r q) = p at hp hpe
  have hl : Value.loc2Of (ix2 r q) = ix2 ⟨r.val % 1024, by omega⟩ ⟨q.val % 1024, by omega⟩ := by
    funext x; match x with | ⟨0, _⟩ => rfl | ⟨1, _⟩ => rfl
  rw [hl, outsAt0_B m c ⟨p, hp⟩ (by dsimp only; omega) (by dsimp only; omega)]
  dsimp only
  rw [out_B, outsAt0_A m c ⟨p - 1, by omega⟩ (by dsimp only; omega) (by dsimp only; omega)]
  dsimp only
  rw [acc_A, pay_apply]
  refine sum_two _ _ _ (fun k => ?_) (fun k => ?_)
  · rw [blk0, blk1]
    congr 2 <;> congr 1 <;> apply Fin.ext <;> dsimp only <;> omega
  · rw [blk0, blk1]
    congr 2 <;> congr 1 <;> apply Fin.ext <;> dsimp only <;> omega

end Cert.Kernel6Ideal.Val

/-- The projection's value claim. -/
theorem Cert.Kernel6Ideal.Val.alg : Cert.algebraic_Kernel6Ideal_Reference6Ideal := fun m ρ m' ρ' _ hag =>
  ⟨fun c => Cert.Kernel6Ideal.Value.G2 m c, Cert.Kernel6Ideal.Value.run m ρ,
    (θ_run _ _ _).mono (fun _ h c => ⟨(h c).1.trans (by
      obtain ⟨e0, e1⟩ := hag c
      funext i
      idx_vars i
      refine Eq.trans ?_ (Cert.Kernel6Ideal.Val.G_eq m c i0 i1).symm
      rw [e0, e1]
      pointwise), (h c).2⟩) (Cert.Reference6Ideal.Value.run m' ρ')⟩

end
-- ==== Proof.Val7.lean ====
module

public import proofs.«01_k».proof.Defs
public import proofs.«01_k».proof.Proof.Gen.Kernel7Ideal.Value
public import proofs.«01_k».proof.Proof.Gen.Reference7Ideal.Run
public import Idealize.ShloMosaic.Lib.Pipeline.Value
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Kernel7Ideal.Val

open Cert.Kernel7Ideal Cert.Kernel7Ideal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a run leaves in the accumulator: the product of its blocks, added to zeros. -/
theorem acc_A (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x : Vec F S1024x2048 .bf16) (w : Vec F S1x2048x1024 .bf16) :
    sout0_A_0 c i a3 h3 a4 h4 a5 h5 a6 h6 hc0 hc1 x w = k0_pay2 (k0_pay1 (F := F)) x w := by
  unfold sout0_A_0
  rw [View.read_writes_junk_eq_canon]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x2048) hz2,
    View.ld_unit_zero (S := S1x2048x1024) hz3]

/-- What the last step of a run leaves in the output block: the accumulator with its product added, rounded. -/
theorem out_B (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x : Vec F S1024x2048 .bf16) (w : Vec F S1x2048x1024 .bf16) (s : Vec F S1024x1024 .f32) :
    out0_B_2 c i a3 h3 a4 h4 a5 h5 a6 h6 hc0 hc1 x w s = k0_pay3 (k0_pay2 s x w) := by
  unfold out0_B_2
  rw [View.read_writes_junk_eq_canon]
  unfold kernelRun0_B
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x2048) hz2,
    View.ld_unit_zero (S := S1x2048x1024) hz3, View.ld_unit_zero (S := S1024x1024) hz2]

end

variable (m : (ℓ : Loc nD τ sig) → Buf (Elt Ideal) ℓ)

theorem idx0 : ∀ t : Fin cfg0.N, win0_0.index t = ![t.val / 8, t.val % 2] :=
  (by decide +kernel : ∀ t : Fin grid0.N, _)
theorem idx1 : ∀ t : Fin cfg0.N, win0_1.index t = ![0, t.val % 2, 6 + t.val / 2 % 4] :=
  (by decide +kernel : ∀ t : Fin grid0.N, _)

abbrev A0 (c : Dev nD) : S16384x8192.Idx → EReal := m ((c : Thread nD τ).loc main_arg0)
abbrev A1 (c : Dev nD) : S4x4096x10240.Idx → EReal := m ((c : Thread nD τ).loc main_arg1)

/-- The operands as the region finds them. -/
theorem V_x (c : Dev nD) : (V m c main_v0 : S16384x8192.Idx → EReal) = A0 m c := by
  unfold_abbrev_sides
  after_results
  try rfl
theorem V_w (c : Dev nD) : (V m c main_v1 : S4x4096x10240.Idx → EReal) = A1 m c := by
  unfold_abbrev_sides
  after_results
  try rfl

theorem blk0 (c : Dev nD) (t : Fin cfg0.N) (a : Fin 1024) (k : Fin 2048) :
    (iblk m c 0 t (ix2 a k) : EReal) = A0 m c (ix2 ⟨1024 * (t.val / 8) + a.val, by have := lt_of_lt_of_eq t.isLt (show cfg0.N = 128 from N_0); have := a.isLt; omega⟩
      ⟨2048 * (t.val % 2) + k.val, by have := k.isLt; omega⟩) := by
  rw [← V_x]
  unfold iblk
  rw [View.read_apply]
  refine congrArg (V m c main_v0 : S16384x8192.Idx → EReal) ?_
  funext x
  apply Fin.ext
  have e := idx0 t
  match x with
  | ⟨0, _⟩ =>
    show win0_0.index t 0 * 1024 + 1 * a.val = _
    rw [e]; show t.val / 8 * 1024 + 1 * a.val = 1024 * (t.val / 8) + a.val; omega
  | ⟨1, _⟩ =>
    show win0_0.index t 1 * 2048 + 1 * k.val = _
    rw [e]; show t.val % 2 * 2048 + 1 * k.val = 2048 * (t.val % 2) + k.val; omega

theorem blk1 (c : Dev nD) (t : Fin cfg0.N) (k : Fin 2048) (b : Fin 1024) :
    (iblk m c 1 t (ix3 0 k b) : EReal) = A1 m c (ix3 0
      ⟨2048 * (t.val % 2) + k.val, by have := k.isLt; omega⟩ ⟨6144 + 1024 * (t.val / 2 % 4) + b.val, by have := b.isLt; omega⟩) := by
  rw [← V_w]
  unfold iblk
  rw [View.read_apply]
  refine congrArg (V m c main_v1 : S4x4096x10240.Idx → EReal) ?_
  funext x
  apply Fin.ext
  have e := idx1 t
  match x with
  | ⟨0, _⟩ =>
    show win0_1.index t 0 * 1 + 1 * 0 = _
    rw [e]; rfl
  | ⟨1, _⟩ =>
    show win0_1.index t 1 * 2048 + 1 * k.val = _
    rw [e]; show t.val % 2 * 2048 + 1 * k.val = 2048 * (t.val % 2) + k.val; omega
  | ⟨2, _⟩ =>
    show win0_1.index t 2 * 1024 + 1 * b.val = _
    rw [e]; show (6 + t.val / 2 % 4) * 1024 + 1 * b.val = 6144 + 1024 * (t.val / 2 % 4) + b.val; omega

/-- The payloads at an element. -/
theorem pay_apply (x x' : Vec Ideal S1024x2048 .bf16) (w w' : Vec Ideal S1x2048x1024 .bf16) (a b : Fin 1024) :
    (k0_pay3 (k0_pay2 (k0_pay2 (k0_pay1 (F := Ideal)) x w) x' w') (ix2 a b) : EReal)
      = (∑ k : Fin 2048, (x (ix2 a k) : EReal) * w (ix3 0 k b)) + ∑ k : Fin 2048, (x' (ix2 a k) : EReal) * w' (ix3 0 k b) := by
  unfold k0_pay3 k0_pay2 k0_pay1
  pointwise

theorem sum_two (f : Fin 4096 → EReal) (g h : Fin 2048 → EReal)
    (hg : ∀ k : Fin 2048, g k = f ⟨k.val, by omega⟩) (hh : ∀ k : Fin 2048, h k = f ⟨2048 + k.val, by omega⟩) :
    (∑ k, g k) + ∑ k, h k = ∑ k, f k := by
  rw [Fin.sum_univ_two_halves 2048 2048 (by rfl) f]
  congr 1
  · exact Finset.sum_congr rfl fun k _ => hg k
  · exact Finset.sum_congr rfl fun k _ => hh k

theorem G_eq (c : Dev nD) (r : Fin 16384) (q : Fin 4096) : (Value.G2 m c (ix2 r q) : EReal) =
    ∑ k : Fin 4096, A0 m c (ix2 r ⟨k.val, by omega⟩) * A1 m c (ix3 0 k ⟨6144 + q.val, by omega⟩) := by
  have hN : cfg0.N = 128 := N_0
  have hr := r.isLt
  have hq := q.isLt
  have hpe : Value.pt2Of (ix2 r q) = 2 * (4 * (r.val / 1024 - 0) + 1 * (q.val / 1024 - 0)) + 1 := rfl
  have hp : Value.pt2Of (ix2 r q) < cfg0.N := by omega
  unfold Value.G2
  rw [dif_pos hp, ← Value.outsAt0_sweep m c _ hp]
  generalize Value.pt2Of (ix2 r q) = p at hp hpe
  have hl : Value.loc2Of (ix2 r q) = ix2 ⟨r.val % 1024, by omega⟩ ⟨q.val % 1024, by omega⟩ := by
    funext x; match x with | ⟨0, _⟩ => rfl | ⟨1, _⟩ => rfl
  rw [hl, outsAt0_B m c ⟨p, hp⟩ (by dsimp only; omega) (by dsimp only; omega)]
  dsimp only
  rw [out_B, outsAt0_A m c ⟨p - 1, by omega⟩ (by dsimp only; omega) (by dsimp only; omega)]
  dsimp only
  rw [acc_A, pay_apply]
  refine sum_two _ _ _ (fun k => ?_) (fun k => ?_)
  · rw [blk0, blk1]
    congr 2 <;> congr 1 <;> apply Fin.ext <;> dsimp only <;> omega
  · rw [blk0, blk1]
    congr 2 <;> congr 1 <;> apply Fin.ext <;> dsimp only <;> omega

end Cert.Kernel7Ideal.Val

/-- The projection's value claim. -/
theorem Cert.Kernel7Ideal.Val.alg : Cert.algebraic_Kernel7Ideal_Reference7Ideal := fun m ρ m' ρ' _ hag =>
  ⟨fun c => Cert.Kernel7Ideal.Value.G2 m c, Cert.Kernel7Ideal.Value.run m ρ,
    (θ_run _ _ _).mono (fun _ h c => ⟨(h c).1.trans (by
      obtain ⟨e0, e1⟩ := hag c
      funext i
      idx_vars i
      refine Eq.trans ?_ (Cert.Kernel7Ideal.Val.G_eq m c i0 i1).symm
      rw [e0, e1]
      pointwise), (h c).2⟩) (Cert.Reference7Ideal.Value.run m' ρ')⟩

end
-- ==== Proof.RouteDefs.lean ====
module

public import proofs.«01_k».proof.Defs
public import proofs.«01_k».proof.Proof.Gen.KernelIdeal
public import Idealize.ShloMosaic.Lib.Routing.Words
public import Idealize.ShloMosaic.Lib.Routing.OpsSet

@[expose] public section

set_option maxRecDepth 16384

noncomputable section

open Idealize.ShloMosaic Idealize.ShloMosaic.TcCoe

namespace Cert.KernelIdeal.Moe

open Cert.KernelIdeal Facts₀

/-- jnp's reading of an index word: a negative one counts from the end. -/
def wrap {s : Shape} (hb : S_.BroadcastsInDim s (![] : Fin 0 → Fin s.rank)) (n : BitVec 32) (x : IVec s 32) : IVec s 32 :=
  select (cmpi .slt x (broadcastInDim s ![] hb (constantI S_ 32 0#32))) (addi x (broadcastInDim s ![] hb (constantI S_ 32 n))) x

/-- A running sum of eight words. -/
def cums (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- An entry of an eight-word table for each of 32768 positions, or of 36864 rows. -/
def take8 (x : IVec S8 32) (i : IVec S32768 32) : IVec S32768 32 :=
  Host.gather gather_S8_S32768x1_S32768_n_0_n_n_0_1_1 x (broadcastInDim S32768x1 ![0] bcast_S32768_S32768x1_0 (wrap bcast_S_S32768 8#32 i))
def take8r (x : IVec S8 32) (i : IVec S36864 32) : IVec S36864 32 :=
  Host.gather gather_S8_S36864x1_S36864_n_0_n_n_0_1_1 x (broadcastInDim S36864x1 ![0] bcast_S36864_S36864x1_0 (wrap bcast_S_S36864 8#32 i))
def takeN (x : IVec S32768 32) (i : IVec S32768 32) : IVec S32768 32 :=
  Host.gather gather_S32768_S32768x1_S32768_n_0_n_n_0_1_1 x (broadcastInDim S32768x1 ![0] bcast_S32768_S32768x1_0 (wrap bcast_S_S32768 32768#32 i))
def takeNr (x : IVec S32768 32) (i : IVec S36864 32) : IVec S36864 32 :=
  Host.gather gather_S32768_S36864x1_S36864_n_0_n_n_0_1_1 x (broadcastInDim S36864x1 ![0] bcast_S36864_S36864x1_0 (wrap bcast_S_S36864 32768#32 i))
/-- The positions in the order of their words. -/
def sortIdx (x : IVec S32768 32) : IVec S32768 32 := (Host.sort2 S32768 0 comparator_i32_i32_d0 x (iotaInDim S32768 32 0)).2

variable (fl : IVec S32768 32)

def ordT : IVec S32768 32 := sortIdx fl
def eS : IVec S32768 32 := takeN fl (ordT fl)
def cntT : IVec S8 32 :=
  Host.reduce IntOp.addi (extui 32 (cmpi .eq
    (broadcastInDim S32768x8 ![0, 1] bcast_S32768x1_S32768x8_0_1 (broadcastInDim S32768x1 ![0] bcast_S32768_S32768x1_0 fl))
    (broadcastInDim S32768x8 ![0, 1] bcast_S1x8_S32768x8_0_1 (iotaInDim S1x8 32 1))) natLt_1_32) (constantI S_ 32 0#32) reducesTo_S32768x8_S8_d0 h_S_
def padT : IVec S8 32 :=
  muli (Routing.pyDiv bcast_S_S8 (subi (addi (cntT fl) (broadcastInDim S8 ![] bcast_S_S8 (constantI S_ 32 512#32)))
    (broadcastInDim S8 ![] bcast_S_S8 (constantI S_ 32 1#32))) (constantI S_ 32 512#32)) (broadcastInDim S8 ![] bcast_S_S8 (constantI S_ 32 512#32))
def peT : IVec S8 32 := cums (padT fl)
def psT : IVec S8 32 := subi (peT fl) (padT fl)
def stT : IVec S8 32 := subi (cums (cntT fl)) (cntT fl)
def dstS : IVec S32768 32 := subi (addi (take8 (psT fl) (eS fl)) (iotaInDim S32768 32 0)) (take8 (stT fl) (eS fl))
def rowE : IVec S36864 32 :=
  minsi (Host.reduce IntOp.addi (extui 32 (cmpi .sge
    (broadcastInDim S36864x8 ![0, 1] bcast_S36864x1_S36864x8_0_1 (broadcastInDim S36864x1 ![0] bcast_S36864_S36864x1_0 (iotaInDim S36864 32 0)))
    (broadcastInDim S36864x8 ![0, 1] bcast_S1x8_S36864x8_0_1 (broadcastInDim S1x8 ![1] bcast_S8_S1x8_1 (peT fl)))) natLt_1_32)
    (constantI S_ 32 0#32) reducesTo_S36864x8_S36864_d1 h_S_) (broadcastInDim S36864 ![] bcast_S_S36864 (constantI S_ 32 7#32))
def within : IVec S36864 32 := subi (iotaInDim S36864 32 0) (take8r (psT fl) (rowE fl))
def validT : IVec S36864 1 := cmpi .slt (within fl) (take8r (cntT fl) (rowE fl))
def posT : IVec S36864 32 :=
  minsi (broadcastInDim S36864 ![] bcast_S_S36864 (constantI S_ 32 32767#32))
    (maxsi (broadcastInDim S36864 ![] bcast_S_S36864 (constantI S_ 32 0#32)) (addi (take8r (stT fl) (rowE fl)) (within fl)))
def srcT : IVec S36864 32 :=
  select (validT fl) (Routing.pyDiv bcast_S_S36864 (takeNr (ordT fl) (posT fl)) (constantI S_ 32 2#32))
    (broadcastInDim S36864 ![] bcast_S_S36864 (constantI S_ 32 0#32))
def tileE : IVec S72 32 :=
  minsi (Host.reduce IntOp.addi (extui 32 (cmpi .sge
    (broadcastInDim S72x8 ![0, 1] bcast_S72x1_S72x8_0_1 (broadcastInDim S72x1 ![0] bcast_S72_S72x1_0
      (muli (iotaInDim S72 32 0) (broadcastInDim S72 ![] bcast_S_S72 (constantI S_ 32 512#32)))))
    (broadcastInDim S72x8 ![0, 1] bcast_S1x8_S72x8_0_1 (broadcastInDim S1x8 ![1] bcast_S8_S1x8_1 (peT fl)))) natLt_1_32)
    (constantI S_ 32 0#32) reducesTo_S72x8_S72_d1 h_S_) (broadcastInDim S72 ![] bcast_S_S72 (constantI S_ 32 7#32))
def tableT : IVec S72 32 := addi (tileE fl) (broadcastInDim S72 ![] bcast_S_S72 (constantI S_ 32 8#32))
def destT : IVec S16384x2 32 := shapeCast S16384x2 (takeN (dstS fl) (sortIdx (ordT fl))) shapeCasts_S32768_S16384x2

/-- The gathered rows. -/
def rowsT {α : Type} (h : S16384x4096.Idx → α) : S36864x4096.Idx → α :=
  Host.gather gather_S16384x4096_S36864x1_S36864x4096_1_0_n_n_0_1_14096 h
    (broadcastInDim S36864x1 ![0] bcast_S36864_S36864x1_0 (wrap bcast_S_S36864 16384#32 (srcT fl)))

/-- The rows of the product taken back to their tokens. -/
def backT {α : Type} (o : S36864x1024.Idx → α) (d : IVec S16384x2 32) : S16384x2x1024.Idx → α :=
  Host.gather gather_S36864x1024_S16384x2x1_S16384x2x1024_2_0_n_n_0_2_11024 o
    (broadcastInDim S16384x2x1 ![0, 1] bcast_S16384x2_S16384x2x1_0_1 (wrap bcast_S_S16384x2 36864#32 d))

/-- The chosen experts, flat. -/
def flat (x : IVec S16384x2 32) : IVec S32768 32 := shapeCast S32768 x shapeCasts_S16384x2_S32768

end Cert.KernelIdeal.Moe

end
-- ==== Proof.RouteRead.lean ====
module

public import proofs.«01_k».proof.Proof.RouteDefs
public import proofs.«01_k».proof.Proof.Gen.KernelIdeal.Frame.Runs
public import Idealize.ShloMosaic.Lib.StableHlo.RunRead

@[expose] public section

set_option maxRecDepth 100000
set_option maxHeartbeats 8000000

noncomputable section

open Idealize.ShloMosaic Idealize.ShloMosaic.TcCoe Idealize.SL.Sem

namespace Cert.KernelIdeal.Moe

open Cert.KernelIdeal Cert.KernelIdeal.Gen StableHlo

variable {F : FTy → Type} [FloatOps F] (m : (ℓ : Loc nD τ sig) → Buf (Elt F) ℓ)

abbrev fl (c : Dev nD) : IVec S32768 32 :=
  flat (Host.topK S16384x2 1 (FloatOps.cmpfTotal (F := F) (φ := .f32) .gt) (m ((c : Thread nD τ).loc main_arg1) : Vec F S16384x8 .f32) sliceFits_S16384x8_S16384x2).2

theorem V_table (c : Dev nD) : (V m c main_v137 : IVec S72 32) = tableT (fl m c) := by
  unfold V V0
  after_reads_simp
  unfold tableT tileE peT padT cntT cums
  simp -implicitDefEqProofs only [StableHlo.TRef.toBuf, StableHlo.TRef.ofBuf, cast_cast, cast_eq, id]
  rfl

theorem V_dest (c : Dev nD) : (V m c main_v128 : IVec S16384x2 32) = destT (fl m c) := by
  unfold V V0
  after_reads_simp
  unfold destT takeN dstS take8 psT stT eS takeN ordT peT padT cntT cums sortIdx wrap
  simp -implicitDefEqProofs only [StableHlo.TRef.toBuf, StableHlo.TRef.ofBuf, cast_cast, cast_eq, id]
  rfl

theorem V_rows (c : Dev nD) : (V m c main_v135 : S36864x4096.Idx → Elt F .bf16)
    = rowsT (fl m c) (truncf (F := F) .bf16 (m ((c : Thread nD τ).loc main_arg0) : Vec F S16384x4096 .f32) bitsLt_bf16_f32) := by
  unfold V V0
  after_reads_simp
  unfold rowsT srcT takeNr posT validT within rowE take8r psT stT ordT peT padT cntT cums sortIdx wrap
  simp -implicitDefEqProofs only [StableHlo.TRef.toBuf, StableHlo.TRef.ofBuf, cast_cast, cast_eq, id]
  rfl

theorem V_w1 (c : Dev nD) : (V m c main_v1 : S16x4096x1024.Idx → Elt F .bf16)
    = shapeCast S16x4096x1024 (truncf (F := F) .bf16 (m ((c : Thread nD τ).loc main_arg2) : Vec F S2x8x4096x1024 .f32) bitsLt_bf16_f32) shapeCasts_S2x8x4096x1024_S16x4096x1024 := by
  unfold V V0
  after_reads_simp
  rfl

theorem V_w3 (c : Dev nD) : (V m c main_v3 : S16x4096x1024.Idx → Elt F .bf16)
    = shapeCast S16x4096x1024 (truncf (F := F) .bf16 (m ((c : Thread nD τ).loc main_arg3) : Vec F S2x8x4096x1024 .f32) bitsLt_bf16_f32) shapeCasts_S2x8x4096x1024_S16x4096x1024 := by
  unfold V V0
  after_reads_simp
  rfl

/-- What the lines after the region return. -/
theorem tail_out (hO : Ok m) (dats : (p : Fin 1) → (c : Dev nD) → Pipeline.Dat τ (Elt F) Unit ℕ (UR sig nD τ) ℕ ((Pipeline.pin pcfgs fun _ => adm m hO) p) c) (c : Dev nD) :
    (Pipeline.afterTail pcfgs (fun _ => adm m hO) dats 0 (V0 m) [hostOps1] c main_v145 : S16384x2x1024.Idx → Elt F .bf16)
      = backT ((dats 0 c).arrAt 3 (cfgM m hO).N : S36864x1024.Idx → Elt F .bf16) (V m c main_v128 : IVec S16384x2 32) := by
  unfold Pipeline.afterTail
  have e1 : Pipeline.withArrays (Pipeline.pin pcfgs (fun _ => adm m hO) 0).spec c (V0 m c) (fun w => (dats 0 c).arrAt w (Pipeline.pin pcfgs (fun _ => adm m hO) 0).N)
      (Proc.devRef .tc main_v138) = (dats 0 c).arrAt 3 (cfgM m hO).N :=
    Pipeline.withArrays_arr spec0 (by decide) c (V0 m c) _ 3
  have e2 : Pipeline.withArrays (Pipeline.pin pcfgs (fun _ => adm m hO) 0).spec c (V0 m c) (fun w => (dats 0 c).arrAt w (Pipeline.pin pcfgs (fun _ => adm m hO) 0).N)
      (Proc.devRef .tc main_v128) = V m c main_v128 :=
    Pipeline.withArrays_of_ne spec0 c (V0 m c) _ main_v128 (by exact (by decide : ∀ w, Pipeline.arrRef spec0 w ≠ main_v128))
  revert e1 e2
  generalize Pipeline.withArrays (Pipeline.pin pcfgs (fun _ => adm m hO) 0).spec c (V0 m c) (fun w => (dats 0 c).arrAt w (Pipeline.pin pcfgs (fun _ => adm m hO) 0).N) = W
  intro e1 e2
  rw [← e1, ← e2]
  after_reads_simp
  unfold backT wrap
  simp -implicitDefEqProofs only [StableHlo.TRef.toBuf, StableHlo.TRef.ofBuf, cast_cast, cast_eq, id]
  rfl

end Cert.KernelIdeal.Moe

end
-- ==== Proof.RouteWord.lean ====
module

public import proofs.«01_k».proof.Proof.RouteDefs
public import proofs.«01_k».proof.Proof.RouteCount
public import Idealize.ShloMosaic.Lib.PlanTiles.Rows

@[expose] public section

set_option maxRecDepth 16384

noncomputable section

open Idealize.ShloMosaic Idealize.ShloMosaic.TcCoe Idealize.ShloMosaic.WordCmp Idealize.ShloMosaic.ValueIdx

namespace Cert.KernelIdeal.Moe

open Cert.KernelIdeal Facts₀ Cert.Moves

theorem wrap_ap {s : Shape} (hb : S_.BroadcastsInDim s (![] : Fin 0 → Fin s.rank)) (n : BitVec 32) (x : IVec s 32) (i : s.Idx) {b : ℕ}
    (h : x i = BitVec.ofNat 32 b) (hlt : b < 2 ^ 31) : wrap hb n x i = BitVec.ofNat 32 b := by
  unfold wrap
  rw [select_at, cmpi_at, Routing.bc0, constantI_at, h, show (0#32 : BitVec 32) = BitVec.ofNat 32 0 from rfl,
    cmpi_slt_ofNat (w := 32) hlt (by decide), select_decide, if_neg (by omega)]

theorem sort_spec (x : IVec S32768 32) (v : ℕ → ℕ) (hx : ∀ p : Fin 32768, x (ix1 p) = BitVec.ofNat 32 (v p.val)) (hv : ∀ p, v p < 2 ^ 31) :
    ∃ o : Fin 32768 → Fin 32768, Function.Bijective o ∧ (∀ i j, i < j → v (o i) ≤ v (o j)) ∧ ∀ i, sortIdx x (ix1 i) = BitVec.ofNat 32 (o i).val := by
  let R : Fin 32768 → Fin 32768 → Bool := fun k k' =>
    comparator_i32_i32_d0 (x (ix1 k), iotaInDim S32768 32 0 (ix1 k)) (x (ix1 k'), iotaInDim S32768 32 0 (ix1 k')) == 1#1
  have hR : ∀ k k', R k k' = decide (v k.val < v k'.val) := fun k k' => by
    show (IntOp.cmpi .slt (x (ix1 k)) (x (ix1 k')) == 1#1) = _
    rw [hx, hx, cmpi_slt_ofNat (w := 32) (hv _) (hv _)]
    by_cases h : v k.val < v k'.val
    · simp only [h, decide_true]; rfl
    · simp only [h, decide_false]; rfl
  refine ⟨sortedFrom R, ⟨sortedFrom_injective R, sortedFrom_surjective R⟩, fun i j hij => ?_, fun i => ?_⟩
  · have h := sortedFrom_noInversion R R (fun a b h => ?_) (fun a b h => h) (fun a b c h1 h2 => ?_) i j hij
    · rw [hR, decide_eq_false_iff_not] at h; omega
    · rw [hR, decide_eq_true_iff] at h; rw [hR, decide_eq_false_iff_not]; omega
    · rw [hR, decide_eq_false_iff_not] at h1 h2 ⊢; omega
  · unfold sortIdx Host.sort2
    rw [dif_pos (by decide)]
    dsimp only
    have hal : ∀ k : Fin 32768, (ix1 i : S32768.Idx).along (0 : Fin 1) k = ix1 k := fun k => by
      rw [← Routing.ofFin_eq_ix1 k]; exact Shape.Idx.along_rank1 _ k
    have hS : (fun k k' : Fin 32768 =>
      comparator_i32_i32_d0 (x ((ix1 i : S32768.Idx).along (0 : Fin 1) k), iotaInDim S32768 32 0 ((ix1 i : S32768.Idx).along (0 : Fin 1) k))
        (x ((ix1 i : S32768.Idx).along (0 : Fin 1) k'), iotaInDim S32768 32 0 ((ix1 i : S32768.Idx).along (0 : Fin 1) k')) == 1#1) = R :=
      funext fun k => funext fun k' => by rw [hal k, hal k']
    have hz : ∀ z : Fin 32768, iotaInDim S32768 32 0 ((ix1 i : S32768.Idx).along (0 : Fin 1) z) = BitVec.ofNat 32 z.val := fun z => by
      rw [hal]; exact Routing.iota1_ap z
    exact (congrArg (fun f : Fin 32768 → Fin 32768 → Bool => iotaInDim S32768 32 0 ((ix1 i : S32768.Idx).along (0 : Fin 1) (sortedFrom f i : Fin 32768))) hS).trans (hz _)

variable (fl : IVec S32768 32) (a : ℕ → ℕ) (ha : ∀ p, a p < 8) (hfl : ∀ p : Fin 32768, fl (ix1 p) = BitVec.ofNat 32 (a p.val))

include ha hfl

theorem cnt_ap (e : Fin 8) : cntT fl (ix1 e) = BitVec.ofNat 32 (cnt a e.val) := by
  unfold cntT
  apply BitVec.eq_of_toNat_eq
  rw [StableHlo.Predicate.toNat_reduce_count_rows (by decide), BitVec.toNat_ofNat, Nat.mod_eq_of_lt (by have := cnt_le a e.val; omega)]
  unfold cnt
  rw [← Routing.card_filter_fin 32768 (fun p => a p = e.val)]
  refine congrArg Finset.card (Finset.filter_congr fun p _ => ?_)
  rw [Routing.ij_eq_ix2, cmpi_at, Routing.bcRows, hfl]
  have e2 : broadcastInDim S32768x8 ![0, 1] bcast_S1x8_S32768x8_0_1 (iotaInDim S1x8 32 1) (ix2 p e) = BitVec.ofNat 32 e.val := by
    refine (broadcastInDim_apply _ bcast_S1x8_S32768x8_0_1 _ _ (ix2 (0 : Fin 1) e) fun b => ?_).trans rfl
    match b with
    | ⟨0, _⟩ => rfl
    | ⟨1, _⟩ => rfl
  refine (iff_of_eq (congrArg (fun w => IntOp.cmpi .eq (BitVec.ofNat 32 (a p.val)) w = 1#1) e2)).trans ?_
  exact cmpi_eq_ofNat_eq_one_iff (w := 32) (by have := ha p.val; omega) (by have := e.isLt; omega)

theorem pad_ap (e : Fin 8) : padT fl (ix1 e) = BitVec.ofNat 32 (pad a e.val) := by
  unfold padT
  have hc := cnt_le a e.val
  rw [Routing.muli_ap, Routing.pyDiv_ap (a := cnt a e.val + 511) (b := 512) _ _ _ _ ?_ rfl (by omega) (by decide) (by decide), Routing.bc0, constantI_at,
    show (512#32 : BitVec 32) = BitVec.ofNat 32 512 from rfl]
  · exact muli_ofNat _ _
  · rw [Routing.subi_ap, Routing.addi_ap, Routing.bc0, Routing.bc0, constantI_at, constantI_at, cnt_ap fl a ha hfl,
      show (512#32 : BitVec 32) = BitVec.ofNat 32 512 from rfl, show (1#32 : BitVec 32) = BitVec.ofNat 32 1 from rfl]
    rw [show BitVec.ofNat 32 (cnt a e.val) + BitVec.ofNat 32 512 = BitVec.ofNat 32 (cnt a e.val + 512) from addi_ofNat _ _, Routing.ofNat32_sub (by omega)]
    rfl

omit ha hfl in
theorem cums_ap (x : IVec S8 32) (f : ℕ → ℕ) (hx : ∀ e : Fin 8, x (ix1 e) = BitVec.ofNat 32 (f e.val)) (e : Fin 8) :
    cums x (ix1 e) = BitVec.ofNat 32 ((List.range (e.val + 1)).map f).sum := by
  unfold cums
  exact Routing.cumsum1 (by rfl) x f hx _ (by rw [Routing.bc0]; rfl) _ _ e

theorem pe_ap (e : Fin 8) : peT fl (ix1 e) = BitVec.ofNat 32 (ps a (e.val + 1)) :=
  cums_ap _ _ (pad_ap fl a ha hfl) e

theorem ps_ap (e : Fin 8) : psT fl (ix1 e) = BitVec.ofNat 32 (ps a e.val) := by
  unfold psT
  rw [Routing.subi_ap, pe_ap fl a ha hfl, pad_ap fl a ha hfl, ps_succ, Routing.ofNat32_sub (by omega)]
  refine congrArg (BitVec.ofNat 32) ?_; omega

theorem st_ap (e : Fin 8) : stT fl (ix1 e) = BitVec.ofNat 32 (st a e.val) := by
  unfold stT
  rw [Routing.subi_ap, cums_ap _ _ (cnt_ap fl a ha hfl), cnt_ap fl a ha hfl]
  show BitVec.ofNat 32 (st a (e.val + 1)) - _ = _
  rw [st_succ, Routing.ofNat32_sub (by omega)]
  refine congrArg (BitVec.ofNat 32) ?_; omega

omit ha hfl in
theorem take8_ap (x : IVec S8 32) (i : IVec S32768 32) (p : Fin 32768) (e : Fin 8) (h : i (ix1 p) = BitVec.ofNat 32 e.val) : take8 x i (ix1 p) = x (ix1 e) := by
  unfold take8
  refine Routing.gather_take1 _ rfl rfl rfl rfl x _ p e ?_ (by decide)
  rw [Routing.bcCol]
  exact wrap_ap _ _ _ _ h (by have := e.isLt; omega)
omit ha hfl in
theorem take8r_ap (x : IVec S8 32) (i : IVec S36864 32) (p : Fin 36864) (e : Fin 8) (h : i (ix1 p) = BitVec.ofNat 32 e.val) : take8r x i (ix1 p) = x (ix1 e) := by
  unfold take8r
  refine Routing.gather_take1 _ rfl rfl rfl rfl x _ p e ?_ (by decide)
  rw [Routing.bcCol]
  exact wrap_ap _ _ _ _ h (by have := e.isLt; omega)
omit ha hfl in
theorem takeN_ap (x : IVec S32768 32) (i : IVec S32768 32) (p : Fin 32768) (e : Fin 32768) (h : i (ix1 p) = BitVec.ofNat 32 e.val) : takeN x i (ix1 p) = x (ix1 e) := by
  unfold takeN
  refine Routing.gather_take1 _ rfl rfl rfl rfl x _ p e ?_ (by decide)
  rw [Routing.bcCol]
  exact wrap_ap _ _ _ _ h (by have := e.isLt; omega)
omit ha hfl in
theorem takeNr_ap (x : IVec S32768 32) (i : IVec S36864 32) (p : Fin 36864) (e : Fin 32768) (h : i (ix1 p) = BitVec.ofNat 32 e.val) : takeNr x i (ix1 p) = x (ix1 e) := by
  unfold takeNr
  refine Routing.gather_take1 _ rfl rfl rfl rfl x _ p e ?_ (by decide)
  rw [Routing.bcCol]
  exact wrap_ap _ _ _ _ h (by have := e.isLt; omega)

/-- The expert of a row in the run of expert `e`. -/
theorem rowE_ap (r : Fin 36864) (e : ℕ) (he : e < 8) (h1 : ps a e ≤ r.val) (h2 : r.val < ps a (e + 1)) : rowE fl (ix1 r) = BitVec.ofNat 32 e := by
  unfold rowE
  rw [minsi_apply, Routing.bc0, constantI_at, Routing.reduce_count (by decide) _ _ _ _ r (fun q => ps a (q + 1) ≤ r.val) (fun q => ?_),
    count_lt e he _ (ends_before a e r.val h1 h2), show (7#32 : BitVec 32) = BitVec.ofNat 32 7 from rfl]
  · refine (PlanTiles.minsi_word (by omega) (by decide)).trans ?_
    refine congrArg (BitVec.ofNat 32) ?_; omega
  · rw [cmpi_at, Routing.bcRows, Routing.bcCols, pe_ap fl a ha hfl, Routing.iota1_ap]
    exact cmpi_sge_ofNat_eq_one_iff (w := 32) (by have := r.isLt; omega) (by have := ps_bound a (q.val + 1) (by have := q.isLt; omega); omega)

/-- And of its tile. -/
theorem tileE_ap (r : Fin 36864) (t : Fin 72) (ht : t.val = r.val / 512) (e : ℕ) (he : e < 8) (h1 : ps a e ≤ r.val) (h2 : r.val < ps a (e + 1)) :
    tableT fl (ix1 t) = BitVec.ofNat 32 (e + 8) := by
  unfold tableT tileE
  rw [Routing.addi_ap, Routing.bc0, constantI_at, minsi_apply, Routing.bc0, constantI_at,
    Routing.reduce_count (by decide) _ _ _ _ t (fun q => ps a (q + 1) ≤ r.val / 512 * 512) (fun q => ?_),
    count_lt e he _ (ends_before_tile a e r.val h1 h2), show (7#32 : BitVec 32) = BitVec.ofNat 32 7 from rfl, show (8#32 : BitVec 32) = BitVec.ofNat 32 8 from rfl]
  · refine (congrArg (· + BitVec.ofNat 32 8) (PlanTiles.minsi_word (a := e) (b := 7) (by omega) (by decide))).trans ?_
    rw [show min 7 e = e by omega]
    exact addi_ofNat _ _
  · rw [cmpi_at, Routing.bcRows, Routing.bcCols, pe_ap fl a ha hfl, Routing.muli_ap, Routing.bc0, constantI_at, Routing.iota1_ap, ht,
      show (512#32 : BitVec 32) = BitVec.ofNat 32 512 from rfl]
    refine (iff_of_eq (congrArg (fun w => IntOp.cmpi .sge w _ = 1#1) (muli_ofNat (r.val / 512) 512))).trans ?_
    exact cmpi_sge_ofNat_eq_one_iff (w := 32) (by have := r.isLt; omega) (by have := ps_bound a (q.val + 1) (by have := q.isLt; omega); omega)

/-- Where a chosen pair of a token and an expert lands: a row that reads that token, in a tile of that expert. -/
theorem route (t : Fin 16384) (s : Fin 2) : ∃ r : Fin 36864, destT fl (ix2 t s) = BitVec.ofNat 32 r.val ∧ srcT fl (ix1 r) = BitVec.ofNat 32 t.val
    ∧ tableT fl (ix1 ⟨r.val / 512, by have := r.isLt; omega⟩) = BitVec.ofNat 32 (a (2 * t.val + s.val) + 8) := by
  have htl := t.isLt
  have hsl := s.isLt
  obtain ⟨o, ho, hmo, hso⟩ := sort_spec fl a hfl (fun p => by have := ha p; omega)
  obtain ⟨q, hq, hmq, hsq⟩ := sort_spec (ordT fl) (fun i => if h : i < 32768 then (o ⟨i, h⟩).val else 0) (fun p => by
    rw [dif_pos p.isLt]; exact hso p) (fun p => by
      by_cases h : p < 32768
      · rw [dif_pos h]; have := (o ⟨p, h⟩).isLt; omega
      · rw [dif_neg h]; decide)
  have hoq : ∀ p, o (q p) = p := mono_bij_id (fun p => o (q p)) (ho.comp hq) (fun i j hij => by
    have := hmq i j hij
    rw [dif_pos (q i).isLt, dif_pos (q j).isLt] at this
    exact this)
  -- the flat position, and its place in the sorted order
  let p : Fin 32768 := ⟨2 * t.val + s.val, by omega⟩
  have hoi : o (q p) = p := hoq p
  generalize hi : q p = i at hoi
  have hil := i.isLt
  have hrun := sorted_run a o ho hmo i
  rw [hoi] at hrun
  obtain ⟨hr1, hr2⟩ := hrun
  have he := ha p.val
  have hcp := cnt_le_pad a (a p.val)
  have hps := ps_succ a (a p.val)
  have hpb := ps_bound a (a p.val + 1) (by omega)
  have hst := st_le a (a p.val)
  have eS_i : eS fl (ix1 i) = BitVec.ofNat 32 (a p.val) := by
    unfold eS
    rw [takeN_ap fl (ordT fl) i (o i) (hso i), hoi, hfl]
  have kps : psT fl (ix1 ⟨a p.val, he⟩) = BitVec.ofNat 32 (ps a (a p.val)) := ps_ap fl a ha hfl ⟨a p.val, he⟩
  have kst : stT fl (ix1 ⟨a p.val, he⟩) = BitVec.ofNat 32 (st a (a p.val)) := st_ap fl a ha hfl ⟨a p.val, he⟩
  have kcnt : cntT fl (ix1 ⟨a p.val, he⟩) = BitVec.ofNat 32 (cnt a (a p.val)) := cnt_ap fl a ha hfl ⟨a p.val, he⟩
  have hcl := cnt_le a (a p.val)
  let r : Fin 36864 := ⟨ps a (a p.val) + i.val - st a (a p.val), by omega⟩
  have hrv : r.val = ps a (a p.val) + i.val - st a (a p.val) := rfl
  have h1 : ps a (a p.val) ≤ r.val := by omega
  have h2 : r.val < ps a (a p.val + 1) := by omega
  have hrow := rowE_ap fl a ha hfl r _ he h1 h2
  have hw : within fl (ix1 r) = BitVec.ofNat 32 (i.val - st a (a p.val)) := by
    unfold within
    rw [Routing.subi_ap, take8r_ap _ _ r ⟨a p.val, he⟩ hrow, kps, Routing.iota1_ap, Routing.ofNat32_sub (by omega)]
    refine congrArg (BitVec.ofNat 32) ?_; omega
  have hv : validT fl (ix1 r) = 1#1 := by
    unfold validT
    rw [cmpi_at, take8r_ap _ _ r ⟨a p.val, he⟩ hrow, kcnt, hw]
    exact (cmpi_slt_ofNat_eq_one_iff (w := 32) (by omega) (by have := cnt_le a (a p.val); omega)).2 (by omega)
  have hpos : posT fl (ix1 r) = BitVec.ofNat 32 i.val := by
    unfold posT
    rw [minsi_apply, maxsi_apply, Routing.bc0, Routing.bc0, constantI_at, constantI_at, Routing.addi_ap, take8r_ap _ _ r ⟨a p.val, he⟩ hrow, kst, hw,
      show BitVec.ofNat 32 (st a (a p.val)) + BitVec.ofNat 32 (i.val - st a (a p.val)) = BitVec.ofNat 32 (st a (a p.val) + (i.val - st a (a p.val))) from addi_ofNat _ _,
      show st a (a p.val) + (i.val - st a (a p.val)) = i.val by omega]
    refine (congrArg (IntOp.minsi 32767#32) (Routing.maxsi_zero_left (by omega))).trans ?_
    refine (PlanTiles.minsi_word (a := 32767) (by decide) (by omega)).trans ?_
    refine congrArg (BitVec.ofNat 32) ?_; omega
  refine ⟨r, ?_, ?_, ?_⟩
  · unfold destT
    rw [Routing.cast12 _ _ t s p (by show 2 * t.val + s.val = _; omega), takeN_ap _ _ p i (by rw [hsq, hi])]
    unfold dstS
    rw [Routing.subi_ap, Routing.addi_ap, take8_ap _ _ i ⟨a p.val, he⟩ eS_i, take8_ap _ _ i ⟨a p.val, he⟩ eS_i, kps, kst, Routing.iota1_ap,
      show BitVec.ofNat 32 (ps a (a p.val)) + BitVec.ofNat 32 i.val = BitVec.ofNat 32 (ps a (a p.val) + i.val) from addi_ofNat _ _, Routing.ofNat32_sub (by omega)]
  · unfold srcT
    rw [select_at, hv, select_of_eq_one rfl, Routing.pyDiv_ap (a := p.val) (b := 2) _ _ _ _ ?_ rfl (by have := p.isLt; omega) (by decide) (by decide)]
    · refine congrArg (BitVec.ofNat 32) ?_; show (2 * t.val + s.val) / 2 = _; omega
    · rw [takeNr_ap _ _ r i hpos]
      unfold ordT
      rw [hso, hoi]
  · exact tileE_ap fl a ha hfl r ⟨r.val / 512, _⟩ rfl _ he h1 h2

end Cert.KernelIdeal.Moe

end
-- ==== Proof.MoeOk.lean ====
module

public import proofs.«01_k».proof.Proof.RouteRead
public import proofs.«01_k».proof.Proof.RouteWord

@[expose] public section

set_option maxRecDepth 16384

noncomputable section

open Idealize.ShloMosaic Idealize.ShloMosaic.TcCoe Idealize.ShloMosaic.WordCmp Idealize.ShloMosaic.ValueIdx

namespace Cert.KernelIdeal.Moe

open Cert.KernelIdeal

/-- Whatever the experts chosen, a tile's entry names one of the sixteen matrices. -/
theorem table_small (fl : IVec S32768 32) (t : Fin 72) : ∃ k : ℕ, k < 16 ∧ tableT fl (ix1 t) = BitVec.ofNat 32 k := by
  classical
  unfold tableT tileE
  rw [Routing.addi_ap, Routing.bc0, constantI_at, minsi_apply, Routing.bc0, constantI_at,
    show (7#32 : BitVec 32) = BitVec.ofNat 32 7 from rfl, show (8#32 : BitVec 32) = BitVec.ofNat 32 8 from rfl]
  generalize hM : cmpi .sge _ _ = M
  rw [Routing.reduce_count (by decide) M _ _ _ t (fun q => ∃ h : q < 8, M (ix2 t ⟨q, h⟩) = 1#1) (fun q => ⟨fun h => ⟨q.isLt, h⟩, fun h => h.2⟩)]
  have hc := Nat.count_le (fun q => ∃ h : q < 8, M (ix2 t ⟨q, h⟩) = 1#1) (n := 8)
  generalize Nat.count (fun q => ∃ h : q < 8, M (ix2 t ⟨q, h⟩) = 1#1) 8 = c at hc
  refine ⟨min 7 c + 8, by omega, ?_⟩
  refine (congrArg (· + BitVec.ofNat 32 8) (PlanTiles.minsi_word (a := c) (b := 7) (by omega) (by decide))).trans ?_
  exact addi_ofNat _ _

end Cert.KernelIdeal.Moe

namespace Cert.KernelIdeal.Moe

open Cert.KernelIdeal Cert.KernelIdeal.Gen

section
variable {F : FTy → Type} [FloatOps F]

/-- The block index of the two weight windows, by the table's entry. -/
theorem tr1 (pf : pre0.Contents (Elt F)) (i : grid0.Coords) :
    cc0_transform_1 k0_off1_inb numel1_S1 pf i = ![((pf 0 : IVec S72 32) (ix1 (i 0))).toNat, (i 2).val, (i 1).val] := by
  have h0 : (i 0).val < 72 := (i 0).isLt
  have h1 : (i 1).val < 1 := (i 1).isLt
  have h2 : (i 2).val < 2 := (i 2).isLt
  unfold cc0_transform_1
  dsimp only
  funext a
  match a with
  | ⟨0, _⟩ =>
    refine congrArg BitVec.toNat (congrArg (pf 0 : IVec S72 32) ?_)
    funext b
    apply Fin.ext
    match b with
    | ⟨0, _⟩ =>
      show (Scalar.indexCast (BitVec.ofNat 32 (i 0).val)).toNat + 1 * 0 = (i 0).val
      rw [show (Scalar.indexCast (BitVec.ofNat 32 (i 0).val)).toNat = (BitVec.ofNat 32 (i 0).val).toNat from rfl, BitVec.toNat_ofNat]
      omega
  | ⟨1, _⟩ => show (BitVec.ofNat 32 (i 2).val).toNat = (i 2).val; rw [BitVec.toNat_ofNat]; omega
  | ⟨2, _⟩ => show (BitVec.ofNat 32 (i 1).val).toNat = (i 1).val; rw [BitVec.toNat_ofNat]; omega

theorem tr2 (pf : pre0.Contents (Elt F)) (i : grid0.Coords) :
    cc0_transform_2 k0_off1_inb numel1_S1 pf i = ![((pf 0 : IVec S72 32) (ix1 (i 0))).toNat, (i 2).val, (i 1).val] := tr1 pf i

variable (m : (ℓ : Loc nD τ sig) → Buf (Elt F) ℓ)

theorem tbl_eq : (tbl m 0 : IVec S72 32) = tableT (fl m 0) := V_table m 0

theorem inb (i : grid0.Coords) : ∀ a, (cc0_transform_1 k0_off1_inb numel1_S1 (tbl m) i a + 1) * S1x2048x1024.size a ≤ S16x4096x1024.size a := by
  intro a
  have h1 : (i 1).val < 1 := (i 1).isLt
  have h2 : (i 2).val < 2 := (i 2).isLt
  obtain ⟨k, hk, e⟩ := table_small (fl m 0) (i 0)
  rw [tr1, tbl_eq, e, BitVec.toNat_ofNat]
  match a with
  | ⟨0, _⟩ => show (k % 2 ^ 32 + 1) * 1 ≤ 16; omega
  | ⟨1, _⟩ => show ((i 2).val + 1) * 2048 ≤ 4096; omega
  | ⟨2, _⟩ => show ((i 1).val + 1) * 1024 ≤ 1024; omega

/-- The tables' entries are within the weights whatever the inputs. -/
theorem ok : Ok m := by
  constructor
  · exact fun i => ⟨inb m i, .inr (Affine.block_words_dvd (of_decide_eq_true rfl) (by decide))⟩
  · exact fun i => ⟨inb m i, .inr (Affine.block_words_dvd (of_decide_eq_true rfl) (by decide))⟩

end

end Cert.KernelIdeal.Moe

end
-- ==== Proof.MoeFrame.lean ====
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
def out0_A_3 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x2048 .bf16) (x1 : Vec F S1x2048x1024 .bf16) (x2 : Vec F S1x2048x1024 .bf16) (xt0 : TbBuf0 (F := F) c tbM0_0) : Vec F S512x1024 .bf16 :=
  VO0_3.read (Elt F) (VO0_3.writes (Elt F) VO0_3.junk (kernelRun0_A c i arg4 harg4 arg5 harg5 arg6 harg6 arg7 harg7 arg8 harg8 arg9 harg9 hc0 hc1 x0 x1 x2 xt0).1)

theorem scover0_A_0 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x2048 .bf16) (x1 : Vec F S1x2048x1024 .bf16) (x2 : Vec F S1x2048x1024 .bf16) (xt0 : TbBuf0 (F := F) c tbM0_0) (y : S512x1024.Idx) :
    ∃ pc ∈ (kernelRun0_A c i arg4 harg4 arg5 harg5 arg6 harg6 arg7 harg7 arg8 harg8 arg9 harg9 hc0 hc1 x0 x1 x2 xt0).2.1, y ∈ pc.1.set :=
  View.cover_of_tiledL (kernelRun0_A c i arg4 harg4 arg5 harg5 arg6 harg6 arg7 harg7 arg8 harg8 arg9 harg9 hc0 hc1 x0 x1 x2 xt0).2.1 S512x1024.size (by sl_kernel_rfl) y

def sout0_A_0 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x2048 .bf16) (x1 : Vec F S1x2048x1024 .bf16) (x2 : Vec F S1x2048x1024 .bf16) (xt0 : TbBuf0 (F := F) c tbM0_0) : Vec F S512x1024 .f32 :=
  VS0_0.read (Elt F) (VS0_0.writes (Elt F) VS0_0.junk (kernelRun0_A c i arg4 harg4 arg5 harg5 arg6 harg6 arg7 harg7 arg8 harg8 arg9 harg9 hc0 hc1 x0 x1 x2 xt0).2.1)

theorem scover0_A_1 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x2048 .bf16) (x1 : Vec F S1x2048x1024 .bf16) (x2 : Vec F S1x2048x1024 .bf16) (xt0 : TbBuf0 (F := F) c tbM0_0) (y : S512x1024.Idx) :
    ∃ pc ∈ (kernelRun0_A c i arg4 harg4 arg5 harg5 arg6 harg6 arg7 harg7 arg8 harg8 arg9 harg9 hc0 hc1 x0 x1 x2 xt0).2.2.1, y ∈ pc.1.set :=
  View.cover_of_tiledL (kernelRun0_A c i arg4 harg4 arg5 harg5 arg6 harg6 arg7 harg7 arg8 harg8 arg9 harg9 hc0 hc1 x0 x1 x2 xt0).2.2.1 S512x1024.size (by sl_kernel_rfl) y

def sout0_A_1 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x2048 .bf16) (x1 : Vec F S1x2048x1024 .bf16) (x2 : Vec F S1x2048x1024 .bf16) (xt0 : TbBuf0 (F := F) c tbM0_0) : Vec F S512x1024 .f32 :=
  VS0_1.read (Elt F) (VS0_1.writes (Elt F) VS0_1.junk (kernelRun0_A c i arg4 harg4 arg5 harg5 arg6 harg6 arg7 harg7 arg8 harg8 arg9 harg9 hc0 hc1 x0 x1 x2 xt0).2.2.1)

theorem cover0_B_3 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) (y : S512x1024.Idx) :
    ∃ pc ∈ (kernelRun0_B c i arg4 harg4 arg5 harg5 arg6 harg6 arg7 harg7 arg8 harg8 arg9 harg9 hc0 hc1 x0 x1 x2 xt0 xs0 xs1).1, y ∈ pc.1.set :=
  View.cover_of_tiledL (kernelRun0_B c i arg4 harg4 arg5 harg5 arg6 harg6 arg7 harg7 arg8 harg8 arg9 harg9 hc0 hc1 x0 x1 x2 xt0 xs0 xs1).1 S512x1024.size (by sl_kernel_rfl) y

def out0_B_3 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) : Vec F S512x1024 .bf16 :=
  VO0_3.read (Elt F) (VO0_3.writes (Elt F) VO0_3.junk (kernelRun0_B c i arg4 harg4 arg5 harg5 arg6 harg6 arg7 harg7 arg8 harg8 arg9 harg9 hc0 hc1 x0 x1 x2 xt0 xs0 xs1).1)

theorem scover0_B_0 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) (y : S512x1024.Idx) :
    ∃ pc ∈ (kernelRun0_B c i arg4 harg4 arg5 harg5 arg6 harg6 arg7 harg7 arg8 harg8 arg9 harg9 hc0 hc1 x0 x1 x2 xt0 xs0 xs1).2.1, y ∈ pc.1.set :=
  View.cover_of_tiledL (kernelRun0_B c i arg4 harg4 arg5 harg5 arg6 harg6 arg7 harg7 arg8 harg8 arg9 harg9 hc0 hc1 x0 x1 x2 xt0 xs0 xs1).2.1 S512x1024.size (by sl_kernel_rfl) y

def sout0_B_0 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) : Vec F S512x1024 .f32 :=
  VS0_0.read (Elt F) (VS0_0.writes (Elt F) VS0_0.junk (kernelRun0_B c i arg4 harg4 arg5 harg5 arg6 harg6 arg7 harg7 arg8 harg8 arg9 harg9 hc0 hc1 x0 x1 x2 xt0 xs0 xs1).2.1)

theorem scover0_B_1 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) (y : S512x1024.Idx) :
    ∃ pc ∈ (kernelRun0_B c i arg4 harg4 arg5 harg5 arg6 harg6 arg7 harg7 arg8 harg8 arg9 harg9 hc0 hc1 x0 x1 x2 xt0 xs0 xs1).2.2.1, y ∈ pc.1.set :=
  View.cover_of_tiledL (kernelRun0_B c i arg4 harg4 arg5 harg5 arg6 harg6 arg7 harg7 arg8 harg8 arg9 harg9 hc0 hc1 x0 x1 x2 xt0 xs0 xs1).2.2.1 S512x1024.size (by sl_kernel_rfl) y

def sout0_B_1 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x2048 .bf16) (x1 : Vec F S1x2048x1024 .bf16) (x2 : Vec F S1x2048x1024 .bf16) (xt0 : TbBuf0 (F := F) c tbM0_0) (xs0 : Vec F S512x1024 .f32) (xs1 : Vec F S512x1024 .f32) : Vec F S512x1024 .f32 :=
  VS0_1.read (Elt F) (VS0_1.writes (Elt F) VS0_1.junk (kernelRun0_B c i arg4 harg4 arg5 harg5 arg6 harg6 arg7 harg7 arg8 harg8 arg9 harg9 hc0 hc1 x0 x1 x2 xt0 xs0 xs1).2.2.1)

def outsAt0 (hO : Ok m) (c : Dev nD) : (n : ℕ) → n < (cfgM m hO).N → Vec F S512x1024 .bf16 × Vec F S512x1024 .f32 × Vec F S512x1024 .f32
  | 0, hn => (out0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (tbl m 0))
  | n + 1, hn =>
    if h0 : (n + 1) % 2 = 0 then
      if h1 : (n + 1) % 2 = 1 then
        False.elim (by have hN : n + 1 < 144 := lt_of_lt_of_eq hn (show (cfgM m hO).N = 144 from N_0); omega)
      else
        (out0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (tbl m 0))
    else
      if h1 : (n + 1) % 2 = 1 then
        (out0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.1 (outsAt0 hO c n (Nat.lt_of_succ_lt hn)).2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.1 (outsAt0 hO c n (Nat.lt_of_succ_lt hn)).2.2)
      else
        False.elim (by have hN : n + 1 < 144 := lt_of_lt_of_eq hn (show (cfgM m hO).N = 144 from N_0); omega)

set_option maxHeartbeats 8000000 in
/-- What the first step of a run leaves. -/
theorem outsAt0_A (hO : Ok m) (c : Dev nD) (t : Fin (cfgM m hO).N) (h0 : t.val % 2 = 0) (h1 : ¬t.val % 2 = 1) :
    outsAt0 m hO c t.val t.isLt = (out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (tbl m 0)) := by
  obtain ⟨n, hn⟩ := t
  cases n with
  | zero => exact rfl
  | succ n => rw [outsAt0, dif_pos h0, dif_neg h1]

set_option maxHeartbeats 8000000 in
/-- What the last step leaves. -/
theorem outsAt0_B (hO : Ok m) (c : Dev nD) (t : Fin (cfgM m hO).N) (h0 : ¬t.val % 2 = 0) (h1 : t.val % 2 = 1) :
    outsAt0 m hO c t.val t.isLt = (out0_B_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => rw [outsAt0, dif_neg h0, dif_pos h1]; rfl

def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 3200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 144 := lt_of_lt_of_eq t.isLt (show (cfgM m hO).N = 144 from N_0)
  by_cases h0 : t.val % 2 = 0
  · by_cases h1 : t.val % 2 = 1
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [Dat.leavesExact_idle (dats m hO 0 c) 3 t (idleAt0_3_A m hO t ((hcond0_0 t).mpr h0) (fun h => h1 ((hcond0_1 t).mp h))) (noFlush0_3_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m hO c 0 t) (iblk m hO c 1 t) (iblk m hO c 2 t) (tbl m 0)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HT0]; · iexact HT0
        iintro ⟨H0, H1, H2, H3, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        iexists _; iexact H3
      · rw [PhiS_castSucc m hO c t, PhiS_pos m hO c _ _ hz, PhiT0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m hO c 0 t) (iblk m hO c 1 t) (iblk m hO c 2 t) (tbl m 0)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HT0]; · iexact HT0
        iintro ⟨H0, H1, H2, H3, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        iexists _; iexact H3
  · by_cases h1 : t.val % 2 = 1
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3_B m hO t (fun h => h0 ((hcond0_0 t).mp h)) ((hcond0_1 t).mpr h1)]; try rfl, after0_3]
      by_cases hz : t.val = 0
      · exfalso; have hN : t.val < 144 := lt_of_lt_of_eq t.isLt (show (cfgM m hO).N = 144 from N_0); omega
      · rw [PhiS_castSucc m hO c t, PhiS_pos m hO c _ _ hz, PhiT0_eq]
        rw [outsAt0_B m hO c t h0 h1]
        unfold out0_B_3 sout0_B_0 sout0_B_1; (try dsimp only)
        iintro ⟨⟨⟨⟨HS0, HS1⟩, Hg⟩, HT0⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) ((hcond0_1 t).mpr h1) (iblk m hO c 0 t) (iblk m hO c 1 t) (iblk m hO c 2 t) (tbl m 0) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HT0]; · iexact HT0
        iintro ⟨H0, H1, H2, ⟨%e3, H3⟩, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_B_3 c _ _ _ _ _ _ _ _ _ _ _ _ _ _ _ _ _ _ _ _ _)
    · exfalso; omega

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 144 := N_0; omega)

-- `θ_run_frameP_around_track`'s implicit arguments are found by unifying its conclusion with this one, which takes unfolding plain
-- definitions in a metavariable's type
set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Moe

end
-- ==== Proof.MoeAcc.lean ====
module

public import proofs.«01_k».proof.Proof.MoeFrame
public import Idealize.ShloMosaic.Lib.Pipeline.Value
public import Idealize.ShloMosaic.Lib.Pointwise
public import Idealize.ShloMosaic.Lib.Tactic
public import Idealize.ShloMosaic.PureOps.Ideal
public import proofs.«01_k».proof.Proof.Sigmoid

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Moe

open Cert.KernelIdeal Cert.KernelIdeal.Gen

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step of a tile leaves in the first accumulator: the product of its blocks, added to zeros. -/
theorem acc_A1 (c : Dev nD) (i : grid0.Coords) (a4 : Memref sig .tc .vmem S512x2048 .bf16) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (hc0 : cond0_0 i) (hc1 : ¬cond0_1 i)
    (x : Vec F S512x2048 .bf16) (w : Vec F S1x2048x1024 .bf16) (u : Vec F S1x2048x1024 .bf16) (xt : TbBuf0 (F := F) c tbM0_0) :
    sout0_A_0 c i a4 h4 a5 h5 a6 h6 a7 h7 a8 h8 a9 h9 hc0 hc1 x w u xt = k0_pay4 x (k0_pay1 (F := F)) w := by
  unfold sout0_A_0
  rw [View.read_writes_junk_eq_canon]
  unfold kernelRun0_A
  dsimp only
  sl_unfold_words
  rw [View.canon_cons_unit_zero (S := S512x1024) hz2, View.readCov_unit_zero (S := S512x1024) _ hz2]
  simp only [View.readAt_eq_ld, h4.read_unread, h5.read_unread, h6.read_unread, h8.read_unread, h9.read_unread, View.ld_unit_zero (S := S512x2048) hz2,
    View.ld_unit_zero (S := S1x2048x1024) hz3, View.ld_unit_zero (S := S512x1024) hz2]

/-- And in the second. -/
theorem acc_A2 (c : Dev nD) (i : grid0.Coords) (a4 : Memref sig .tc .vmem S512x2048 .bf16) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (hc0 : cond0_0 i) (hc1 : ¬cond0_1 i)
    (x : Vec F S512x2048 .bf16) (w : Vec F S1x2048x1024 .bf16) (u : Vec F S1x2048x1024 .bf16) (xt : TbBuf0 (F := F) c tbM0_0) :
    sout0_A_1 c i a4 h4 a5 h5 a6 h6 a7 h7 a8 h8 a9 h9 hc0 hc1 x w u xt = k0_pay5 x (k0_pay2 (F := F)) u := by
  unfold sout0_A_1
  rw [View.read_writes_junk_eq_canon]
  unfold kernelRun0_A
  dsimp only
  sl_unfold_words
  rw [View.canon_cons_unit_zero (S := S512x1024) hz2, View.readCov_unit_zero (S := S512x1024) _ hz2]
  simp only [View.readAt_eq_ld, h4.read_unread, h5.read_unread, h6.read_unread, h8.read_unread, h9.read_unread, View.ld_unit_zero (S := S512x2048) hz2,
    View.ld_unit_zero (S := S1x2048x1024) hz3, View.ld_unit_zero (S := S512x1024) hz2]

/-- What the last step leaves in the output block. -/
theorem out_L (c : Dev nD) (i : grid0.Coords) (a4 : Memref sig .tc .vmem S512x2048 .bf16) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (hc0 : ¬cond0_0 i) (hc1 : cond0_1 i)
    (x : Vec F S512x2048 .bf16) (w : Vec F S1x2048x1024 .bf16) (u : Vec F S1x2048x1024 .bf16) (xt : TbBuf0 (F := F) c tbM0_0) (s s' : Vec F S512x1024 .f32) :
    out0_B_3 c i a4 h4 a5 h5 a6 h6 a7 h7 a8 h8 a9 h9 hc0 hc1 x w u xt s s' = k0_pay6 (k0_pay4 x s w) (k0_pay5 x s' u) := by
  unfold out0_B_3
  rw [View.read_writes_junk_eq_canon]
  unfold kernelRun0_B
  dsimp only
  sl_unfold_words
  rw [View.canon_unit_zero (S := S512x1024) hz2, View.readCov_unit_zero (S := S512x1024) _ hz2, View.readCov_unit_zero (S := S512x1024) _ hz2]
  simp only [View.readAt_eq_ld, h4.read_unread, h5.read_unread, h6.read_unread, h8.read_unread, h9.read_unread, View.ld_unit_zero (S := S512x2048) hz2,
    View.ld_unit_zero (S := S1x2048x1024) hz3, View.ld_unit_zero (S := S512x1024) hz2]

end

/-- The accumulators at an element. -/
theorem acc1_apply (x x' : Vec Ideal S512x2048 .bf16) (w w' : Vec Ideal S1x2048x1024 .bf16) (a : Fin 512) (b : Fin 1024) :
    (k0_pay4 x' (k0_pay4 x (k0_pay1 (F := Ideal)) w) w' (ix2 a b) : EReal)
      = (∑ k : Fin 2048, (x (ix2 a k) : EReal) * w (ix3 0 k b)) + ∑ k : Fin 2048, (x' (ix2 a k) : EReal) * w' (ix3 0 k b) := by
  unfold k0_pay4 k0_pay3 k0_pay1
  pointwise

theorem acc2_apply (x x' : Vec Ideal S512x2048 .bf16) (w w' : Vec Ideal S1x2048x1024 .bf16) (a : Fin 512) (b : Fin 1024) :
    (k0_pay5 x' (k0_pay5 x (k0_pay2 (F := Ideal)) w) w' (ix2 a b) : EReal)
      = (∑ k : Fin 2048, (x (ix2 a k) : EReal) * w (ix3 0 k b)) + ∑ k : Fin 2048, (x' (ix2 a k) : EReal) * w' (ix3 0 k b) := by
  unfold k0_pay5 k0_pay3 k0_pay2
  pointwise

/-- The block written back, at an element. -/
theorem out_apply (p q : Vec Ideal S512x1024 .f32) (a : Fin 512) (b : Fin 1024) :
    (k0_pay6 p q (ix2 a b) : EReal) = (p (ix2 a b) : EReal) * Cert.Sigmoid.logistic (p (ix2 a b)) * q (ix2 a b) := by
  rw [← Cert.Sigmoid.tanh_form]
  unfold k0_pay6
  pointwise
  rfl

theorem sum_two (f : Fin 4096 → EReal) (g h : Fin 2048 → EReal)
    (hg : ∀ k : Fin 2048, g k = f ⟨k.val, by omega⟩) (hh : ∀ k : Fin 2048, h k = f ⟨2048 + k.val, by omega⟩) :
    (∑ k, g k) + ∑ k, h k = ∑ k, f k := by
  rw [Fin.sum_univ_two_halves 2048 2048 (by rfl) f]
  congr 1
  · exact Finset.sum_congr rfl fun k _ => hg k
  · exact Finset.sum_congr rfl fun k _ => hh k

end Cert.KernelIdeal.Moe

end
-- ==== Proof.MoeVal.lean ====
module

public import proofs.«01_k».proof.Proof.MoeOk
public import proofs.«01_k».proof.Proof.MoeAcc
public import Idealize.ShloMosaic.Lib.Pipeline.Value
public import Idealize.ShloMosaic.Lib.Pointwise
public import Idealize.ShloMosaic.Lib.Tactic
public import Idealize.ShloMosaic.PureOps.Ideal
public import proofs.«01_k».proof.Proof.Sigmoid

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Moe

open Cert.KernelIdeal Cert.KernelIdeal.Gen

theorem crd0 : ∀ t : Fin grid0.N, (grid0.coords t 0).val = t.val / 2 := by decide +kernel
theorem crd1 : ∀ t : Fin grid0.N, (grid0.coords t 1).val = 0 := by decide +kernel
theorem crd2 : ∀ t : Fin grid0.N, (grid0.coords t 2).val = t.val % 2 := by decide +kernel
theorem ind0 : ∀ t : Fin grid0.N, cc0_transform_0 (grid0.coords t) = ![t.val / 2, t.val % 2] := by decide +kernel
theorem ind3 : ∀ t : Fin grid0.N, cc0_transform_3 (grid0.coords t) = ![t.val / 2, 0] := by decide +kernel

variable (m : (ℓ : Loc nD τ sig) → Buf (Elt Ideal) ℓ) (hO : Ok m)

/-- The table's word for a tile. -/
def te (t : ℕ) (ht : t < 72) : ℕ := ((tbl m 0 : IVec S72 32) (ValueIdx.ix1 ⟨t, ht⟩)).toNat

theorem te_lt (t : ℕ) (ht : t < 72) : te m t ht < 16 := by
  obtain ⟨k, hk, e⟩ := table_small (fl m 0) ⟨t, ht⟩
  unfold te
  rw [tbl_eq, e, BitVec.toNat_ofNat]
  omega

abbrev XR (c : Dev nD) : S36864x4096.Idx → EReal := V m c main_v135
abbrev WA (c : Dev nD) : S16x4096x1024.Idx → EReal := V m c main_v1
abbrev WB (c : Dev nD) : S16x4096x1024.Idx → EReal := V m c main_v3

theorem N144 : (cfgM m hO).N = 144 := N_0

theorem index0 (t : Fin (cfgM m hO).N) : ((cfgM m hO).win 0).index t = ![t.val / 2, t.val % 2] := ind0 t
theorem index3 (t : Fin (cfgM m hO).N) : ((cfgM m hO).win 3).index t = ![t.val / 2, 0] := ind3 t
theorem tri (t : Fin (cfgM m hO).N) : ![((tbl m 0 : IVec S72 32) (ValueIdx.ix1 (grid0.coords t 0))).toNat, (grid0.coords t 2).val, (grid0.coords t 1).val]
    = ![te m (t.val / 2) (by have := t.isLt; have := N144 m hO; omega), t.val % 2, 0] := by
  have h : t.val / 2 < 72 := by have := t.isLt; have := N144 m hO; omega
  have e : (grid0.coords t 0 : Fin 72) = ⟨t.val / 2, h⟩ := Fin.ext (crd0 t)
  rw [crd2, crd1]
  exact congrArg (fun q : Fin 72 => ![((tbl m 0 : IVec S72 32) (ValueIdx.ix1 q)).toNat, t.val % 2, 0]) e
theorem index1 (t : Fin (cfgM m hO).N) : ((cfgM m hO).win 1).index t
    = ![te m (t.val / 2) (by have := t.isLt; have := N144 m hO; omega), t.val % 2, 0] :=
  (tr1 (tbl m) (grid0.coords t)).trans (tri m hO t)
theorem index2 (t : Fin (cfgM m hO).N) : ((cfgM m hO).win 2).index t
    = ![te m (t.val / 2) (by have := t.isLt; have := N144 m hO; omega), t.val % 2, 0] :=
  (tr2 (tbl m) (grid0.coords t)).trans (tri m hO t)

/-- The blocks a grid point reads. -/
def B0 (c : Dev nD) (t : Fin (cfgM m hO).N) : Vec Ideal S512x2048 .bf16 := iblk m hO c 0 t
def B1 (c : Dev nD) (t : Fin (cfgM m hO).N) : Vec Ideal S1x2048x1024 .bf16 := iblk m hO c 1 t
def B2 (c : Dev nD) (t : Fin (cfgM m hO).N) : Vec Ideal S1x2048x1024 .bf16 := iblk m hO c 2 t

theorem blk0 (c : Dev nD) (t : Fin (cfgM m hO).N) (a : Fin 512) (k : Fin 2048) :
    (B0 m hO c t (ix2 a k) : EReal) = XR m c (ix2 ⟨512 * (t.val / 2) + a.val, by have := t.isLt; have := N144 m hO; have := a.isLt; omega⟩
      ⟨2048 * (t.val % 2) + k.val, by have := k.isLt; omega⟩) := by
  show (V m c main_v135 : S36864x4096.Idx → EReal) ((((cfgM m hO).win 0).blk t).view.emb (ix2 a k)) = _
  refine congrArg (V m c main_v135 : S36864x4096.Idx → EReal) ?_
  funext x
  apply Fin.ext
  have e := index0 m hO t
  match x with
  | ⟨0, _⟩ =>
    show ((cfgM m hO).win 0).index t (0 : Fin 2) * 512 + 1 * a.val = _
    rw [e]; show t.val / 2 * 512 + 1 * a.val = 512 * (t.val / 2) + a.val; omega
  | ⟨1, _⟩ =>
    show ((cfgM m hO).win 0).index t (1 : Fin 2) * 2048 + 1 * k.val = _
    rw [e]; show t.val % 2 * 2048 + 1 * k.val = 2048 * (t.val % 2) + k.val; omega

theorem blk1 (c : Dev nD) (t : Fin (cfgM m hO).N) (k : Fin 2048) (b : Fin 1024) :
    (B1 m hO c t (ix3 0 k b) : EReal) = WA m c (ix3 ⟨te m (t.val / 2) (by have := t.isLt; have := N144 m hO; omega), te_lt m _ _⟩
      ⟨2048 * (t.val % 2) + k.val, by have := k.isLt; omega⟩ b) := by
  show (V m c main_v1 : S16x4096x1024.Idx → EReal) ((((cfgM m hO).win 1).blk t).view.emb (ix3 0 k b)) = _
  refine congrArg (V m c main_v1 : S16x4096x1024.Idx → EReal) ?_
  funext x
  apply Fin.ext
  have e := index1 m hO t
  match x with
  | ⟨0, _⟩ =>
    show ((cfgM m hO).win 1).index t (0 : Fin 3) * 1 + 1 * 0 = _
    rw [e]; show te m (t.val / 2) _ * 1 + 1 * 0 = te m (t.val / 2) _; omega
  | ⟨1, _⟩ =>
    show ((cfgM m hO).win 1).index t (1 : Fin 3) * 2048 + 1 * k.val = _
    rw [e]; show t.val % 2 * 2048 + 1 * k.val = 2048 * (t.val % 2) + k.val; omega
  | ⟨2, _⟩ =>
    show ((cfgM m hO).win 1).index t (2 : Fin 3) * 1024 + 1 * b.val = _
    rw [e]; show 0 * 1024 + 1 * b.val = b.val; omega

theorem blk2 (c : Dev nD) (t : Fin (cfgM m hO).N) (k : Fin 2048) (b : Fin 1024) :
    (B2 m hO c t (ix3 0 k b) : EReal) = WB m c (ix3 ⟨te m (t.val / 2) (by have := t.isLt; have := N144 m hO; omega), te_lt m _ _⟩
      ⟨2048 * (t.val % 2) + k.val, by have := k.isLt; omega⟩ b) := by
  show (V m c main_v3 : S16x4096x1024.Idx → EReal) ((((cfgM m hO).win 2).blk t).view.emb (ix3 0 k b)) = _
  refine congrArg (V m c main_v3 : S16x4096x1024.Idx → EReal) ?_
  funext x
  apply Fin.ext
  have e := index2 m hO t
  match x with
  | ⟨0, _⟩ =>
    show ((cfgM m hO).win 2).index t (0 : Fin 3) * 1 + 1 * 0 = _
    rw [e]; show te m (t.val / 2) _ * 1 + 1 * 0 = te m (t.val / 2) _; omega
  | ⟨1, _⟩ =>
    show ((cfgM m hO).win 2).index t (1 : Fin 3) * 2048 + 1 * k.val = _
    rw [e]; show t.val % 2 * 2048 + 1 * k.val = 2048 * (t.val % 2) + k.val; omega
  | ⟨2, _⟩ =>
    show ((cfgM m hO).win 2).index t (2 : Fin 3) * 1024 + 1 * b.val = _
    rw [e]; show 0 * 1024 + 1 * b.val = b.val; omega

/-- The hidden rows: each sorted row through the matrices its tile's table entry names. -/
def GR (c : Dev nD) (r : Fin 36864) (f : Fin 1024) : EReal :=
  (∑ k : Fin 4096, XR m c (ix2 r k) * WA m c (ix3 ⟨te m (r.val / 512) (by have := r.isLt; omega), te_lt m _ _⟩ k f))
    * Cert.Sigmoid.logistic (∑ k : Fin 4096, XR m c (ix2 r k) * WA m c (ix3 ⟨te m (r.val / 512) (by have := r.isLt; omega), te_lt m _ _⟩ k f))
    * ∑ k : Fin 4096, XR m c (ix2 r k) * WB m c (ix3 ⟨te m (r.val / 512) (by have := r.isLt; omega), te_lt m _ _⟩ k f)

def G (c : Dev nD) : S36864x1024.Idx → EReal := fun i => GR m c (i 0) (i 1)

/-- An even grid point's accumulators, and an odd one's output, by the blocks they read. -/
theorem acc_even1 (c : Dev nD) (P : Fin (cfgM m hO).N) (hP0 : P.val % 2 = 0) (hP1 : ¬P.val % 2 = 1) :
    (outsAt0 m hO c P.val P.isLt).2.1
      = k0_pay4 (B0 m hO c P) (k0_pay1 (F := Ideal)) (B1 m hO c P) :=
  (congrArg (fun p => p.2.1) (outsAt0_A m hO c P hP0 hP1)).trans (acc_A1 (F := Ideal) c (grid0.coords P) (ms0_0 m hO P) (hs0_0 m hO P) (ms0_1 m hO P) (hs0_1 m hO P) (ms0_2 m hO P) (hs0_2 m hO P) (ms0_3 m hO P) (hs0_3 m hO P) scM0_0 (Memref.isWhole_whole _) scM0_1 (Memref.isWhole_whole _) ((hcond0_0 P).mpr hP0) (fun h => hP1 ((hcond0_1 P).mp h)) (iblk m hO c 0 P) (iblk m hO c 1 P) (iblk m hO c 2 P) (tbl m 0))

theorem acc_even2 (c : Dev nD) (P : Fin (cfgM m hO).N) (hP0 : P.val % 2 = 0) (hP1 : ¬P.val % 2 = 1) :
    (outsAt0 m hO c P.val P.isLt).2.2
      = k0_pay5 (B0 m hO c P) (k0_pay2 (F := Ideal)) (B2 m hO c P) :=
  (congrArg (fun p => p.2.2) (outsAt0_A m hO c P hP0 hP1)).trans (acc_A2 (F := Ideal) c (grid0.coords P) (ms0_0 m hO P) (hs0_0 m hO P) (ms0_1 m hO P) (hs0_1 m hO P) (ms0_2 m hO P) (hs0_2 m hO P) (ms0_3 m hO P) (hs0_3 m hO P) scM0_0 (Memref.isWhole_whole _) scM0_1 (Memref.isWhole_whole _) ((hcond0_0 P).mpr hP0) (fun h => hP1 ((hcond0_1 P).mp h)) (iblk m hO c 0 P) (iblk m hO c 1 P) (iblk m hO c 2 P) (tbl m 0))

theorem out_odd (c : Dev nD) (t : Fin (cfgM m hO).N) (ht0 : ¬t.val % 2 = 0) (h1 : t.val % 2 = 1) :
    (outsAt0 m hO c t.val t.isLt).1
      = k0_pay6 (k0_pay4 (B0 m hO c t) (outsAt0 m hO c (t.val - 1) (Nat.lt_of_le_of_lt (Nat.sub_le _ _) t.isLt)).2.1 (B1 m hO c t))
        (k0_pay5 (B0 m hO c t) (outsAt0 m hO c (t.val - 1) (Nat.lt_of_le_of_lt (Nat.sub_le _ _) t.isLt)).2.2 (B2 m hO c t)) :=
  (congrArg (fun p => p.1) (outsAt0_B m hO c t ht0 h1)).trans (out_L (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) (fun h => ht0 ((hcond0_0 t).mp h)) ((hcond0_1 t).mpr h1) (iblk m hO c 0 t) (iblk m hO c 1 t) (iblk m hO c 2 t) (tbl m 0)
    (outsAt0 m hO c (t.val - 1) (Nat.lt_of_le_of_lt (Nat.sub_le _ _) t.isLt)).2.1 (outsAt0 m hO c (t.val - 1) (Nat.lt_of_le_of_lt (Nat.sub_le _ _) t.isLt)).2.2)

/-- What an odd grid point leaves in the output block. -/
theorem block_eq (c : Dev nD) (t : Fin (cfgM m hO).N) (h1 : t.val % 2 = 1) (a : Fin 512) (b : Fin 1024) :
    ((outsAt0 m hO c t.val t.isLt).1 (ix2 a b) : EReal)
      = GR m c ⟨512 * (t.val / 2) + a.val, by have := t.isLt; have := N144 m hO; have := a.isLt; omega⟩ b := by
  have hN := N144 m hO
  have ht := t.isLt
  have ha := a.isLt
  have hte : ∀ s, (hs : s = t.val / 2) → ∀ h h', (⟨te m s h, te_lt m s h⟩ : Fin 16) = ⟨te m (t.val / 2) h', te_lt m _ h'⟩ :=
    fun s hs h h' => by subst hs; rfl
  have hP1 : t.val - 1 < (cfgM m hO).N := by omega
  have e1 := acc_even1 m hO c ⟨t.val - 1, hP1⟩ (by dsimp only; omega) (by dsimp only; omega)
  have e2 := acc_even2 m hO c ⟨t.val - 1, hP1⟩ (by dsimp only; omega) (by dsimp only; omega)
  have e3 := out_odd m hO c t (by omega) h1
  dsimp only at e1 e2
  rw [e3, e1, e2, out_apply, acc1_apply, acc2_apply]
  unfold GR
  dsimp only
  rw [hte ((512 * (t.val / 2) + a.val) / 512) (by omega) _ (by omega)]
  rw [sum_two (fun k => XR m c (ix2 ⟨512 * (t.val / 2) + a.val, by omega⟩ k) * WA m c (ix3 ⟨te m (t.val / 2) (by omega), te_lt m _ _⟩ k b)) _ _ (fun k => ?_) (fun k => ?_),
    sum_two (fun k => XR m c (ix2 ⟨512 * (t.val / 2) + a.val, by omega⟩ k) * WB m c (ix3 ⟨te m (t.val / 2) (by omega), te_lt m _ _⟩ k b)) _ _ (fun k => ?_) (fun k => ?_)]
  · rw [blk0, blk2]
    dsimp only
    rw [hte ((t.val - 1) / 2) (by omega) _ (by omega)]
    congr 2 <;> congr 1 <;> apply Fin.ext <;> dsimp only <;> omega
  · rw [blk0, blk2]
    congr 2 <;> congr 1 <;> apply Fin.ext <;> dsimp only <;> omega
  · rw [blk0, blk1]
    dsimp only
    rw [hte ((t.val - 1) / 2) (by omega) _ (by omega)]
    congr 2 <;> congr 1 <;> apply Fin.ext <;> dsimp only <;> omega
  · rw [blk0, blk1]
    congr 2 <;> congr 1 <;> apply Fin.ext <;> dsimp only <;> omega

theorem flush3 (t : Fin (cfgM m hO).N) : ((cfgM m hO).win 3).flush t = true ↔ t.val % 2 = 1 :=
  flush0_3 (adm m hO) t

theorem flushed_eq (c : Dev nD) (t : Fin (cfgM m hO).N) (hf : ((cfgM m hO).win 3).flush t = true) :
    (dats m hO 0 c).flushed 3 t = (((cfgM m hO).win 3).blk t).view.read (Elt Ideal) (G m c) := by
  show ((cfgM m hO).win 3).cut (grid0.coords t) ((dats m hO 0 c).after 3 t) = _
  rw [after0_3]
  have h1 := (flush3 m hO t).mp hf
  have e := index3 m hO t
  funext (y : S512x1024.Idx)
  have hy : (((cfgM m hO).win 3).xinj (grid0.coords t) y : S512x1024.Idx) = ix2 (y 0) (y 1) := by
    funext x; match x with | ⟨0, _⟩ => rfl | ⟨1, _⟩ => rfl
  show (outsAt0 m hO c t.val t.isLt).1 (((cfgM m hO).win 3).xinj (grid0.coords t) y) = G m c ((((cfgM m hO).win 3).blk t).view.emb y)
  refine (congrArg (outsAt0 m hO c t.val t.isLt).1 hy).trans ?_
  refine (block_eq m hO c t h1 (y 0) (y 1)).trans ?_
  unfold G
  congr 1
  · apply Fin.ext
    show 512 * (t.val / 2) + (y 0).val = ((cfgM m hO).win 3).index t (0 : Fin 2) * 512 + 1 * (y 0).val
    rw [e]; show _ = t.val / 2 * 512 + 1 * (y 0).val; omega
  · apply Fin.ext
    show (y 1).val = ((cfgM m hO).win 3).index t (1 : Fin 2) * 1024 + 1 * (y 1).val
    rw [e]; show _ = 0 * 1024 + 1 * (y 1).val; omega

theorem mem3 (t : Fin (cfgM m hO).N) (i : S36864x1024.Idx) :
    i ∈ (((cfgM m hO).win 3).blk t).view.set ↔ ∀ a : Fin 2, ((cfgM m hO).win 3).index t a * S512x1024.size a ≤ (i a).val ∧ (i a).val < ((cfgM m hO).win 3).index t a * S512x1024.size a + S512x1024.size a := by
  have e : (((cfgM m hO).win 3).blk t).view.set = (((cfgM m hO).win 3).rect t).set := View.set_slice_whole _ _
  exact (iff_of_eq (congrArg (i ∈ ·) e)).trans Rect.mem_set_unit

theorem covered (i : S36864x1024.Idx) :
    ∃ t : Fin (cfgM m hO).N, ((cfgM m hO).win 3).flush t = true ∧ i ∈ (((cfgM m hO).win 3).blk t).view.set := by
  have hN := N144 m hO
  have h0 : (i 0).val < 36864 := (i 0).isLt
  have h1 : (i 1).val < 1024 := (i 1).isLt
  refine ⟨⟨2 * ((i 0).val / 512) + 1, by omega⟩, (flush3 m hO _).mpr (by dsimp only; omega), ?_⟩
  rw [mem3, index3]
  intro a
  match a with
  | ⟨0, _⟩ => show (2 * ((i 0).val / 512) + 1) / 2 * 512 ≤ (i 0).val ∧ (i 0).val < (2 * ((i 0).val / 512) + 1) / 2 * 512 + 512; omega
  | ⟨1, _⟩ => show 0 * 1024 ≤ (i 1).val ∧ (i 1).val < 0 * 1024 + 1024; omega

/-- The hidden rows after the run. -/
theorem final3 (c : Dev nD) : (dats m hO 0 c).arrAt 3 (cfgM m hO).N = G m c :=
  (dats m hO 0 c).arrAt_eq_of_cover 3 _ (fun t hf => flushed_eq m hO c t hf) (fun i => covered m hO i)

end Cert.KernelIdeal.Moe

end
-- ==== Proof.MoeTake.lean ====
module

public import proofs.«01_k».proof.Proof.RouteRead
public import proofs.«01_k».proof.Proof.RouteWord
public import Idealize.ShloMosaic.Lib.Pointwise.Index

@[expose] public section

set_option maxRecDepth 16384

noncomputable section

open Idealize.ShloMosaic Idealize.ShloMosaic.TcCoe Idealize.ShloMosaic.WordCmp

namespace Cert.KernelIdeal.Moe

open Cert.KernelIdeal Facts₀

theorem v1 {n : ℕ} (a : Fin n) : ValueIdx.ix1 a = ix1 a := by funext x; match x with | ⟨0, _⟩ => rfl
theorem v2 {n k : ℕ} (a : Fin n) (b : Fin k) : ValueIdx.ix2 a b = ix2 a b := by funext x; match x with | ⟨0, _⟩ => rfl | ⟨1, _⟩ => rfl
theorem v3 {n k l : ℕ} (a : Fin n) (b : Fin k) (c : Fin l) : ValueIdx.ix3 a b c = ix3 a b c := by
  funext x; match x with | ⟨0, _⟩ => rfl | ⟨1, _⟩ => rfl | ⟨2, _⟩ => rfl

/-- A sorted row is the token's row the route gives it. -/
theorem rowsT_ap {α : Type} (fl : IVec S32768 32) (h : S16384x4096.Idx → α) (r : Fin 36864) (t : Fin 16384) (k : Fin 4096)
    (e : srcT fl (ValueIdx.ix1 r) = BitVec.ofNat 32 t.val) : rowsT fl h (ix2 r k) = h (ix2 t k) := by
  rw [← v2, ← v2]
  unfold rowsT
  refine Routing.gather_row _ rfl rfl rfl rfl rfl h _ r k t ?_ (by decide)
  refine (Routing.bcCol ..).trans ?_
  exact wrap_ap _ _ _ _ e (by have := t.isLt; omega)

/-- A token's row is the product's row at its destination. -/
theorem backT_ap {α : Type} (o : S36864x1024.Idx → α) (d : IVec S16384x2 32) (t : Fin 16384) (s : Fin 2) (f : Fin 1024) (r : Fin 36864)
    (e : d (ValueIdx.ix2 t s) = BitVec.ofNat 32 r.val) : backT o d (ix3 t s f) = o (ix2 r f) := by
  have hr := r.isLt
  unfold backT Host.gather
  refine congrArg o (funext fun x => Fin.ext ?_)
  generalize hw : (broadcastInDim S16384x2x1 ![0, 1] bcast_S16384x2_S16384x2x1_0_1 (wrap bcast_S_S16384x2 36864#32 d)) = idx
  have hi : idx (ix3 t s (0 : Fin 1)) = BitVec.ofNat 32 r.val := by
    rw [← hw]
    refine Eq.trans ?_ (wrap_ap bcast_S_S16384x2 36864#32 d (ValueIdx.ix2 t s) e (by omega))
    unfold broadcastInDim
    refine congrArg _ (funext fun x => Fin.ext ?_)
    match x with
    | ⟨0, _⟩ => rfl
    | ⟨1, _⟩ => rfl
  have hs : ∀ q, gather_S36864x1024_S16384x2x1_S16384x2x1024_2_0_n_n_0_2_11024.siIdx (ix3 t s f) q = ix3 t s (0 : Fin 1) := fun q => by
    funext x
    apply Fin.ext
    match x with
    | ⟨0, _⟩ => rfl
    | ⟨1, _⟩ => rfl
    | ⟨2, _⟩ => exact Nat.lt_one_iff.mp (Fin.isLt _)
  match x with
  | ⟨0, _⟩ =>
    show GatherDims.start gather_S36864x1024_S16384x2x1_S16384x2x1024_2_0_n_n_0_2_11024 (ix3 t s f) idx 0 + 0 + 0 = r.val
    unfold GatherDims.start
    rw [dif_pos (show (0 : Fin S36864x1024.rank) ∈ gather_S36864x1024_S16384x2x1_S16384x2x1024_2_0_n_n_0_2_11024.startIndexMap from List.mem_singleton.2 rfl), hs, hi, StableHlo.Predicate.toInt_ofNat_small _ (by omega)]
    show min ((r.val : Int)).toNat (36864 - 1) + 0 + 0 = r.val
    omega
  | ⟨1, _⟩ =>
    show GatherDims.start gather_S36864x1024_S16384x2x1_S16384x2x1024_2_0_n_n_0_2_11024 (ix3 t s f) idx 1 + 0 + f.val = f.val
    rw [show GatherDims.start gather_S36864x1024_S16384x2x1_S16384x2x1024_2_0_n_n_0_2_11024 (ix3 t s f) idx 1 = 0 from rfl]
    omega

/-- Every chosen expert's number is below eight. -/
theorem topK_small {α : Type} (gt : α → α → BitVec 1) (x : S16384x8.Idx → α) (t : Fin 16384) (s : Fin 2) :
    ∃ a : ℕ, a < 8 ∧ (Host.topK S16384x2 1 gt x sliceFits_S16384x8_S16384x2).2 (ix2 t s) = BitVec.ofNat 32 a := by
  have key : ∀ i : S16384x8.Idx, ∃ z : Fin 8, (Host.sort2 S16384x8 1 (fun l r : α × BitVec 32 => gt l.1 r.1) x
      (fun i => if hd : 1 < S16384x8.rank then iotaInDim S16384x8 32 ⟨1, hd⟩ i else 0#32)).2 i = BitVec.ofNat 32 z.val := fun i => by
    unfold Host.sort2
    rw [dif_pos (by decide)]
    dsimp only
    exact ⟨_, rfl⟩
  have key2 : ∀ i : S16384x2.Idx, ∃ z : Fin 8, (Host.topK S16384x2 1 gt x sliceFits_S16384x8_S16384x2).2 i = BitVec.ofNat 32 z.val := fun i => key _
  obtain ⟨z, hz⟩ := key2 (ix2 t s)
  exact ⟨z.val, z.isLt, hz⟩

/-- A matrix of the stacked weights, by layer and expert. -/
theorem w_ap {α : Type} (w : S2x8x4096x1024.Idx → α) (e : ℕ) (he : e < 8) (k : Fin 4096) (f : Fin 1024) :
    shapeCast S16x4096x1024 w shapeCasts_S2x8x4096x1024_S16x4096x1024 (ix3 ⟨e + 8, by omega⟩ k f) = w (ix4 1 ⟨e, he⟩ k f) := by
  refine shapeCast_apply w _ _ _ ?_
  rw [Shape.rowMajor_val_four, Shape.rowMajor_val_three]
  show ((1 * 8 + e) * 4096 + k.val) * 1024 + f.val = ((e + 8) * 4096 + k.val) * 1024 + f.val
  omega

end Cert.KernelIdeal.Moe

end
-- ==== Proof.RefRun.lean ====
module

public import proofs.«01_k».proof.Proof.Gen.ReferenceIdeal
public import Idealize.ShloMosaic.Lib.StableHlo.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The operations of the reference in order, a called function's in its call's place. -/
abbrev ops : List (HloOp τ sig (Elt F)) :=
  [ unary main_arg2 main_v0 ((extractStridedSlice S1x8x4096x1024 ![1, 0, 0, 0] · slices_S2x8x4096x1024_S1x8x4096x1024_1_0_0_0) : (⟨S2x8x4096x1024, .f32⟩ : BufTy).Contents (Elt F) → (⟨S1x8x4096x1024, .f32⟩ : BufTy).Contents (Elt F)),
    reshape main_v0 main_v1 (rfl : (.f32 : EltTy) = .f32) shapeCasts_S1x8x4096x1024_S8x4096x1024,
    unary main_arg3 main_v2 ((extractStridedSlice S1x8x4096x1024 ![1, 0, 0, 0] · slices_S2x8x4096x1024_S1x8x4096x1024_1_0_0_0) : (⟨S2x8x4096x1024, .f32⟩ : BufTy).Contents (Elt F) → (⟨S1x8x4096x1024, .f32⟩ : BufTy).Contents (Elt F)),
    reshape main_v2 main_v3 (rfl : (.f32 : EltTy) = .f32) shapeCasts_S1x8x4096x1024_S8x4096x1024,
    unary main_arg1 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    unary main_arg1 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)),
    binary main_arg0 main_v1 main_v4 ((fun l r => Host.dotGeneral dot_S16384x4096_S8x4096x1024_S16384x8x1024_1_1_0_02_n_n none l r) : (⟨S16384x4096, .f32⟩ : BufTy).Contents (Elt F) → (⟨S8x4096x1024, .f32⟩ : BufTy).Contents (Elt F) → (⟨S16384x8x1024, .f32⟩ : BufTy).Contents (Elt F)),
    TRef.unary (TRef.of (T := ⟨S16384x8x1024, .f32⟩) main_v4) (TRef.of (T := ⟨S16384x8x1024, .f32⟩) main_call0_v0) Host.negf,
    TRef.unary (TRef.of (T := ⟨S16384x8x1024, .f32⟩) main_call0_v0) (TRef.of (T := ⟨S16384x8x1024, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x8x1024, .f32⟩) main_call0_v2) (broadcastInDim S16384x8x1024 ![] bcast_S_S16384x8x1024),
    TRef.binary (TRef.of (T := ⟨S16384x8x1024, .f32⟩) main_call0_v2) (TRef.of (T := ⟨S16384x8x1024, .f32⟩) main_call0_v1) (TRef.of (T := ⟨S16384x8x1024, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x8x1024, .f32⟩) main_call0_v4) (broadcastInDim S16384x8x1024 ![] bcast_S_S16384x8x1024),
    TRef.binary (TRef.of (T := ⟨S16384x8x1024, .f32⟩) main_call0_v4) (TRef.of (T := ⟨S16384x8x1024, .f32⟩) main_call0_v3) (TRef.of (T := ⟨S16384x8x1024, .f32⟩) main_call0_v5) Host.divf,
    TRef.binary (TRef.of (T := ⟨S16384x8x1024, .f32⟩) main_v4) (TRef.of (T := ⟨S16384x8x1024, .f32⟩) main_call0_v5) (TRef.of (T := ⟨S16384x8x1024, .f32⟩) main_v5) mulf,
    binary main_arg0 main_v3 main_v6 ((fun l r => Host.dotGeneral dot_S16384x4096_S8x4096x1024_S16384x8x1024_1_1_0_02_n_n none l r) : (⟨S16384x4096, .f32⟩ : BufTy).Contents (Elt F) → (⟨S8x4096x1024, .f32⟩ : BufTy).Contents (Elt F) → (⟨S16384x8x1024, .f32⟩ : BufTy).Contents (Elt F)),
    binary main_v5 main_v6 main_v7 (mulf : (⟨S16384x8x1024, .f32⟩ : BufTy).Contents (Elt F) → (⟨S16384x8x1024, .f32⟩ : BufTy).Contents (Elt F) → (⟨S16384x8x1024, .f32⟩ : BufTy).Contents (Elt F)),
    TRef.unary (TRef.of (T := ⟨S16384x2, .i32⟩) main_indices) (TRef.of (T := ⟨S16384x2x1, .i32⟩) main_call1_v0) (broadcastInDim S16384x2x1 ![0, 1] bcast_S16384x2_S16384x2x1_0_1),
    TRef.nullary (TRef.of (T := ⟨S1x1x8, .i32⟩) main_call1_v1) (iotaInDim S1x1x8 32 2),
    TRef.unary (TRef.of (T := ⟨S16384x2x1, .i32⟩) main_call1_v0) (TRef.of (T := ⟨S16384x2x8, .i32⟩) main_call1_v2) (broadcastInDim S16384x2x8 ![0, 1, 2] bcast_S16384x2x1_S16384x2x8_0_1_2),
    TRef.unary (TRef.of (T := ⟨S1x1x8, .i32⟩) main_call1_v1) (TRef.of (T := ⟨S16384x2x8, .i32⟩) main_call1_v3) (broadcastInDim S16384x2x8 ![0, 1, 2] bcast_S1x1x8_S16384x2x8_0_1_2),
    TRef.binary (TRef.of (T := ⟨S16384x2x8, .i32⟩) main_call1_v2) (TRef.of (T := ⟨S16384x2x8, .i32⟩) main_call1_v3) (TRef.of (T := ⟨S16384x2x8, .i1⟩) main_call1_v4) (cmpi .eq),
    TRef.unary (TRef.of (T := ⟨S16384x2x8, .i1⟩) main_call1_v4) (TRef.of (T := ⟨S16384x2x8, .f32⟩) main_v8) (uitofp .f32),
    binary main_v8 main_v7 main_v9 ((fun l r => Host.dotGeneral dot_S16384x2x8_S16384x8x1024_S16384x2x1024_2_1_1_2_0_0 none l r) : (⟨S16384x2x8, .f32⟩ : BufTy).Contents (Elt F) → (⟨S16384x8x1024, .f32⟩ : BufTy).Contents (Elt F) → (⟨S16384x2x1024, .f32⟩ : BufTy).Contents (Elt F)),
    unary main_v9 main_v10 ((truncf .bf16 · bitsLt_bf16_f32) : (⟨S16384x2x1024, .f32⟩ : BufTy).Contents (Elt F) → (⟨S16384x2x1024, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., nullary_bufs_sub .., unary_bufs_sub .., unary_bufs_sub .., binary_bufs_sub .., unary_bufs_sub .., binary_bufs_sub .., unary_bufs_sub ..⟩

/-- The weights of the layer taken. -/
def lay (w : FVec F S2x8x4096x1024 .f32) : FVec F S8x4096x1024 .f32 :=
  shapeCast S8x4096x1024 (extractStridedSlice S1x8x4096x1024 ![1, 0, 0, 0] w slices_S2x8x4096x1024_S1x8x4096x1024_1_0_0_0) shapeCasts_S1x8x4096x1024_S8x4096x1024

/-- Every token through every expert's matrix. -/
def all (h : FVec F S16384x4096 .f32) (w : FVec F S2x8x4096x1024 .f32) : FVec F S16384x8x1024 .f32 :=
  Host.dotGeneral dot_S16384x4096_S8x4096x1024_S16384x8x1024_1_1_0_02_n_n none h (lay w)

def silu (a : FVec F S16384x8x1024 .f32) : FVec F S16384x8x1024 .f32 :=
  mulf a (Host.divf (broadcastInDim S16384x8x1024 ![] bcast_S_S16384x8x1024 (constant S_ .f32 0x3F800000#32))
    (addf (broadcastInDim S16384x8x1024 ![] bcast_S_S16384x8x1024 (constant S_ .f32 0x3F800000#32)) (Host.exp (Host.negf a))))

/-- The chosen experts' numbers. -/
def pick (l : FVec F S16384x8 .f32) : IVec S16384x2 32 :=
  (Host.topK S16384x2 1 (FloatOps.cmpfTotal (F := F) (φ := .f32) .gt) l sliceFits_S16384x8_S16384x2).2

def oneHot (p : IVec S16384x2 32) : FVec F S16384x2x8 .f32 :=
  uitofp .f32 (cmpi .eq (broadcastInDim S16384x2x8 ![0, 1, 2] bcast_S16384x2x1_S16384x2x8_0_1_2 (broadcastInDim S16384x2x1 ![0, 1] bcast_S16384x2_S16384x2x1_0_1 p))
    (broadcastInDim S16384x2x8 ![0, 1, 2] bcast_S1x1x8_S16384x2x8_0_1_2 (iotaInDim S1x1x8 32 2)))

def out (h : FVec F S16384x4096 .f32) (l : FVec F S16384x8 .f32) (w u : FVec F S2x8x4096x1024 .f32) : FVec F S16384x2x1024 .bf16 :=
  truncf .bf16 (Host.dotGeneral dot_S16384x2x8_S16384x8x1024_S16384x2x1024_2_1_1_2_0_0 none (oneHot (F := F) (pick l)) (mulf (silu (all h w)) (all h u))) bitsLt_bf16_f32

set_option maxHeartbeats 1700000 in
/-- The reference's run: its result, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (by unfold out oneHot pick silu all lay; simp only [ops, TRef.binary, TRef.nullary, TRef.unary, TRef.toBuf, TRef.ofBuf, cast_eq]; after_results <;> rfl),
      (h c main_arg0).trans (by simp only [ops, TRef.binary, TRef.nullary, TRef.unary, TRef.toBuf, TRef.ofBuf, cast_eq]; after_results <;> rfl),
      (h c main_arg1).trans (by simp only [ops, TRef.binary, TRef.nullary, TRef.unary, TRef.toBuf, TRef.ofBuf, cast_eq]; after_results <;> rfl),
      (h c main_arg2).trans (by simp only [ops, TRef.binary, TRef.nullary, TRef.unary, TRef.toBuf, TRef.ofBuf, cast_eq]; after_results <;> rfl),
      (h c main_arg3).trans (by simp only [ops, TRef.binary, TRef.nullary, TRef.unary, TRef.toBuf, TRef.ofBuf, cast_eq]; after_results <;> rfl)⟩)
    (run_seq scopedRefs_eq scopedSems_eq defs main (fun _ => ops) main_eq (fun _ => ops_sub) m ρ)

end Cert.ReferenceIdeal.Value

end
-- ==== Proof.RefVal.lean ====
module

public import proofs.«01_k».proof.Proof.RefRun
public import proofs.«01_k».proof.Proof.Sigmoid
public import Idealize.ShloMosaic.Lib.Pointwise
public import Idealize.ShloMosaic.Lib.WordCmp
public import Idealize.ShloMosaic.Lib.Tactic
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe

theorem all_apply (h : FVec Ideal S16384x4096 .f32) (w : FVec Ideal S2x8x4096x1024 .f32) (t : Fin 16384) (e : Fin 8) (f : Fin 1024) :
    (all h w (ix3 t e f) : EReal) = ∑ k : Fin 4096, (h (ix2 t k) : EReal) * w (ix4 1 e k f) := by
  unfold all lay
  pointwise

theorem silu_apply (a : FVec Ideal S16384x8x1024 .f32) (t : Fin 16384) (e : Fin 8) (f : Fin 1024) :
    (silu a (ix3 t e f) : EReal) = (a (ix3 t e f) : EReal) * Cert.Sigmoid.logistic (a (ix3 t e f)) := by
  unfold silu Cert.Sigmoid.logistic
  pointwise

theorem out_sum (h : FVec Ideal S16384x4096 .f32) (l : FVec Ideal S16384x8 .f32) (w u : FVec Ideal S2x8x4096x1024 .f32)
    (t : Fin 16384) (s : Fin 2) (f : Fin 1024) :
    (out h l w u (ix3 t s f) : EReal)
      = ∑ e : Fin 8, (oneHot (F := Ideal) (pick l) (ix3 t s e) : EReal) * ((silu (all h w) (ix3 t e f) : EReal) * all h u (ix3 t e f)) := by
  unfold out
  generalize oneHot (F := Ideal) (pick l) = o
  generalize all h u = b
  generalize silu (all h w) = a
  pointwise

theorem oneHot_apply (p : IVec S16384x2 32) (t : Fin 16384) (s : Fin 2) (e : Fin 8) (a : ℕ) (ha : a < 8) (hp : p (ix2 t s) = BitVec.ofNat 32 a) :
    (oneHot (F := Ideal) p (ix3 t s e) : EReal) = if e.val = a then 1 else 0 := by
  unfold oneHot
  pointwise
  rw [hp]
  have h8 := e.isLt
  by_cases h : e.val = a
  · subst h
    rw [if_pos rfl]
    have hc : IntOp.cmpi CmpIPredicate.eq (BitVec.ofNat 32 e.val) (BitVec.ofNat 32 e.val) = 1#1 := (WordCmp.cmpi_eq_ofNat_eq_one_iff (w := 32) (by omega) (by omega)).mpr rfl
    rw [hc]
    show (((1#1 : BitVec 1).toNat : ℝ) : EReal) = 1
    simp
  · rw [if_neg h]
    have hc : ¬ IntOp.cmpi CmpIPredicate.eq (BitVec.ofNat 32 a) (BitVec.ofNat 32 e.val) = 1#1 := fun q =>
      h ((WordCmp.cmpi_eq_ofNat_eq_one_iff (w := 32) (by omega) (by omega)).mp q).symm
    generalize IntOp.cmpi CmpIPredicate.eq (BitVec.ofNat 32 a) (BitVec.ofNat 32 e.val) = q at hc
    have hq : q = 0#1 := by revert hc; revert q; decide
    rw [hq]
    show (((0#1 : BitVec 1).toNat : ℝ) : EReal) = 0
    simp

/-- The reference at an element: the chosen expert's hidden row. -/
theorem out_apply (h : FVec Ideal S16384x4096 .f32) (l : FVec Ideal S16384x8 .f32) (w u : FVec Ideal S2x8x4096x1024 .f32)
    (t : Fin 16384) (s : Fin 2) (f : Fin 1024) (a : ℕ) (ha : a < 8) (hp : pick (F := Ideal) l (ix2 t s) = BitVec.ofNat 32 a) :
    (out h l w u (ix3 t s f) : EReal)
      = (∑ k : Fin 4096, (h (ix2 t k) : EReal) * w (ix4 1 ⟨a, ha⟩ k f)) * Cert.Sigmoid.logistic (∑ k : Fin 4096, (h (ix2 t k) : EReal) * w (ix4 1 ⟨a, ha⟩ k f))
        * ∑ k : Fin 4096, (h (ix2 t k) : EReal) * u (ix4 1 ⟨a, ha⟩ k f) := by
  rw [out_sum, Finset.sum_eq_single (⟨a, ha⟩ : Fin 8)]
  · rw [oneHot_apply _ t s ⟨a, ha⟩ a ha hp, if_pos rfl, one_mul, silu_apply, all_apply, all_apply]
  · intro e _ he
    rw [oneHot_apply _ t s e a ha hp, if_neg (fun q => he (Fin.ext q)), zero_mul]
  · exact fun q => absurd (Finset.mem_univ _) q

end Cert.ReferenceIdeal.Value

end
-- ==== Proof.MoeAlg.lean ====
module

public import proofs.«01_k».proof.Defs
public import proofs.«01_k».proof.Proof.MoeVal
public import proofs.«01_k».proof.Proof.MoeTake
public import proofs.«01_k».proof.Proof.RefVal

@[expose] public section

set_option maxRecDepth 16384
set_option maxHeartbeats 1000000

noncomputable section

open Idealize.ShloMosaic Idealize.ShloMosaic.TcCoe Idealize.SL.Sem

namespace Cert.KernelIdeal.Moe

open Cert.KernelIdeal Cert.KernelIdeal.Gen

abbrev H0 (m : (ℓ : Loc nD τ sig) → Buf (Elt Ideal) ℓ) (c : Dev nD) : FVec Ideal S16384x4096 .f32 := m ((c : Thread nD τ).loc main_arg0)
abbrev L1 (m : (ℓ : Loc nD τ sig) → Buf (Elt Ideal) ℓ) (c : Dev nD) : FVec Ideal S16384x8 .f32 := m ((c : Thread nD τ).loc main_arg1)
abbrev W2 (m : (ℓ : Loc nD τ sig) → Buf (Elt Ideal) ℓ) (c : Dev nD) : FVec Ideal S2x8x4096x1024 .f32 := m ((c : Thread nD τ).loc main_arg2)
abbrev W3 (m : (ℓ : Loc nD τ sig) → Buf (Elt Ideal) ℓ) (c : Dev nD) : FVec Ideal S2x8x4096x1024 .f32 := m ((c : Thread nD τ).loc main_arg3)

variable (m : (ℓ : Loc nD τ sig) → Buf (Elt Ideal) ℓ)

/-- The chosen experts are the reference's. -/
abbrev top (c : Dev nD) : IVec S16384x2 32 := Cert.ReferenceIdeal.Value.pick (F := Ideal) (L1 m c)

theorem top_small (c : Dev nD) (t : Fin 16384) (s : Fin 2) : ∃ a : ℕ, a < 8 ∧ top m c (ix2 t s) = BitVec.ofNat 32 a :=
  topK_small (FloatOps.cmpfTotal (F := Ideal) (φ := .f32) .gt) (L1 m c) t s

theorem fl_top (c : Dev nD) (t : Fin 16384) (s : Fin 2) (p : Fin 32768) (hp : p.val = t.val * 2 + s.val) :
    fl m c (ValueIdx.ix1 p) = top m c (ix2 t s) := by
  rw [← v2]
  exact Routing.cast21 (top m c) shapeCasts_S16384x2_S32768 t s p hp

/-- The program's result. -/
def res (c : Dev nD) : S16384x2x1024.Idx → EReal := backT (G m c) (V m c main_v128)

theorem res_apply (t : Fin 16384) (s : Fin 2) (f : Fin 1024) :
    res m 0 (ix3 t s f) = (Cert.ReferenceIdeal.Value.out (H0 m 0) (L1 m 0) (W2 m 0) (W3 m 0) (ix3 t s f) : EReal) := by
  classical
  have hall : ∀ p : Fin 32768, ∃ a : ℕ, a < 8 ∧ fl m 0 (ValueIdx.ix1 p) = BitVec.ofNat 32 a := fun p => by
    have hp := p.isLt
    rw [fl_top m 0 ⟨p.val / 2, by omega⟩ ⟨p.val % 2, by omega⟩ p (by dsimp only; omega)]
    exact top_small m 0 _ _
  choose b hb hfb using hall
  let a : ℕ → ℕ := fun p => if h : p < 32768 then b ⟨p, h⟩ else 0
  have ha : ∀ p, a p < 8 := fun p => by
    show (if h : p < 32768 then b ⟨p, h⟩ else 0) < 8
    split
    · exact hb _
    · omega
  have hfl : ∀ p : Fin 32768, fl m 0 (ValueIdx.ix1 p) = BitVec.ofNat 32 (a p.val) := fun p => by
    rw [show a p.val = b p from dif_pos p.isLt]
    exact hfb p
  obtain ⟨r, h1, h2, h3⟩ := route (fl m 0) a ha hfl t s
  clear_value a
  have ht := t.isLt
  have hs := s.isLt
  have he : top m 0 (ix2 t s) = BitVec.ofNat 32 (a (2 * t.val + s.val)) := by
    rw [← fl_top m 0 t s ⟨2 * t.val + s.val, by omega⟩ (by dsimp only; omega)]
    exact hfl _
  have hae := ha (2 * t.val + s.val)
  generalize a (2 * t.val + s.val) = e at he h3 hae
  rw [Cert.ReferenceIdeal.Value.out_apply _ _ _ _ t s f e hae he]
  unfold res
  rw [backT_ap (G m 0) (V m 0 main_v128) t s f r (by rw [V_dest]; exact h1)]
  show GR m 0 r f = _
  have hte : te m (r.val / 512) (by have := r.isLt; omega) = e + 8 := by
    unfold te
    rw [tbl_eq, h3, BitVec.toNat_ofNat]
    omega
  have hX : ∀ k, XR m 0 (ix2 r k) = H0 m 0 (ix2 t k) := fun k => by
    unfold XR
    rw [V_rows, rowsT_ap _ _ r t k h2]
    rfl
  have hf : (⟨te m (r.val / 512) (by have := r.isLt; omega), te_lt m _ _⟩ : Fin 16) = ⟨e + 8, by omega⟩ := Fin.ext hte
  have hA : ∀ k, WA m 0 (ix3 ⟨e + 8, by omega⟩ k f) = W2 m 0 (ix4 1 ⟨e, hae⟩ k f) := fun k => by
    unfold WA
    rw [V_w1, w_ap _ e hae k f]
    rfl
  have hB : ∀ k, WB m 0 (ix3 ⟨e + 8, by omega⟩ k f) = W3 m 0 (ix4 1 ⟨e, hae⟩ k f) := fun k => by
    unfold WB
    rw [V_w3, w_ap _ e hae k f]
    rfl
  unfold GR
  rw [hf]
  simp only [hX, hA, hB]

/-- The kernel's run leaves its result and keeps its arguments. -/
theorem run_res (ρ : Dev nD → PrngReg) : θ_run defs (onTc (τ := τ) (main (F := Ideal))) ⟨m, fun _ => 0, ρ⟩ fun r => ∀ c : Dev nD,
    r.2.mem ((c : Thread nD τ).loc main_v145) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h1 : θ_run defs (onTc (τ := τ) (main (F := Ideal))) ⟨m, fun _ => 0, ρ⟩ fun r => ∀ c : Dev nD, r.2.mem ((c : Thread nD τ).loc main_v145) = res m c :=
    (θ_run defs _ _).mono (fun r h c => ((h c).2 main_v145 (by decide : main_v145 ∈ Pipeline.restRefs sig spec0)).trans (by rw [tail_out, final3]; rfl)) (run_main m ρ (ok m))
  exact (θ_run defs _ _).mono (fun r h c => ⟨h.1 c, h.2.1 c⟩) (θ_run_and h1 (frame m ρ (ok m)))

theorem frame_ideal : Cert.quiescent_KernelIdeal := fun m ρ _ => frame (F := Ideal) m ρ (ok m)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The value claim. -/
theorem alg : Cert.algebraic_KernelIdeal_ReferenceIdeal := fun m ρ m' ρ' _ hag =>
  ⟨fun c => res m c, run_res m ρ,
    (θ_run _ _ _).mono (fun _ h c => ⟨(h c).1.trans (by
      obtain ⟨e0, e1, e2, e3⟩ := hag c
      obtain rfl : c = 0 := Subsingleton.elim _ _
      funext i
      idx_vars i
      refine Eq.trans ?_ (res_apply m i0 i1 i2).symm
      rw [e0, e1, e2, e3]), (h c).2⟩) (Cert.ReferenceIdeal.Value.run m' ρ')⟩

end Cert.KernelIdeal.Moe

end
-- ==== Proof.KFrame.lean ====
module

public import proofs.«01_k».proof.Proof.KMoeOk
public import proofs.«01_k».proof.Proof.KMoeFrame

@[expose] public section

set_option maxRecDepth 16384

noncomputable section

open Idealize.ShloMosaic Idealize.ShloMosaic.TcCoe

namespace Cert.Kernel.Moe

theorem frame_kernel : Cert.quiescent_Kernel := fun m ρ _ => frame (F := Bits) m ρ (ok m)

end Cert.Kernel.Moe

end
-- ==== Proof.lean ====
module

public import proofs.«01_k».proof.Defs
public import proofs.«01_k».proof.Proof.DMoeAlg
public import proofs.«01_k».proof.Proof.KDFrame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Val8
public import proofs.«01_k».proof.Proof.Val2
public import proofs.«01_k».proof.Proof.Val3
public import proofs.«01_k».proof.Proof.Val4
public import proofs.«01_k».proof.Proof.Val5
public import proofs.«01_k».proof.Proof.Val6
public import proofs.«01_k».proof.Proof.Val7
public import proofs.«01_k».proof.Proof.MoeAlg
public import proofs.«01_k».proof.Proof.KFrame
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel.Moe.frame_kernel, Cert.KernelIdeal.Moe.frame_ideal, Cert.KernelIdeal.Moe.frame_reference,
  fun m ρ _ => Cert.Kernel2.Gen.frame m ρ, fun m ρ _ => Cert.Kernel2Ideal.Gen.frame m ρ, fun m ρ _ => (θ_run Cert.Reference2Ideal.defs _ _).mono (fun r h => ⟨fun c => (h c).2, Idealize.ShloMosaic.sem_eq_zero_of_no_sems (by decide) r.2⟩) (Cert.Reference2Ideal.Value.run (F := Ideal) m ρ),
  fun m ρ _ => Cert.Kernel3.Gen.frame m ρ, fun m ρ _ => Cert.Kernel3Ideal.Gen.frame m ρ, fun m ρ _ => (θ_run Cert.Reference3Ideal.defs _ _).mono (fun r h => ⟨fun c => (h c).2, Idealize.ShloMosaic.sem_eq_zero_of_no_sems (by decide) r.2⟩) (Cert.Reference3Ideal.Value.run (F := Ideal) m ρ),
  fun m ρ _ => Cert.Kernel4.Gen.frame m ρ, fun m ρ _ => Cert.Kernel4Ideal.Gen.frame m ρ, fun m ρ _ => (θ_run Cert.Reference4Ideal.defs _ _).mono (fun r h => ⟨fun c => (h c).2, Idealize.ShloMosaic.sem_eq_zero_of_no_sems (by decide) r.2⟩) (Cert.Reference4Ideal.Value.run (F := Ideal) m ρ),
  fun m ρ _ => Cert.Kernel5.Gen.frame m ρ, fun m ρ _ => Cert.Kernel5Ideal.Gen.frame m ρ, fun m ρ _ => (θ_run Cert.Reference5Ideal.defs _ _).mono (fun r h => ⟨fun c => (h c).2, Idealize.ShloMosaic.sem_eq_zero_of_no_sems (by decide) r.2⟩) (Cert.Reference5Ideal.Value.run (F := Ideal) m ρ),
  fun m ρ _ => Cert.Kernel6.Gen.frame m ρ, fun m ρ _ => Cert.Kernel6Ideal.Gen.frame m ρ, fun m ρ _ => (θ_run Cert.Reference6Ideal.defs _ _).mono (fun r h => ⟨fun c => (h c).2, Idealize.ShloMosaic.sem_eq_zero_of_no_sems (by decide) r.2⟩) (Cert.Reference6Ideal.Value.run (F := Ideal) m ρ),
  fun m ρ _ => Cert.Kernel7.Gen.frame m ρ, fun m ρ _ => Cert.Kernel7Ideal.Gen.frame m ρ, fun m ρ _ => (θ_run Cert.Reference7Ideal.defs _ _).mono (fun r h => ⟨fun c => (h c).2, Idealize.ShloMosaic.sem_eq_zero_of_no_sems (by decide) r.2⟩) (Cert.Reference7Ideal.Value.run (F := Ideal) m ρ),
  fun m ρ _ => Cert.Kernel8.Gen.frame m ρ, fun m ρ _ => Cert.Kernel8Ideal.Gen.frame m ρ, fun m ρ _ => (θ_run Cert.Reference8Ideal.defs _ _).mono (fun r h => ⟨fun c => (h c).2, Idealize.ShloMosaic.sem_eq_zero_of_no_sems (by decide) r.2⟩) (Cert.Reference8Ideal.Value.run (F := Ideal) m ρ),
  Cert.Kernel9.Moe.frame_kernel, Cert.Kernel9Ideal.Moe.frame_ideal, Cert.Kernel9Ideal.Moe.frame_reference,
  trivial, Cert.KernelIdeal.Moe.alg,
  trivial, Cert.Kernel2Ideal.Val.alg,
  trivial, Cert.Kernel3Ideal.Val.alg,
  trivial, Cert.Kernel4Ideal.Val.alg,
  trivial, Cert.Kernel5Ideal.Val.alg,
  trivial, Cert.Kernel6Ideal.Val.alg,
  trivial, Cert.Kernel7Ideal.Val.alg,
  trivial, Cert.Kernel8Ideal.Val.alg,
  trivial, Cert.Kernel9Ideal.Moe.alg⟩

end Cert.Proof

end
